-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v61) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v39) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4x2x2048x512 : Shape := ⟨4, ![4, 2, 2048, 512]⟩
abbrev S4x2x2048x128 : Shape := ⟨4, ![4, 2, 2048, 128]⟩
abbrev S8192x2048 : Shape := ⟨2, ![8192, 2048]⟩
abbrev S2048x8192 : Shape := ⟨2, ![2048, 8192]⟩
abbrev S_ : Shape := ⟨0, ![]⟩

class Facts : Prop where
  bitsLt_bf16_f32 : FTy.bits .bf16 < FTy.bits .f32
  bcast_S_S4x2x2048x512 : S_.BroadcastsInDim S4x2x2048x512 (![] : Fin 0 → Fin S4x2x2048x512.rank)
  bcast_S_S4x2x2048x128 : S_.BroadcastsInDim S4x2x2048x128 (![] : Fin 0 → Fin S4x2x2048x128.rank)

variable [Facts]

def fn {F : FTy → Type} [FloatOps F] (main_arg0 : FVec F S4x2x2048x512 .bf16) (main_arg1 : FVec F S4x2x2048x128 .bf16) (main_arg2 : FVec F S4x2x2048x128 .bf16) (main_arg3 : FVec F S8192x2048 .f32) (main_arg4 : FVec F S2048x8192 .f32) : IVec S4x2x2048x512 1 × IVec S4x2x2048x128 1 :=
  let main_v0 : FVec F S4x2x2048x512 .f32 := (extf .f32 · bitsLt_bf16_f32) main_arg0
  let main_v1 : FVec F S4x2x2048x512 .f32 := Host.absf main_v0
  let main_cst : FVec F S_ .f32 := constant S_ .f32 0x7F800000#32
  let main_v2 : FVec F S4x2x2048x512 .f32 := broadcastInDim S4x2x2048x512 ![] bcast_S_S4x2x2048x512 main_cst
  let main_v3 : IVec S4x2x2048x512 1 := cmpf .olt main_v1 main_v2
  let main_v4 : FVec F S4x2x2048x128 .f32 := (extf .f32 · bitsLt_bf16_f32) main_arg1
  let main_v5 : FVec F S4x2x2048x128 .f32 := Host.absf main_v4
  let main_cst_0 : FVec F S_ .f32 := constant S_ .f32 0x7F800000#32
  let main_v6 : FVec F S4x2x2048x128 .f32 := broadcastInDim S4x2x2048x128 ![] bcast_S_S4x2x2048x128 main_cst_0
  let main_v7 : IVec S4x2x2048x128 1 := cmpf .olt main_v5 main_v6
  (main_v3, main_v7)
-- ==== Pre_finite4.lean ====
abbrev S4x2x2048x1024 : Shape := ⟨4, ![4, 2, 2048, 1024]⟩
abbrev S4x2x2048x512 : Shape := ⟨4, ![4, 2, 2048, 512]⟩
abbrev S2048x2048 : Shape := ⟨2, ![2048, 2048]⟩
abbrev S4x2048 : Shape := ⟨2, ![4, 2048]⟩
abbrev S2048x12288 : Shape := ⟨2, ![2048, 12288]⟩
abbrev S1x12288 : Shape := ⟨2, ![1, 12288]⟩
abbrev S_ : Shape := ⟨0, ![]⟩

class Facts : Prop where
  bitsLt_bf16_f32 : FTy.bits .bf16 < FTy.bits .f32
  bcast_S_S4x2x2048x1024 : S_.BroadcastsInDim S4x2x2048x1024 (![] : Fin 0 → Fin S4x2x2048x1024.rank)

variable [Facts]

def fn {F : FTy → Type} [FloatOps F] (main_arg0 : FVec F S4x2x2048x1024 .bf16) (main_arg1 : FVec F S4x2x2048x1024 .bf16) (main_arg2 : FVec F S4x2x2048x512 .bf16) (main_arg3 : FVec F S2048x2048 .f32) (main_arg4 : FVec F S4x2048 .f32) (main_arg5 : FVec F S2048x12288 .f32) (main_arg6 : FVec F S1x12288 .f32) : IVec S4x2x2048x1024 1 × IVec S4x2x2048x1024 1 :=
  let main_v0 : FVec F S4x2x2048x1024 .f32 := (extf .f32 · bitsLt_bf16_f32) main_arg0
  let main_v1 : FVec F S4x2x2048x1024 .f32 := Host.absf main_v0
  let main_cst : FVec F S_ .f32 := constant S_ .f32 0x7F800000#32
  let main_v2 : FVec F S4x2x2048x1024 .f32 := broadcastInDim S4x2x2048x1024 ![] bcast_S_S4x2x2048x1024 main_cst
  let main_v3 : IVec S4x2x2048x1024 1 := cmpf .olt main_v1 main_v2
  let main_v4 : FVec F S4x2x2048x1024 .f32 := (extf .f32 · bitsLt_bf16_f32) main_arg1
  let main_v5 : FVec F S4x2x2048x1024 .f32 := Host.absf main_v4
  let main_cst_0 : FVec F S_ .f32 := constant S_ .f32 0x7F800000#32
  let main_v6 : FVec F S4x2x2048x1024 .f32 := broadcastInDim S4x2x2048x1024 ![] bcast_S_S4x2x2048x1024 main_cst_0
  let main_v7 : IVec S4x2x2048x1024 1 := cmpf .olt main_v5 main_v6
  (main_v3, main_v7)
-- ==== Kernel.lean ====
abbrev S4x2x2048x512 : Shape := ⟨4, ![4, 2, 2048, 512]⟩
abbrev S4x2x2048x128 : Shape := ⟨4, ![4, 2, 2048, 128]⟩
abbrev S8192x2048 : Shape := ⟨2, ![8192, 2048]⟩
abbrev S2048x8192 : Shape := ⟨2, ![2048, 8192]⟩
abbrev S8x2048x1024 : Shape := ⟨3, ![8, 2048, 1024]⟩
abbrev S1x1x1024x512 : Shape := ⟨4, ![1, 1, 1024, 512]⟩
abbrev S1x1x256x512 : Shape := ⟨4, ![1, 1, 256, 512]⟩
abbrev S1x1x2048x128 : Shape := ⟨4, ![1, 1, 2048, 128]⟩
abbrev S512x2048 : Shape := ⟨2, ![512, 2048]⟩
abbrev S128x8192 : Shape := ⟨2, ![128, 8192]⟩
abbrev S8x128x1024 : Shape := ⟨3, ![8, 128, 1024]⟩
abbrev S2x4x256x2048 : Shape := ⟨4, ![2, 4, 256, 2048]⟩
abbrev S2x4x256x1 : Shape := ⟨4, ![2, 4, 256, 1]⟩
abbrev S2048x128 : Shape := ⟨2, ![2048, 128]⟩
abbrev S1x1x256x128 : Shape := ⟨4, ![1, 1, 256, 128]⟩
abbrev S256x128 : Shape := ⟨2, ![256, 128]⟩
abbrev S256x2048 : Shape := ⟨2, ![256, 2048]⟩
abbrev S1x1x256x2048 : Shape := ⟨4, ![1, 1, 256, 2048]⟩
abbrev S256 : Shape := ⟨1, ![256]⟩
abbrev S256x1 : Shape := ⟨2, ![256, 1]⟩
abbrev S1x1x256x1 : Shape := ⟨4, ![1, 1, 256, 1]⟩
abbrev S128x2048 : Shape := ⟨2, ![128, 2048]⟩
abbrev S32x1024 : Shape := ⟨2, ![32, 1024]⟩
abbrev S1x32x1024 : Shape := ⟨3, ![1, 32, 1024]⟩
abbrev S2048x256 : Shape := ⟨2, ![2048, 256]⟩
abbrev S256x256 : Shape := ⟨2, ![256, 256]⟩

abbrev nBuf : Space → Nat
  | .hbm => 8
  | .vmem => 22
  | .smem => 0
  | _ => 0

abbrev bufTy : (tb : Table) → Fin (tcTables nBuf tb) → BufTy
  | .hbm, ⟨0, _⟩ => ⟨S4x2x2048x512, .bf16⟩
  | .hbm, ⟨1, _⟩ => ⟨S4x2x2048x128, .bf16⟩
  | .hbm, ⟨2, _⟩ => ⟨S4x2x2048x128, .bf16⟩
  | .hbm, ⟨3, _⟩ => ⟨S8192x2048, .f32⟩
  | .hbm, ⟨4, _⟩ => ⟨S2048x8192, .f32⟩
  | .hbm, ⟨5, _⟩ => ⟨S4x2x2048x512, .bf16⟩
  | .hbm, ⟨6, _⟩ => ⟨S8192x2048, .bf16⟩
  | .hbm, ⟨7, _⟩ => ⟨S8x2048x1024, .bf16⟩
  | .local _ .vmem, ⟨0, _⟩ => ⟨S1x1x1024x512, .bf16⟩
  | .local _ .vmem, ⟨1, _⟩ => ⟨S1x1x1024x512, .bf16⟩
  | .local _ .vmem, ⟨2, _⟩ => ⟨S1x1x256x512, .bf16⟩
  | .local _ .vmem, ⟨3, _⟩ => ⟨S1x1x256x512, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x1x2048x128, .bf16⟩
  | .local _ .vmem, ⟨8, _⟩ => ⟨S1x1x2048x128, .bf16⟩
  | .local _ .vmem, ⟨9, _⟩ => ⟨S1x1x2048x128, .bf16⟩
  | .local _ .vmem, ⟨10, _⟩ => ⟨S512x2048, .f32⟩
  | .local _ .vmem, ⟨11, _⟩ => ⟨S512x2048, .f32⟩
  | .local _ .vmem, ⟨12, _⟩ => ⟨S128x8192, .f32⟩
  | .local _ .vmem, ⟨13, _⟩ => ⟨S128x8192, .f32⟩
  | .local _ .vmem, ⟨14, _⟩ => ⟨S1x1x1024x512, .bf16⟩
  | .local _ .vmem, ⟨15, _⟩ => ⟨S1x1x1024x512, .bf16⟩
  | .local _ .vmem, ⟨16, _⟩ => ⟨S512x2048, .bf16⟩
  | .local _ .vmem, ⟨17, _⟩ => ⟨S512x2048, .bf16⟩
  | .local _ .vmem, ⟨18, _⟩ => ⟨S8x128x1024, .bf16⟩
  | .local _ .vmem, ⟨19, _⟩ => ⟨S8x128x1024, .bf16⟩
  | .local _ .vmem, ⟨20, _⟩ => ⟨S2x4x256x2048, .f32⟩
  | .local _ .vmem, ⟨21, _⟩ => ⟨S2x4x256x1, .f32⟩
  | _, _ => ⟨S4x2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c2_i32 : BitVec 32 := 2#32
  let v5 : BitVec 32 := Scalar.shrsi v4 c2_i32
  let c0_i32 : BitVec 32 := 0#32
  let c0_i32_1 : BitVec 32 := 0#32
  ![v2.toNat, v3.toNat, v5.toNat, c0_i32.toNat]

def cc0_transform_1 (i : grid0.Coords) : Fin 4 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c3_i32 : BitVec 32 := 3#32
  let v3 : BitVec 32 := Scalar.shrsi v2 c3_i32
  let c1_i32_0 : BitVec 32 := 1#32
  let v4 : BitVec 32 := Scalar.shrsi v3 c1_i32_0
  let c1_i32_1 : BitVec 32 := 1#32
  let v5 : BitVec 32 := Scalar.andi v3 c1_i32_1
  let c7_i32 : BitVec 32 := 7#32
  let v6 : BitVec 32 := Scalar.andi v2 c7_i32
  let c0_i32 : BitVec 32 := 0#32
  let c0_i32_2 : BitVec 32 := 0#32
  ![v4.toNat, v5.toNat, v6.toNat, c0_i32.toNat]

def cc0_transform_2 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c0_i32 : BitVec 32 := 0#32
  let c0_i32_1 : BitVec 32 := 0#32
  let c0_i32_2 : BitVec 32 := 0#32
  ![v2.toNat, v3.toNat, c0_i32.toNat, c0_i32_1.toNat]

def cc0_transform_3 (i : grid0.Coords) : Fin 4 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c3_i32 : BitVec 32 := 3#32
  let v3 : BitVec 32 := Scalar.shrsi v2 c3_i32
  let c1_i32_0 : BitVec 32 := 1#32
  let v4 : BitVec 32 := Scalar.shrsi v3 c1_i32_0
  let c1_i32_1 : BitVec 32 := 1#32
  let v5 : BitVec 32 := Scalar.andi v3 c1_i32_1
  let c7_i32 : BitVec 32 := 7#32
  let v6 : BitVec 32 := Scalar.andi v2 c7_i32
  let c0_i32 : BitVec 32 := 0#32
  let c0_i32_2 : BitVec 32 := 0#32
  let c0_i32_3 : BitVec 32 := 0#32
  ![v4.toNat, v5.toNat, c0_i32.toNat, c0_i32_2.toNat]

def cc0_transform_4 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c0_i32 : BitVec 32 := 0#32
  let c0_i32_1 : BitVec 32 := 0#32
  let c0_i32_2 : BitVec 32 := 0#32
  ![v2.toNat, v3.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c2_i32 : BitVec 32 := 2#32
  let v5 : BitVec 32 := Scalar.shrsi v4 c2_i32
  let c0_i32 : BitVec 32 := 0#32
  let c0_i32_1 : BitVec 32 := 0#32
  ![v2.toNat, v3.toNat, v5.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4x2x2048x512 : Shape := ⟨4, ![4, 2, 2048, 512]⟩
abbrev S4x2x2048x128 : Shape := ⟨4, ![4, 2, 2048, 128]⟩
abbrev S8192x2048 : Shape := ⟨2, ![8192, 2048]⟩
abbrev S2048x8192 : Shape := ⟨2, ![2048, 8192]⟩
abbrev S4x2x2048x4x128 : Shape := ⟨5, ![4, 2, 2048, 4, 128]⟩
abbrev S4x2x4x2048x128 : Shape := ⟨5, ![4, 2, 4, 2048, 128]⟩
abbrev S4x2x4x2048x2048 : Shape := ⟨5, ![4, 2, 4, 2048, 2048]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S2048x8x1024 : Shape := ⟨3, ![2048, 8, 1024]⟩
abbrev S8x2048x1024 : Shape := ⟨3, ![8, 2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x2x2048x512, .bf16⟩
  | .hbm, ⟨1, _⟩ => ⟨S4x2x2048x128, .bf16⟩
  | .hbm, ⟨2, _⟩ => ⟨S4x2x2048x128, .bf16⟩
  | .hbm, ⟨3, _⟩ => ⟨S8192x2048, .f32⟩
  | .hbm, ⟨4, _⟩ => ⟨S2048x8192, .f32⟩
  | .hbm, ⟨5, _⟩ => ⟨S4x2x2048x512, .f32⟩
  | .hbm, ⟨6, _⟩ => ⟨S4x2x2048x4x128, .f32⟩
  | .hbm, ⟨7, _⟩ => ⟨S4x2x4x2048x128, .f32⟩
  | .hbm, ⟨8, _⟩ => ⟨S4x2x2048x128, .f32⟩
  | .hbm, ⟨9, _⟩ => ⟨S4x2x4x2048x2048, .f32⟩
  | .hbm, ⟨10, _⟩ => ⟨S_, .f32⟩
  | .hbm, ⟨11, _⟩ => ⟨S_, .f32⟩
  | .hbm, ⟨12, _⟩ => ⟨S4x2x4x2048x2048, .f32⟩
  | .hbm, ⟨13, _⟩ => ⟨S4x2x4x2048x2048, .f32⟩
  | .hbm, ⟨14, _⟩ => ⟨S_, .f32⟩
  | .hbm, ⟨15, _⟩ => ⟨S4x2x4x2048, .f32⟩
  | .hbm, ⟨16, _⟩ => ⟨S_, .f32⟩
  | .hbm, ⟨17, _⟩ => ⟨S4x2x4x2048, .f32⟩
  | .hbm, ⟨18, _⟩ => ⟨S4x2x4x2048, .f32⟩
  | .hbm, ⟨19, _⟩ => ⟨S4x2x4x2048x1, .f32⟩
  | .hbm, ⟨20, _⟩ => ⟨S4x2x4x2048x2048, .f32⟩
  | .hbm, ⟨21, _⟩ => ⟨S4x2x4x2048x2048, .f32⟩
  | .hbm, ⟨22, _⟩ => ⟨S4x2x4x2048x2048, .f32⟩
  | .hbm, ⟨23, _⟩ => ⟨S_, .f32⟩
  | .hbm, ⟨24, _⟩ => ⟨S4x2x4x2048, .f32⟩
  | .hbm, ⟨25, _⟩ => ⟨S4x2x4x2048x1, .f32⟩
  | .hbm, ⟨26, _⟩ => ⟨S4x2x4x2048x2048, .f32⟩
  | .hbm, ⟨27, _⟩ => ⟨S4x2x4x2048x2048, .f32⟩
  | .hbm, ⟨28, _⟩ => ⟨S4x2x2048x128, .f32⟩
  | .hbm, ⟨29, _⟩ => ⟨S4x2x4x2048x128, .f32⟩
  | .hbm, ⟨30, _⟩ => ⟨S4x2x2048x4x128, .f32⟩
  | .hbm, ⟨31, _⟩ => ⟨S4x2x2048x512, .f32⟩
  | .hbm, ⟨32, _⟩ => ⟨S2048x8x1024, .f32⟩
  | .hbm, ⟨33, _⟩ => ⟨S8x2048x1024, .f32⟩
  | .hbm, ⟨34, _⟩ => ⟨S4x2x2048x512, .bf16⟩
  | .hbm, ⟨35, _⟩ => ⟨S8192x2048, .bf16⟩
  | .hbm, ⟨36, _⟩ => ⟨S8x2048x1024, .bf16⟩
  | _, _ => ⟨S4x2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x8192 : Shape := ⟨2, ![4, 8192]⟩
abbrev S1x2048 : Shape := ⟨2, ![1, 2048]⟩
abbrev S8x2048x1024 : Shape := ⟨3, ![8, 2048, 1024]⟩
abbrev S8192x2048 : Shape := ⟨2, ![8192, 2048]⟩
abbrev S1x512x2048 : Shape := ⟨3, ![1, 512, 2048]⟩
abbrev S2x2048x1024 : Shape := ⟨3, ![2, 2048, 1024]⟩
abbrev S2048x2048 : Shape := ⟨2, ![2048, 2048]⟩
abbrev S512x2048 : Shape := ⟨2, ![512, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S256x2048 : Shape := ⟨2, ![256, 2048]⟩
abbrev S1x2048x1024 : Shape := ⟨3, ![1, 2048, 1024]⟩
abbrev S2048x1024 : Shape := ⟨2, ![2048, 1024]⟩
abbrev S256x1024 : Shape := ⟨2, ![256, 1024]⟩
abbrev S1024x2048 : Shape := ⟨2, ![1024, 2048]⟩
abbrev S1x256x2048 : Shape := ⟨3, ![1, 256, 2048]⟩
abbrev S512x1024 : Shape := ⟨2, ![512, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S4x8192, .f32⟩
  | .hbm, ⟨2, _⟩ => ⟨S1x2048, .f32⟩
  | .hbm, ⟨3, _⟩ => ⟨S8x2048x1024, .bf16⟩
  | .hbm, ⟨4, _⟩ => ⟨S8192x2048, .bf16⟩
  | .hbm, ⟨5, _⟩ => ⟨S1x2048, .f32⟩
  | .hbm, ⟨6, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x8192, .f32⟩
  | .local _ .vmem, ⟨3, _⟩ => ⟨S1x2048, .f32⟩
  | .local _ .vmem, ⟨4, _⟩ => ⟨S2x2048x1024, .bf16⟩
  | .local _ .vmem, ⟨5, _⟩ => ⟨S2x2048x1024, .bf16⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S1x512x2048, .f32⟩
  | .local _ .vmem, ⟨10, _⟩ => ⟨S1x512x2048, .f32⟩
  | .local _ .vmem, ⟨11, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v12 : Index := Scalar.indexCast arg0
  let c4096 : Index := 4096#32
  ![v12.toNat, 4096]
def k0_off2 (i : grid0.Coords) : Fin 2 → Nat :=
  let arg0 : BitVec 32 := BitVec.ofNat 32 (i 0).val
  let v14 : Index := Scalar.indexCast arg0
  let c2048 : Index := 2048#32
  ![v14.toNat, 2048]
def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def k0_off3 (i : grid0.Coords) : Fin 2 → Nat :=
  let arg0 : BitVec 32 := BitVec.ofNat 32 (i 0).val
  let v44 : Index := Scalar.indexCast arg0
  let c6144 : Index := 6144#32
  ![v44.toNat, 6144]
def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S4x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S4x2048x2048 : Shape := ⟨3, ![4, 2048, 2048]⟩
abbrev S4x8192 : Shape := ⟨2, ![4, 8192]⟩
abbrev S1x2048 : Shape := ⟨2, ![1, 2048]⟩
abbrev S8x2048x1024 : Shape := ⟨3, ![8, 2048, 1024]⟩
abbrev S8192x2048 : Shape := ⟨2, ![8192, 2048]⟩
abbrev S2048x8x1024 : Shape := ⟨3, ![2048, 8, 1024]⟩
abbrev S2048x8192 : Shape := ⟨2, ![2048, 8192]⟩
abbrev S4x2048 : Shape := ⟨2, ![4, 2048]⟩
abbrev S4x1x2048 : Shape := ⟨3, ![4, 1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S4x2048x8192 : Shape := ⟨3, ![4, 2048, 8192]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x8192, .f32⟩
  | .hbm, ⟨2, _⟩ => ⟨S1x2048, .f32⟩
  | .hbm, ⟨3, _⟩ => ⟨S8x2048x1024, .bf16⟩
  | .hbm, ⟨4, _⟩ => ⟨S8192x2048, .bf16⟩
  | .hbm, ⟨5, _⟩ => ⟨S1x2048, .f32⟩
  | .hbm, ⟨6, _⟩ => ⟨S8x2048x1024, .f32⟩
  | .hbm, ⟨7, _⟩ => ⟨S2048x8x1024, .f32⟩
  | .hbm, ⟨8, _⟩ => ⟨S2048x8192, .f32⟩
  | .hbm, ⟨9, _⟩ => ⟨S8192x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S2048, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S1x1x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x1x2048, .f32⟩
  | .hbm, ⟨37, _⟩ => ⟨S4x1x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S4x2048x8192, .f32⟩
  | .hbm, ⟨43, _⟩ => ⟨S_, .f32⟩
  | .hbm, ⟨44, _⟩ => ⟨S4x2048x8192, .f32⟩
  | .hbm, ⟨45, _⟩ => ⟨S4x2048x8192, .f32⟩
  | .hbm, ⟨46, _⟩ => ⟨S4x2048x8192, .f32⟩
  | .hbm, ⟨47, _⟩ => ⟨S4x2048x2048, .f32⟩
  | .hbm, ⟨48, _⟩ => ⟨S2048, .f32⟩
  | .hbm, ⟨49, _⟩ => ⟨S4x2048x2048, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S_, .f32⟩
  | .hbm, ⟨54, _⟩ => ⟨S4x2048x1, .f32⟩
  | .hbm, ⟨55, _⟩ => ⟨S4x2048x1, .f32⟩
  | .hbm, ⟨56, _⟩ => ⟨S_, .f32⟩
  | .hbm, ⟨57, _⟩ => ⟨S4x2048x1, .f32⟩
  | .hbm, ⟨58, _⟩ => ⟨S4x2048x1, .f32⟩
  | .hbm, ⟨59, _⟩ => ⟨S4x2048x1, .f32⟩
  | .hbm, ⟨60, _⟩ => ⟨S4x2048x2048, .f32⟩
  | .hbm, ⟨61, _⟩ => ⟨S4x2048x2048, .f32⟩
  | .hbm, ⟨62, _⟩ => ⟨S1x1x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_cst : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel3.lean ====
abbrev S4x2x2048x512 : Shape := ⟨4, ![4, 2, 2048, 512]⟩
abbrev S4x2048x2048 : Shape := ⟨3, ![4, 2048, 2048]⟩
abbrev S4x8192 : Shape := ⟨2, ![4, 8192]⟩
abbrev S1x1024 : Shape := ⟨2, ![1, 1024]⟩
abbrev S2048x2048 : Shape := ⟨2, ![2048, 2048]⟩
abbrev S1x2048 : Shape := ⟨2, ![1, 2048]⟩
abbrev S1x2x512x512 : Shape := ⟨4, ![1, 2, 512, 512]⟩
abbrev S1x512x2048 : Shape := ⟨3, ![1, 512, 2048]⟩
abbrev S512x2048 : Shape := ⟨2, ![512, 2048]⟩
abbrev S1x1x16x512 : Shape := ⟨4, ![1, 1, 16, 512]⟩
abbrev S16x512 : Shape := ⟨2, ![16, 512]⟩
abbrev S16x1024 : Shape := ⟨2, ![16, 1024]⟩
abbrev S16 : Shape := ⟨1, ![16]⟩
abbrev S16x1 : Shape := ⟨2, ![16, 1]⟩
abbrev S1x16x2048 : Shape := ⟨3, ![1, 16, 2048]⟩
abbrev S16x2048 : Shape := ⟨2, ![16, 2048]⟩

abbrev nBuf : Space → Nat
  | .hbm => 9
  | .vmem => 15
  | .smem => 0
  | _ => 0

abbrev bufTy : (tb : Table) → Fin (tcTables nBuf tb) → BufTy
  | .hbm, ⟨0, _⟩ => ⟨S4x2x2048x512, .bf16⟩
  | .hbm, ⟨1, _⟩ => ⟨S4x2x2048x512, .bf16⟩
  | .hbm, ⟨2, _⟩ => ⟨S4x2048x2048, .f32⟩
  | .hbm, ⟨3, _⟩ => ⟨S4x8192, .f32⟩
  | .hbm, ⟨4, _⟩ => ⟨S1x1024, .f32⟩
  | .hbm, ⟨5, _⟩ => ⟨S1x1024, .f32⟩
  | .hbm, ⟨6, _⟩ => ⟨S2048x2048, .bf16⟩
  | .hbm, ⟨7, _⟩ => ⟨S1x2048, .f32⟩
  | .hbm, ⟨8, _⟩ => ⟨S4x2048x2048, .f32⟩
  | .local _ .vmem, ⟨0, _⟩ => ⟨S1x2x512x512, .bf16⟩
  | .local _ .vmem, ⟨1, _⟩ => ⟨S1x2x512x512, .bf16⟩
  | .local _ .vmem, ⟨2, _⟩ => ⟨S1x2x512x512, .bf16⟩
  | .local _ .vmem, ⟨3, _⟩ => ⟨S1x2x512x512, .bf16⟩
  | .local _ .vmem, ⟨4, _⟩ => ⟨S1x512x2048, .f32⟩
  | .local _ .vmem, ⟨5, _⟩ => ⟨S1x512x2048, .f32⟩
  | .local _ .vmem, ⟨6, _⟩ => ⟨S4x8192, .f32⟩
  | .local _ .vmem, ⟨7, _⟩ => ⟨S1x1024, .f32⟩
  | .local _ .vmem, ⟨8, _⟩ => ⟨S1x1024, .f32⟩
  | .local _ .vmem, ⟨9, _⟩ => ⟨S2048x2048, .bf16⟩
  | .local _ .vmem, ⟨10, _⟩ => ⟨S1x2048, .f32⟩
  | .local _ .vmem, ⟨11, _⟩ => ⟨S1x512x2048, .f32⟩
  | .local _ .vmem, ⟨12, _⟩ => ⟨S1x512x2048, .f32⟩
  | .local _ .vmem, ⟨13, _⟩ => ⟨S512x2048, .bf16⟩
  | .local _ .vmem, ⟨14, _⟩ => ⟨S512x2048, .f32⟩
  | _, _ => ⟨S4x2x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let arg0 : BitVec 32 := BitVec.ofNat 32 (i 0).val
  let v1479 : Index := Scalar.indexCast arg0
  let c0_934 : Index := 0#32
  ![v1479.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S4x2x2048x512 : Shape := ⟨4, ![4, 2, 2048, 512]⟩
abbrev S4x2048x2048 : Shape := ⟨3, ![4, 2048, 2048]⟩
abbrev S4x8192 : Shape := ⟨2, ![4, 8192]⟩
abbrev S1x1024 : Shape := ⟨2, ![1, 1024]⟩
abbrev S2048x2048 : Shape := ⟨2, ![2048, 2048]⟩
abbrev S1x2048 : Shape := ⟨2, ![1, 2048]⟩
abbrev S4x2048x2x512 : Shape := ⟨4, ![4, 2048, 2, 512]⟩
abbrev S4x2048x1024 : Shape := ⟨3, ![4, 2048, 1024]⟩
abbrev S4x2048 : Shape := ⟨2, ![4, 2048]⟩
abbrev S4x1x2048 : Shape := ⟨3, ![4, 1, 2048]⟩
abbrev S1024 : Shape := ⟨1, ![1024]⟩
abbrev S_ : Shape := ⟨0, ![]⟩
abbrev S4x2048x1 : Shape := ⟨3, ![4, 2048, 1]⟩
abbrev S1x1x1024 : Shape := ⟨3, ![1, 1, 1024]⟩
abbrev S2048 : Shape := ⟨1, ![2048]⟩
abbrev S1x1x2048 : Shape := ⟨3, ![1, 1, 2048]⟩

abbrev nBuf : Space → Nat
  | .hbm => 79
  | .vmem => 0
  | .smem => 0
  | _ => 0

abbrev bufTy : (tb : Table) → Fin (tcTables nBuf tb) → BufTy
  | .hbm, ⟨0, _⟩ => ⟨S4x2x2048x512, .bf16⟩
  | .hbm, ⟨1, _⟩ => ⟨S4x2x2048x512, .bf16⟩
  | .hbm, ⟨2, _⟩ => ⟨S4x2048x2048, .f32⟩
  | .hbm, ⟨3, _⟩ => ⟨S4x8192, .f32⟩
  | .hbm, ⟨4, _⟩ => ⟨S1x1024, .f32⟩
  | .hbm, ⟨5, _⟩ => ⟨S1x1024, .f32⟩
  | .hbm, ⟨6, _⟩ => ⟨S2048x2048, .bf16⟩
  | .hbm, ⟨7, _⟩ => ⟨S1x2048, .f32⟩
  | .hbm, ⟨8, _⟩ => ⟨S4x2x2048x512, .f32⟩
  | .hbm, ⟨9, _⟩ => ⟨S4x2048x2x512, .f32⟩
  | .hbm, ⟨10, _⟩ => ⟨S4x2048x1024, .f32⟩
  | .hbm, ⟨11, _⟩ => ⟨S4x2x2048x512, .f32⟩
  | .hbm, ⟨12, _⟩ => ⟨S4x2048x2x512, .f32⟩
  | .hbm, ⟨13, _⟩ => ⟨S4x2048x1024, .f32⟩
  | .hbm, ⟨14, _⟩ => ⟨S4x2048, .f32⟩
  | .hbm, ⟨15, _⟩ => ⟨S4x2048, .f32⟩
  | .hbm, ⟨16, _⟩ => ⟨S4x2048, .f32⟩
  | .hbm, ⟨17, _⟩ => ⟨S4x2048, .f32⟩
  | .hbm, ⟨18, _⟩ => ⟨S4x1x2048, .f32⟩
  | .hbm, ⟨19, _⟩ => ⟨S4x1x2048, .f32⟩
  | .hbm, ⟨20, _⟩ => ⟨S4x1x2048, .f32⟩
  | .hbm, ⟨21, _⟩ => ⟨S4x1x2048, .f32⟩
  | .hbm, ⟨22, _⟩ => ⟨S1024, .f32⟩
  | .hbm, ⟨23, _⟩ => ⟨S4x2048x1024, .f32⟩
  | .hbm, ⟨24, _⟩ => ⟨S_, .f32⟩
  | .hbm, ⟨25, _⟩ => ⟨S4x2048, .f32⟩
  | .hbm, ⟨26, _⟩ => ⟨S4x2048x1, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S1024, .f32⟩
  | .hbm, ⟨40, _⟩ => ⟨S4x2048x1024, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x1, .f32⟩
  | .hbm, ⟨51, _⟩ => ⟨S4x2048x1024, .f32⟩
  | .hbm, ⟨52, _⟩ => ⟨S4x2048x1024, .f32⟩
  | .hbm, ⟨53, _⟩ => ⟨S1x1x1024, .f32⟩
  | .hbm, ⟨54, _⟩ => ⟨S4x2048x1024, .f32⟩
  | .hbm, ⟨55, _⟩ => ⟨S4x2048x1024, .f32⟩
  | .hbm, ⟨56, _⟩ => ⟨S4x2048x2048, .f32⟩
  | .hbm, ⟨57, _⟩ => ⟨S2048x2048, .f32⟩
  | .hbm, ⟨58, _⟩ => ⟨S4x2048x2048, .f32⟩
  | .hbm, ⟨59, _⟩ => ⟨S2048, .f32⟩
  | .hbm, ⟨60, _⟩ => ⟨S4x2048x2048, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S4x2048x1, .f32⟩
  | .hbm, ⟨71, _⟩ => ⟨S4x2048x2048, .f32⟩
  | .hbm, ⟨72, _⟩ => ⟨S4x2048x2048, .f32⟩
  | .hbm, ⟨73, _⟩ => ⟨S1x1x2048, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S4x2048x2048, .f32⟩
  | .hbm, ⟨78, _⟩ => ⟨S4x2048x2048, .f32⟩
  | _, _ => ⟨S4x2x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_cst_7 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩

abbrev nD : Nat := 1
abbrev τ : Topo := Topo.v7x

variable {F : FTy → Type} [FloatOps F]
-- ==== Kernel4.lean ====
abbrev S4x2x2048x1024 : Shape := ⟨4, ![4, 2, 2048, 1024]⟩
abbrev S4x2x2048x512 : Shape := ⟨4, ![4, 2, 2048, 512]⟩
abbrev S2048x2048 : Shape := ⟨2, ![2048, 2048]⟩
abbrev S4x2048 : Shape := ⟨2, ![4, 2048]⟩
abbrev S2048x12288 : Shape := ⟨2, ![2048, 12288]⟩
abbrev S1x12288 : Shape := ⟨2, ![1, 12288]⟩
abbrev S4x8192 : Shape := ⟨2, ![4, 8192]⟩
abbrev S1x1x1024x1024 : Shape := ⟨4, ![1, 1, 1024, 1024]⟩
abbrev S1x1x256x1024 : Shape := ⟨4, ![1, 1, 256, 1024]⟩
abbrev S1x1x2048x1024 : Shape := ⟨4, ![1, 1, 2048, 1024]⟩
abbrev S1x1x2048x512 : Shape := ⟨4, ![1, 1, 2048, 512]⟩
abbrev S128x2048 : Shape := ⟨2, ![128, 2048]⟩
abbrev S2048x512 : Shape := ⟨2, ![2048, 512]⟩
abbrev S1x512 : Shape := ⟨2, ![1, 512]⟩
abbrev S1x1x1024x512 : Shape := ⟨4, ![1, 1, 1024, 512]⟩
abbrev S4x512 : Shape := ⟨2, ![4, 512]⟩
abbrev S2x4x256x2048 : Shape := ⟨4, ![2, 4, 256, 2048]⟩
abbrev S2x4x256x1 : Shape := ⟨4, ![2, 4, 256, 1]⟩
abbrev S1x1x2048x256 : Shape := ⟨4, ![1, 1, 2048, 256]⟩
abbrev S2048x256 : Shape := ⟨2, ![2048, 256]⟩
abbrev S1x1x256x256 : Shape := ⟨4, ![1, 1, 256, 256]⟩
abbrev S256x256 : Shape := ⟨2, ![256, 256]⟩
abbrev S256x2048 : Shape := ⟨2, ![256, 2048]⟩
abbrev S1x1x256x2048 : Shape := ⟨4, ![1, 1, 256, 2048]⟩
abbrev S256 : Shape := ⟨1, ![256]⟩
abbrev S256x1 : Shape := ⟨2, ![256, 1]⟩
abbrev S1x1x256x1 : Shape := ⟨4, ![1, 1, 256, 1]⟩
abbrev S32x2048 : Shape := ⟨2, ![32, 2048]⟩
abbrev S1x1x2048x128 : Shape := ⟨4, ![1, 1, 2048, 128]⟩
abbrev S2048x128 : Shape := ⟨2, ![2048, 128]⟩
abbrev S256x128 : Shape := ⟨2, ![256, 128]⟩
abbrev S1x1x256x128 : Shape := ⟨4, ![1, 1, 256, 128]⟩

abbrev nBuf : Space → Nat
  | .hbm => 10
  | .vmem => 25
  | .smem => 0
  | _ => 0

abbrev bufTy : (tb : Table) → Fin (tcTables nBuf tb) → BufTy
  | .hbm, ⟨0, _⟩ => ⟨S4x2x2048x1024, .bf16⟩
  | .hbm, ⟨1, _⟩ => ⟨S4x2x2048x1024, .bf16⟩
  | .hbm, ⟨2, _⟩ => ⟨S4x2x2048x512, .bf16⟩
  | .hbm, ⟨3, _⟩ => ⟨S2048x2048, .f32⟩
  | .hbm, ⟨4, _⟩ => ⟨S4x2048, .f32⟩
  | .hbm, ⟨5, _⟩ => ⟨S2048x12288, .f32⟩
  | .hbm, ⟨6, _⟩ => ⟨S1x12288, .f32⟩
  | .hbm, ⟨7, _⟩ => ⟨S4x2x2048x512, .bf16⟩
  | .hbm, ⟨8, _⟩ => ⟨S2048x2048, .bf16⟩
  | .hbm, ⟨9, _⟩ => ⟨S4x8192, .f32⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x256x1024, .bf16⟩
  | .local _ .vmem, ⟨3, _⟩ => ⟨S1x1x256x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x2048x1024, .bf16⟩
  | .local _ .vmem, ⟨7, _⟩ => ⟨S1x1x2048x1024, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S128x2048, .f32⟩
  | .local _ .vmem, ⟨11, _⟩ => ⟨S128x2048, .f32⟩
  | .local _ .vmem, ⟨12, _⟩ => ⟨S4x2048, .f32⟩
  | .local _ .vmem, ⟨13, _⟩ => ⟨S2048x512, .f32⟩
  | .local _ .vmem, ⟨14, _⟩ => ⟨S2048x512, .f32⟩
  | .local _ .vmem, ⟨15, _⟩ => ⟨S1x512, .f32⟩
  | .local _ .vmem, ⟨16, _⟩ => ⟨S1x512, .f32⟩
  | .local _ .vmem, ⟨17, _⟩ => ⟨S1x1x1024x512, .bf16⟩
  | .local _ .vmem, ⟨18, _⟩ => ⟨S1x1x1024x512, .bf16⟩
  | .local _ .vmem, ⟨19, _⟩ => ⟨S128x2048, .bf16⟩
  | .local _ .vmem, ⟨20, _⟩ => ⟨S128x2048, .bf16⟩
  | .local _ .vmem, ⟨21, _⟩ => ⟨S4x512, .f32⟩
  | .local _ .vmem, ⟨22, _⟩ => ⟨S4x512, .f32⟩
  | .local _ .vmem, ⟨23, _⟩ => ⟨S2x4x256x2048, .f32⟩
  | .local _ .vmem, ⟨24, _⟩ => ⟨S2x4x256x1, .f32⟩
  | _, _ => ⟨S4x2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c2_i32 : BitVec 32 := 2#32
  let v5 : BitVec 32 := Scalar.shrsi v4 c2_i32
  let c0_i32 : BitVec 32 := 0#32
  let c0_i32_1 : BitVec 32 := 0#32
  ![v2.toNat, v3.toNat, v5.toNat, c0_i32.toNat]

def cc0_transform_1 (i : grid0.Coords) : Fin 4 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c3_i32 : BitVec 32 := 3#32
  let v3 : BitVec 32 := Scalar.shrsi v2 c3_i32
  let c1_i32_0 : BitVec 32 := 1#32
  let v4 : BitVec 32 := Scalar.shrsi v3 c1_i32_0
  let c1_i32_1 : BitVec 32 := 1#32
  let v5 : BitVec 32 := Scalar.andi v3 c1_i32_1
  let c7_i32 : BitVec 32 := 7#32
  let v6 : BitVec 32 := Scalar.andi v2 c7_i32
  let c0_i32 : BitVec 32 := 0#32
  let c0_i32_2 : BitVec 32 := 0#32
  ![v4.toNat, v5.toNat, v6.toNat, c0_i32.toNat]

def cc0_transform_2 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c0_i32 : BitVec 32 := 0#32
  let c0_i32_1 : BitVec 32 := 0#32
  let c0_i32_2 : BitVec 32 := 0#32
  ![v2.toNat, v3.toNat, c0_i32.toNat, c0_i32_1.toNat]

def cc0_transform_3 (i : grid0.Coords) : Fin 4 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli c4_i32 v0
  let c63_i32 : BitVec 32 := 63#32
  let v2 : BitVec 32 := Scalar.minsi v1 c63_i32
  let c3_i32 : BitVec 32 := 3#32
  let v3 : BitVec 32 := Scalar.shrsi v2 c3_i32
  let c1_i32_0 : BitVec 32 := 1#32
  let v4 : BitVec 32 := Scalar.shrsi v3 c1_i32_0
  let c1_i32_1 : BitVec 32 := 1#32
  let v5 : BitVec 32 := Scalar.andi v3 c1_i32_1
  let c7_i32 : BitVec 32 := 7#32
  let v6 : BitVec 32 := Scalar.andi v2 c7_i32
  let c0_i32 : BitVec 32 := 0#32
  let c0_i32_2 : BitVec 32 := 0#32
  let c0_i32_3 : BitVec 32 := 0#32
  ![v4.toNat, v5.toNat, c0_i32.toNat, c0_i32_2.toNat]

def cc0_transform_4 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c0_i32 : BitVec 32 := 0#32
  let c0_i32_1 : BitVec 32 := 0#32
  let c0_i32_2 : BitVec 32 := 0#32
  ![v2.toNat, v3.toNat, c0_i32.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_9 (i : grid0.Coords) : Fin 4 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.shrsi v0 c3_i32
  let c1_i32 : BitVec 32 := 1#32
  let v2 : BitVec 32 := Scalar.shrsi v1 c1_i32
  let c1_i32_0 : BitVec 32 := 1#32
  let v3 : BitVec 32 := Scalar.andi v1 c1_i32_0
  let c7_i32 : BitVec 32 := 7#32
  let v4 : BitVec 32 := Scalar.andi v0 c7_i32
  let c2_i32 : BitVec 32 := 2#32
  let v5 : BitVec 32 := Scalar.shrsi v4 c2_i32
  let c0_i32 : BitVec 32 := 0#32
  let c0_i32_1 : BitVec 32 := 0#32
  ![v2.toNat, v3.toNat, v5.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S4x2x2048x1024 : Shape := ⟨4, ![4, 2, 2048, 1024]⟩
abbrev S4x2x2048x512 : Shape := ⟨4, ![4, 2, 2048, 512]⟩
abbrev S2048x2048 : Shape := ⟨2, ![2048, 2048]⟩
abbrev S4x2048 : Shape := ⟨2, ![4, 2048]⟩
abbrev S2048x12288 : Shape := ⟨2, ![2048, 12288]⟩
abbrev S1x12288 : Shape := ⟨2, ![1, 12288]⟩
abbrev S4x2x2048x4x256 : Shape := ⟨5, ![4, 2, 2048, 4, 256]⟩
abbrev S4x2x4x2048x256 : Shape := ⟨5, ![4, 2, 4, 2048, 256]⟩
abbrev S4x2x2048x4x128 : Shape := ⟨5, ![4, 2, 2048, 4, 128]⟩
abbrev S4x2x4x2048x128 : Shape := ⟨5, ![4, 2, 4, 2048, 128]⟩
abbrev S4x2x4x2048x2048 : Shape := ⟨5, ![4, 2, 4, 2048, 2048]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x12288 : Shape := ⟨2, ![4, 12288]⟩
abbrev S4x8192 : Shape := ⟨2, ![4, 8192]⟩

abbrev nBuf : Space → Nat
  | .hbm => 53
  | .vmem => 0
  | .smem => 0
  | _ => 0

abbrev bufTy : (tb : Table) → Fin (tcTables nBuf tb) → BufTy
  | .hbm, ⟨0, _⟩ => ⟨S4x2x2048x1024, .bf16⟩
  | .hbm, ⟨1, _⟩ => ⟨S4x2x2048x1024, .bf16⟩
  | .hbm, ⟨2, _⟩ => ⟨S4x2x2048x512, .bf16⟩
  | .hbm, ⟨3, _⟩ => ⟨S2048x2048, .f32⟩
  | .hbm, ⟨4, _⟩ => ⟨S4x2048, .f32⟩
  | .hbm, ⟨5, _⟩ => ⟨S2048x12288, .f32⟩
  | .hbm, ⟨6, _⟩ => ⟨S1x12288, .f32⟩
  | .hbm, ⟨7, _⟩ => ⟨S4x2x2048x1024, .f32⟩
  | .hbm, ⟨8, _⟩ => ⟨S4x2x2048x4x256, .f32⟩
  | .hbm, ⟨9, _⟩ => ⟨S4x2x4x2048x256, .f32⟩
  | .hbm, ⟨10, _⟩ => ⟨S4x2x2048x1024, .f32⟩
  | .hbm, ⟨11, _⟩ => ⟨S4x2x2048x4x256, .f32⟩
  | .hbm, ⟨12, _⟩ => ⟨S4x2x4x2048x256, .f32⟩
  | .hbm, ⟨13, _⟩ => ⟨S4x2x2048x512, .f32⟩
  | .hbm, ⟨14, _⟩ => ⟨S4x2x2048x4x128, .f32⟩
  | .hbm, ⟨15, _⟩ => ⟨S4x2x4x2048x128, .f32⟩
  | .hbm, ⟨16, _⟩ => ⟨S4x2x4x2048x2048, .f32⟩
  | .hbm, ⟨17, _⟩ => ⟨S_, .f32⟩
  | .hbm, ⟨18, _⟩ => ⟨S_, .f32⟩
  | .hbm, ⟨19, _⟩ => ⟨S4x2x4x2048x2048, .f32⟩
  | .hbm, ⟨20, _⟩ => ⟨S4x2x4x2048x2048, .f32⟩
  | .hbm, ⟨21, _⟩ => ⟨S_, .f32⟩
  | .hbm, ⟨22, _⟩ => ⟨S4x2x4x2048, .f32⟩
  | .hbm, ⟨23, _⟩ => ⟨S_, .f32⟩
  | .hbm, ⟨24, _⟩ => ⟨S4x2x4x2048, .f32⟩
  | .hbm, ⟨25, _⟩ => ⟨S4x2x4x2048, .f32⟩
  | .hbm, ⟨26, _⟩ => ⟨S4x2x4x2048x1, .f32⟩
  | .hbm, ⟨27, _⟩ => ⟨S4x2x4x2048x2048, .f32⟩
  | .hbm, ⟨28, _⟩ => ⟨S4x2x4x2048x2048, .f32⟩
  | .hbm, ⟨29, _⟩ => ⟨S4x2x4x2048x2048, .f32⟩
  | .hbm, ⟨30, _⟩ => ⟨S_, .f32⟩
  | .hbm, ⟨31, _⟩ => ⟨S4x2x4x2048, .f32⟩
  | .hbm, ⟨32, _⟩ => ⟨S4x2x4x2048x1, .f32⟩
  | .hbm, ⟨33, _⟩ => ⟨S4x2x4x2048x2048, .f32⟩
  | .hbm, ⟨34, _⟩ => ⟨S4x2x4x2048x2048, .f32⟩
  | .hbm, ⟨35, _⟩ => ⟨S4x2x4x2048x128, .f32⟩
  | .hbm, ⟨36, _⟩ => ⟨S4x2x2048x4x128, .f32⟩
  | .hbm, ⟨37, _⟩ => ⟨S4x2x2048x512, .f32⟩
  | .hbm, ⟨38, _⟩ => ⟨S4x2048, .f32⟩
  | .hbm, ⟨39, _⟩ => ⟨S4x2048, .f32⟩
  | .hbm, ⟨40, _⟩ => ⟨S_, .f32⟩
  | .hbm, ⟨41, _⟩ => ⟨S4x2048, .f32⟩
  | .hbm, ⟨42, _⟩ => ⟨S4x2048, .f32⟩
  | .hbm, ⟨43, _⟩ => ⟨S_, .f32⟩
  | .hbm, ⟨44, _⟩ => ⟨S4x2048, .f32⟩
  | .hbm, ⟨45, _⟩ => ⟨S4x2048, .f32⟩
  | .hbm, ⟨46, _⟩ => ⟨S4x2048, .f32⟩
  | .hbm, ⟨47, _⟩ => ⟨S4x12288, .f32⟩
  | .hbm, ⟨48, _⟩ => ⟨S4x12288, .f32⟩
  | .hbm, ⟨49, _⟩ => ⟨S4x12288, .f32⟩
  | .hbm, ⟨50, _⟩ => ⟨S4x2x2048x512, .bf16⟩
  | .hbm, ⟨51, _⟩ => ⟨S2048x2048, .bf16⟩
  | .hbm, ⟨52, _⟩ => ⟨S4x8192, .f32⟩
  | _, _ => ⟨S4x2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Proof.Gqa.Printed.lean ====
module

public import proofs.«01_k».proof.Proof.Gen.Kernel.Frame.RunB
public import Idealize.ShloMosaic.Lib.Claim

/-! The frame of the grouped-query attention as printed, at any floats. No closed form is needed: what a point leaves is
    what its stores read back as, from the scratch of the point before. -/

@[expose] public section

set_option maxRecDepth 16384

noncomputable section

namespace Cert.Kernel.Gqa
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: its three output blocks, the scratch of scores and the scratch of row maxima. -/
structure Left (F : FTy → Type) where
  attn : Vec F S1x1x1024x512 .bf16
  first : Vec F S512x2048 .bf16
  second : Vec F S8x128x1024 .bf16
  scr : Vec F S2x4x256x2048 .f32
  top : Vec F S2x4x256x1 .f32

/-- The body's run at the first point of the grid, on the point's own blocks. -/
abbrev runA (c : Dev nD) (t : Fin cfg0.N) (h : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h (iblk m c 0 t) (iblk m c 1 t) (iblk m c 2 t) (iblk m c 3 t) (iblk m c 4 t) (iblk m c 5 t) (iblk m c 6 t)

/-- The body's run at a later point, from the scratch of the point before. -/
abbrev runB (c : Dev nD) (t : Fin cfg0.N) (s : Vec F S2x4x256x2048 .f32) (x : Vec F S2x4x256x1 .f32) (h : ¬ cond0_0 (grid0.coords t)) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h (iblk m c 0 t) (iblk m c 1 t) (iblk m c 2 t) (iblk m c 3 t) (iblk m c 4 t) (iblk m c 5 t) (iblk m c 6 t) s x

theorem coverA_7 (c : Dev nD) (t : Fin cfg0.N) (h) (y) : ∃ p ∈ (runA m c t h).1, y ∈ p.1.set :=
  View.cover_of_tiledL (runA m c t h).1 S1x1x256x128.size (by sl_kernel_rfl) y
theorem coverA_8 (c : Dev nD) (t : Fin cfg0.N) (h) (y) : ∃ p ∈ (runA m c t h).2.1, y ∈ p.1.set :=
  View.cover_of_tiledL (runA m c t h).2.1 S128x2048.size (by sl_kernel_rfl) y
theorem coverA_9 (c : Dev nD) (t : Fin cfg0.N) (h) (y) : ∃ p ∈ (runA m c t h).2.2.1, y ∈ p.1.set :=
  View.cover_of_tiledL (runA m c t h).2.2.1 S1x32x1024.size (by sl_kernel_rfl) y
theorem coverA_S0 (c : Dev nD) (t : Fin cfg0.N) (h) (y) : ∃ p ∈ (runA m c t h).2.2.2.1, y ∈ p.1.set :=
  View.cover_of_tiledL (runA m c t h).2.2.2.1 S1x1x256x2048.size (by sl_kernel_rfl) y
theorem coverA_S1 (c : Dev nD) (t : Fin cfg0.N) (h) (y) : ∃ p ∈ (runA m c t h).2.2.2.2.1, y ∈ p.1.set :=
  View.cover_of_tiledL (runA m c t h).2.2.2.2.1 S1x1x256x1.size (by sl_kernel_rfl) y

/-- What the first point leaves. -/
def leftA (c : Dev nD) (t : Fin cfg0.N) (h : cond0_0 (grid0.coords t)) : Left F where
  attn := View.canon (runA m c t h).1
  first := View.canon (runA m c t h).2.1
  second := View.canon (runA m c t h).2.2.1
  scr := View.canon (runA m c t h).2.2.2.1
  top := View.canon (runA m c t h).2.2.2.2.1

theorem coverB_7 (c : Dev nD) (t : Fin cfg0.N) (s) (x) (h) (y) : ∃ p ∈ (runB m c t s x h).1, y ∈ p.1.set :=
  View.cover_of_tiledL (runB m c t s x h).1 S1x1x256x128.size (by sl_kernel_rfl) y
theorem coverB_8 (c : Dev nD) (t : Fin cfg0.N) (s) (x) (h) (y) : ∃ p ∈ (runB m c t s x h).2.1, y ∈ p.1.set :=
  View.cover_of_tiledL (runB m c t s x h).2.1 S128x2048.size (by sl_kernel_rfl) y
theorem coverB_9 (c : Dev nD) (t : Fin cfg0.N) (s) (x) (h) (y) : ∃ p ∈ (runB m c t s x h).2.2.1, y ∈ p.1.set :=
  View.cover_of_tiledL (runB m c t s x h).2.2.1 S1x32x1024.size (by sl_kernel_rfl) y
theorem coverB_S0 (c : Dev nD) (t : Fin cfg0.N) (s) (x) (h) (y) : ∃ p ∈ (runB m c t s x h).2.2.2.1, y ∈ p.1.set :=
  View.cover_of_tiledL (runB m c t s x h).2.2.2.1 S1x1x256x2048.size (by sl_kernel_rfl) y
theorem coverB_S1 (c : Dev nD) (t : Fin cfg0.N) (s) (x) (h) (y) : ∃ p ∈ (runB m c t s x h).2.2.2.2.1, y ∈ p.1.set :=
  View.cover_of_tiledL (runB m c t s x h).2.2.2.2.1 S1x1x256x1.size (by sl_kernel_rfl) y

/-- What a later point leaves. -/
def leftB (c : Dev nD) (t : Fin cfg0.N) (s : Vec F S2x4x256x2048 .f32) (x : Vec F S2x4x256x1 .f32) (h : ¬ cond0_0 (grid0.coords t)) : Left F where
  attn := View.canon (runB m c t s x h).1
  first := View.canon (runB m c t s x h).2.1
  second := View.canon (runB m c t s x h).2.2.1
  scr := View.canon (runB m c t s x h).2.2.2.1
  top := View.canon (runB m c t s x h).2.2.2.2.1

theorem first_point (t : Fin cfg0.N) (h : t.val = 0) : cond0_0 (grid0.coords t) := (hcond0_0 t).mpr (by omega)

theorem later_point (t : Fin cfg0.N) (h : t.val ≠ 0) : ¬ cond0_0 (grid0.coords t) := fun h' => by
  have := (hcond0_0 t).mp h'
  have : t.val < 16 := lt_of_lt_of_eq t.isLt (show cfg0.N = 16 from N_0)
  omega

/-- What point `n` leaves, each point starting from the scratch of the one before. -/
def left (c : Dev nD) : (n : ℕ) → n < cfg0.N → Left F
  | 0, hn => leftA m c ⟨0, hn⟩ (first_point _ rfl)
  | n + 1, hn => leftB m c ⟨n + 1, hn⟩ (left c n (by omega)).scr (left c n (by omega)).top (later_point _ (Nat.succ_ne_zero n))

theorem left_first (c : Dev nD) (t : Fin cfg0.N) (h : t.val = 0) : left m c t.val t.isLt = leftA m c t (first_point t h) := by
  obtain ⟨n, hn⟩ := t
  cases n with
  | zero => rw [left]
  | succ n => exact absurd h (Nat.succ_ne_zero n)

theorem left_later (c : Dev nD) (t : Fin cfg0.N) (h : t.val ≠ 0) :
    left m c t.val t.isLt = leftB m c t (left m c (t.val - 1) (by omega)).scr (left m c (t.val - 1) (by omega)).top (later_point t h) := by
  obtain ⟨n, hn⟩ := t
  cases n with
  | zero => exact absurd rfl h
  | succ n => rw [left]; rfl

theorem leftA_attn (c : Dev nD) (t : Fin cfg0.N) (h) : (leftA m c t h).attn = View.canon (runA m c t h).1 := by
  rw [leftA]
theorem leftA_first (c : Dev nD) (t : Fin cfg0.N) (h) : (leftA m c t h).first = View.canon (runA m c t h).2.1 := by
  rw [leftA]
theorem leftA_second (c : Dev nD) (t : Fin cfg0.N) (h) : (leftA m c t h).second = View.canon (runA m c t h).2.2.1 := by
  rw [leftA]
theorem leftA_scr (c : Dev nD) (t : Fin cfg0.N) (h) : (leftA m c t h).scr = View.canon (runA m c t h).2.2.2.1 := by
  rw [leftA]
theorem leftA_top (c : Dev nD) (t : Fin cfg0.N) (h) : (leftA m c t h).top = View.canon (runA m c t h).2.2.2.2.1 := by
  rw [leftA]
theorem leftB_attn (c : Dev nD) (t : Fin cfg0.N) (s) (x) (h) : (leftB m c t s x h).attn = View.canon (runB m c t s x h).1 := by
  rw [leftB]
theorem leftB_first (c : Dev nD) (t : Fin cfg0.N) (s) (x) (h) : (leftB m c t s x h).first = View.canon (runB m c t s x h).2.1 := by
  rw [leftB]
theorem leftB_second (c : Dev nD) (t : Fin cfg0.N) (s) (x) (h) : (leftB m c t s x h).second = View.canon (runB m c t s x h).2.2.1 := by
  rw [leftB]
theorem leftB_scr (c : Dev nD) (t : Fin cfg0.N) (s) (x) (h) : (leftB m c t s x h).scr = View.canon (runB m c t s x h).2.2.2.1 := by
  rw [leftB]
theorem leftB_top (c : Dev nD) (t : Fin cfg0.N) (s) (x) (h) : (leftB m c t s x h).top = View.canon (runB m c t s x h).2.2.2.2.1 := by
  rw [leftB]

attribute [local irreducible] left leftA leftB

/-- The invariant before position `n`: the scratch at anything before the first point, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (left m c n hn).scr ∗ owns (c : Thread nD τ) scM0_1 fullShare (left m c n hn).top) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (left m c n hn).scr ∗ owns (c : Thread nD τ) scM0_1 fullShare (left m c n hn).top) ∗ (∃ r, prngReg c r)) := rfl

theorem PhiS_pos (c : Dev nD) (n : ℕ) (h : n ≤ cfg0.N) (hz : n ≠ 0) :
    PhiS m c n h = iprop(iprop(owns (c : Thread nD τ) scM0_0 fullShare (left m c (n - 1) (by omega)).scr ∗ owns (c : Thread nD τ) scM0_1 fullShare (left m c (n - 1) (by omega)).top) ∗ (∃ r, prngReg c r)) := by
  cases n with
  | zero => exact absurd rfl hz
  | succ n => rfl

/-- The pipeline's proof data: an input's buffer at its block, an output's at what its stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).attn
    | ⟨8, _⟩ => (left m c t.val t.isLt).first
    | ⟨9, _⟩ => (left m c t.val t.isLt).second
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (left m c t.val t.isLt).attn := by dsimp only [dats]
theorem after0_8 (c : Dev nD) (t : Fin cfg0.N) : (dats m 0 c).after 8 t = (left m c t.val t.isLt).first := by dsimp only [dats]
theorem after0_9 (c : Dev nD) (t : Fin cfg0.N) : (dats m 0 c).after 9 t = (left m c t.val t.isLt).second := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: at the first the run of case A; at a later one case B's, the scratch holding what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  by_cases hz : t.val = 0
  · have hA : cond0_0 (grid0.coords t) := first_point t hz
    rw [left_first m c t hz]
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA m c t hA).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%e7, H7⟩, ⟨%e8, H8⟩, ⟨%e9, H9⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverA_S0 m c t hA)).trans (leftA_scr m c t hA).symm
        unfold owns; iexists _; isplitr
        swap; · iexact HS1
        ipureintro; exact (View.read_writes_eq_canon _ _ _ (coverA_S1 m c t hA)).trans (leftA_top m c t hA).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact (View.read_writes_eq_canon _ _ _ (coverA_7 m c t hA)).trans (leftA_attn m c t hA).symm
    isplitl [H8]
    · unfold owns; iexists _; isplitr
      swap; · iexact H8
      ipureintro; exact (View.read_writes_eq_canon _ _ _ (coverA_8 m c t hA)).trans (leftA_first m c t hA).symm
    unfold owns; iexists _; isplitr
    swap; · iexact H9
    ipureintro; exact (View.read_writes_eq_canon _ _ _ (coverA_9 m c t hA)).trans (leftA_second m c t hA).symm
  · have hB : ¬ cond0_0 (grid0.coords t) := later_point t hz
    rw [left_later m c t hz]
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB m c t (left m c (t.val - 1) (by omega)).scr (left m c (t.val - 1) (by omega)).top hB).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%e7, H7⟩, ⟨%e8, H8⟩, ⟨%e9, H9⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverB_S0 m c t (left m c (t.val - 1) (by omega)).scr (left m c (t.val - 1) (by omega)).top hB)).trans (leftB_scr m c t (left m c (t.val - 1) (by omega)).scr (left m c (t.val - 1) (by omega)).top hB).symm
        unfold owns; iexists _; isplitr
        swap; · iexact HS1
        ipureintro; exact (View.read_writes_eq_canon _ _ _ (coverB_S1 m c t (left m c (t.val - 1) (by omega)).scr (left m c (t.val - 1) (by omega)).top hB)).trans (leftB_top m c t (left m c (t.val - 1) (by omega)).scr (left m c (t.val - 1) (by omega)).top hB).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact (View.read_writes_eq_canon _ _ _ (coverB_7 m c t (left m c (t.val - 1) (by omega)).scr (left m c (t.val - 1) (by omega)).top hB)).trans (leftB_attn m c t (left m c (t.val - 1) (by omega)).scr (left m c (t.val - 1) (by omega)).top hB).symm
    isplitl [H8]
    · unfold owns; iexists _; isplitr
      swap; · iexact H8
      ipureintro; exact (View.read_writes_eq_canon _ _ _ (coverB_8 m c t (left m c (t.val - 1) (by omega)).scr (left m c (t.val - 1) (by omega)).top hB)).trans (leftB_first m c t (left m c (t.val - 1) (by omega)).scr (left m c (t.val - 1) (by omega)).top hB).symm
    unfold owns; iexists _; isplitr
    swap; · iexact H9
    ipureintro; exact (View.read_writes_eq_canon _ _ _ (coverB_9 m c t (left m c (t.val - 1) (by omega)).scr (left m c (t.val - 1) (by omega)).top hB)).trans (leftB_second m c t (left m c (t.val - 1) (by omega)).scr (left m c (t.val - 1) (by omega)).top hB).symm

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch: every array of the pipeline ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gqa
-- ==== Proof.Row.lean ====
module

public import Idealize.ShloMosaic.Lib.Claim
public import Idealize.ShloMosaic.Lib.Pipeline.ValueKit
public import Idealize.ShloMosaic.Lib.Pointwise

/-! One row of an attention: the scores of one query against all keys, and the weighted mean of the values that they name. -/

@[expose] public section

noncomputable section

namespace Cert.Attention
open Idealize.ShloMosaic

/-- The largest of a row of scores, from minus infinity. -/
def rowMax {n : ℕ} (s : Fin n → EReal) : EReal :=
  Finset.fold max (Ideal.ofBits FTy.f32 4286578688#32) s Finset.univ

/-- The mean of `v` with weights `2 ^ (s j - max s)`. -/
def row {n : ℕ} (s v : Fin n → EReal) : EReal :=
  Ideal.div (∑ j, Ideal.exp2 (s j - rowMax s) * v j) (∑ j, Ideal.exp2 (s j - rowMax s))

/-- The score of query `r` of head `h` against key `j`, the heads of 128 lanes lying side by side in the queries, one head of keys for all. -/
def score {n : ℕ} (q : (⟨4, ![1, 1, n, 512]⟩ : Shape).Idx → EReal) (k : (⟨4, ![1, 1, 2048, 128]⟩ : Shape).Idx → EReal)
    (r : Fin n) (h : Fin 4) (j : Fin 2048) : EReal :=
  ∑ d : Fin 128, q (ix4 0 0 r ⟨h.val * 128 + d.val, by omega⟩) * k (ix4 0 0 j d)

end Cert.Attention
-- ==== Proof.Softmax.lean ====
module

public import proofs.«01_k».proof.Proof.Row

/-! Attention's row in base two is the softmax of the scores times the logarithm of two, applied to the values: for real scores, and any values. -/

@[expose] public section

noncomputable section

namespace Cert.Attention
open Idealize.ShloMosaic

/-- Minus infinity, as the programs write it. -/
theorem negInf : Ideal.ofBits FTy.f32 4286578688#32 = ⊥ := by
  simp [Ideal.ofBits, Ideal.ieee]

/-- The number two, as the reference writes it; its logarithm. -/
theorem log_two : Ideal.log (Ideal.ofBits FTy.f32 0x40000000#32) = ((Real.log 2 : ℝ) : EReal) := by
  have h : Ideal.ofBits FTy.f32 0x40000000#32 = ((2 : ℝ) : EReal) := by
    simp [Ideal.ofBits, Ideal.ieee, -EReal.coe_mul]; norm_num
  rw [h, Ideal.log_coe, if_neg (by norm_num)]

/-- A row's maximum is the score no other exceeds. -/
theorem rowMax_eq {n : ℕ} (s : Fin n → EReal) (a : Fin n) (h : ∀ j, s j ≤ s a) : rowMax s = s a := by
  unfold rowMax
  rw [negInf]
  exact le_antisymm (Finset.sup_le (f := s) fun j _ => h j) (Finset.le_sup (f := s) (Finset.mem_univ a))

/-- A sum of real numbers is real. -/
theorem coe_sum {n : ℕ} (w : Fin n → ℝ) : ∑ j, ((w j : ℝ) : EReal) = ((∑ j, w j : ℝ) : EReal) :=
  (map_sum (⟨⟨Real.toEReal, EReal.coe_zero⟩, EReal.coe_add⟩ : ℝ →+ EReal) w Finset.univ).symm

/-- A factor that is real and not negative goes into a sum, whatever the terms. -/
theorem mul_sum_of_nonneg {ι : Type} (c : ℝ) (hc : 0 ≤ c) (f : ι → EReal) (S : Finset ι) :
    (c : EReal) * ∑ j ∈ S, f j = ∑ j ∈ S, (c : EReal) * f j := by
  classical
  induction S using Finset.induction_on with
  | empty => simp
  | insert a S ha ih =>
    rw [Finset.sum_insert ha, Finset.sum_insert ha, ← ih]
    exact EReal.left_distrib_of_nonneg_of_ne_top (EReal.coe_nonneg.mpr hc) (EReal.coe_ne_top c) _ _

/-- The softmax of a row of scores, at one key: what is divided and what divides. -/
def softmaxTerm {n : ℕ} (t : Fin n → EReal) (j : Fin n) : EReal :=
  Ideal.exp (t j - max (Ideal.ofBits FTy.f32 4286578688#32) (rowMax t))

/-- The mean of the values by the softmax of the scores is the row's mean with weights powers of two. -/
theorem softmax_row {n : ℕ} (hn : 0 < n) (s v : Fin n → EReal) (r : Fin n → ℝ) (hs : ∀ j, s j = (r j : EReal)) (c : EReal)
    (hc : c = ((Real.log 2 : ℝ) : EReal)) :
    ∑ j, Ideal.div (softmaxTerm (fun x => s x * c) j) (∑ x, softmaxTerm (fun x => s x * c) x) * v j = row s v := by
  haveI : Nonempty (Fin n) := ⟨⟨0, hn⟩⟩
  obtain ⟨a, ha⟩ := Finite.exists_max r
  have hl : 0 ≤ Real.log 2 := Real.log_nonneg (by norm_num)
  have m1 : rowMax s = (r a : EReal) := by
    rw [rowMax_eq s a fun j => by rw [hs, hs]; exact EReal.coe_le_coe_iff.mpr (ha j), hs]
  have hsc : ∀ j, s j * c = ((r j * Real.log 2 : ℝ) : EReal) := fun j => by rw [hs, hc, EReal.coe_mul]
  have m2 : rowMax (fun x => s x * c) = ((r a * Real.log 2 : ℝ) : EReal) := by
    rw [rowMax_eq (fun x => s x * c) a fun j => by
      rw [hsc, hsc]; exact EReal.coe_le_coe_iff.mpr (mul_le_mul_of_nonneg_right (ha j) hl), hsc]
  set w : Fin n → ℝ := fun j => Real.exp (Real.log 2 * (r j - r a)) with hw
  have e1 : ∀ j, Ideal.exp2 (s j - rowMax s) = ((w j : ℝ) : EReal) := fun j => by
    rw [m1, hs, ← EReal.coe_sub, Ideal.exp2_coe]
    exact congrArg _ (Real.rpow_def_of_pos (by norm_num) _)
  have e2 : ∀ j, softmaxTerm (fun x => s x * c) j = ((w j : ℝ) : EReal) := fun j => by
    unfold softmaxTerm
    rw [m2, negInf, max_eq_right bot_le]
    simp only [hsc]
    rw [← EReal.coe_sub, Ideal.exp_coe]
    exact congrArg _ (congrArg _ (by ring))
  have hT : 0 < ∑ j, w j := Finset.sum_pos (fun j _ => Real.exp_pos _) Finset.univ_nonempty
  have hT' : (((∑ j, w j : ℝ)) : EReal) ≠ 0 := EReal.coe_ne_zero.mpr hT.ne'
  unfold row
  simp only [e1, e2, coe_sum]
  unfold Ideal.div
  simp only [if_neg hT']
  rw [← EReal.coe_inv, mul_comm, mul_sum_of_nonneg _ (inv_nonneg.mpr hT.le)]
  exact Finset.sum_congr rfl fun j _ => by rw [mul_comm ((w j : ℝ) : EReal), mul_assoc]

end Cert.Attention
-- ==== Proof.Gqa.Reference.lean ====
module

public import proofs.«01_k».proof.Proof.Row
public import proofs.«01_k».proof.ReferenceIdeal
public import Idealize.ShloMosaic.Lib.Pointwise
public import Idealize.ShloMosaic.Lib.Claim

/-! The reference of the grouped attention, array by array: the scores, their softmax, the values' means. -/

@[expose] public section

set_option maxRecDepth 16384

noncomputable section

namespace Cert.ReferenceIdeal
open Cert.ReferenceIdeal Cert.ReferenceIdeal.Facts₀ Cert.Attention Idealize.ShloMosaic

variable [Facts]

/-- The scores, times the logarithm of two. -/
def scores (Q : FVec Ideal S4x2x2048x512 .bf16) (K : FVec Ideal S4x2x2048x128 .bf16) : FVec Ideal S4x2x4x2048x2048 .f32 :=
  mulf (Host.dotGeneral dot_S4x2x4x2048x128_S4x2x2048x128_S4x2x4x2048x2048_4_3_23_2_01_01 none
      (transpose S4x2x4x2048x128 [0, 1, 3, 2, 4] (shapeCast _ (extf .f32 Q bitsLt_bf16_f32) shapeCasts_S4x2x2048x512_S4x2x2048x4x128)
        transposes_S4x2x2048x4x128_S4x2x4x2048x128_0_1_3_2_4) (extf .f32 K bitsLt_bf16_f32))
    (broadcastInDim S4x2x4x2048x2048 ![] bcast_S_S4x2x4x2048x2048 (Host.log (constant S_ .f32 0x40000000#32)))

/-- The exponentials of the scores less their row's maximum. -/
def exps (S : FVec Ideal S4x2x4x2048x2048 .f32) : FVec Ideal S4x2x4x2048x2048 .f32 :=
  Host.exp (subf S (broadcastInDim S4x2x4x2048x2048 ![0, 1, 2, 3, 4] bcast_S4x2x4x2048x1_S4x2x4x2048x2048_0_1_2_3_4
    (broadcastInDim S4x2x4x2048x1 ![0, 1, 2, 3] bcast_S4x2x4x2048_S4x2x4x2048x1_0_1_2_3
      (maximumf (broadcastInDim S4x2x4x2048 ![] bcast_S_S4x2x4x2048 (constant S_ .f32 0xFF800000#32))
        (Host.reduce FloatOps.maximumf S (constant S_ .f32 0xFF800000#32) reducesTo_S4x2x4x2048x2048_S4x2x4x2048_d4 h_S_)))))

/-- The exponentials over their row's sum. -/
def shares (E : FVec Ideal S4x2x4x2048x2048 .f32) : FVec Ideal S4x2x4x2048x2048 .f32 :=
  Host.divf E (broadcastInDim S4x2x4x2048x2048 ![0, 1, 2, 3, 4] bcast_S4x2x4x2048x1_S4x2x4x2048x2048_0_1_2_3_4
    (broadcastInDim S4x2x4x2048x1 ![0, 1, 2, 3] bcast_S4x2x4x2048_S4x2x4x2048x1_0_1_2_3
      (Host.reduceAdd E (constant S_ .f32 0x00000000#32) reducesTo_S4x2x4x2048x2048_S4x2x4x2048_d4 h_S_)))

/-- The values' means, the heads laid side by side. -/
def means (P : FVec Ideal S4x2x4x2048x2048 .f32) (W : FVec Ideal S4x2x2048x128 .bf16) : FVec Ideal S4x2x2048x512 .bf16 :=
  truncf .bf16 (shapeCast _ (transpose S4x2x2048x4x128 [0, 1, 3, 2, 4]
    (Host.dotGeneral dot_S4x2x4x2048x2048_S4x2x2048x128_S4x2x4x2048x128_4_2_23_3_01_01 none P (extf .f32 W bitsLt_bf16_f32))
      transposes_S4x2x4x2048x128_S4x2x2048x4x128_0_1_3_2_4) shapeCasts_S4x2x2048x4x128_S4x2x2048x512) bitsLt_bf16_f32

theorem scores_at (Q : FVec Ideal S4x2x2048x512 .bf16) (K : FVec Ideal S4x2x2048x128 .bf16) (b : Fin 4) (k : Fin 2) (h : Fin 4) (q j : Fin 2048) :
    scores Q K (ix5 b k h q j)
      = (∑ d : Fin 128, Q (ix4 b k q ⟨h.val * 128 + d.val, by omega⟩) * K (ix4 b k j d)) * Ideal.log (Ideal.ofBits FTy.f32 0x40000000#32) := by
  unfold scores
  pointwise

theorem maxes_at (S : FVec Ideal S4x2x4x2048x2048 .f32) (C : FVec Ideal S_ .f32) (x : S4x2x4x2048.Idx) :
    Host.reduce FloatOps.maximumf S C reducesTo_S4x2x4x2048x2048_S4x2x4x2048_d4 h_S_ x
      = Finset.fold max (C (Shape.Idx.first h_S_)) (fun j => S (ix5 (x 0) (x 1) (x 2) (x 3) j)) Finset.univ := by
  simp only [pointwise]

/-- The exponentials, the row's maximum any array. -/
def expsOf (S : FVec Ideal S4x2x4x2048x2048 .f32) (M : FVec Ideal S4x2x4x2048 .f32) : FVec Ideal S4x2x4x2048x2048 .f32 :=
  Host.exp (subf S (broadcastInDim S4x2x4x2048x2048 ![0, 1, 2, 3, 4] bcast_S4x2x4x2048x1_S4x2x4x2048x2048_0_1_2_3_4
    (broadcastInDim S4x2x4x2048x1 ![0, 1, 2, 3] bcast_S4x2x4x2048_S4x2x4x2048x1_0_1_2_3
      (maximumf (broadcastInDim S4x2x4x2048 ![] bcast_S_S4x2x4x2048 (constant S_ .f32 0xFF800000#32)) M))))

theorem expsOf_at (S : FVec Ideal S4x2x4x2048x2048 .f32) (M : FVec Ideal S4x2x4x2048 .f32) (b : Fin 4) (k : Fin 2) (h : Fin 4) (q j : Fin 2048) :
    expsOf S M (ix5 b k h q j)
      = Ideal.exp (S (ix5 b k h q j) - max (Ideal.ofBits FTy.f32 4286578688#32) (M (ix4 b k h q))) := by
  unfold expsOf
  pointwise

theorem exps_at (S : FVec Ideal S4x2x4x2048x2048 .f32) (b : Fin 4) (k : Fin 2) (h : Fin 4) (q j : Fin 2048) :
    exps S (ix5 b k h q j)
      = Ideal.exp (S (ix5 b k h q j) - max (Ideal.ofBits FTy.f32 4286578688#32) (rowMax fun x => S (ix5 b k h q x))) :=
  (expsOf_at S _ b k h q j).trans
    (congrArg (fun x => Ideal.exp (S (ix5 b k h q j) - max (Ideal.ofBits FTy.f32 4286578688#32) x)) (maxes_at S _ (ix4 b k h q)))

theorem shares_at (E : FVec Ideal S4x2x4x2048x2048 .f32) (b : Fin 4) (k : Fin 2) (h : Fin 4) (q j : Fin 2048) :
    shares E (ix5 b k h q j) = Ideal.div (E (ix5 b k h q j)) (∑ x, E (ix5 b k h q x)) := by
  unfold shares
  pointwise

theorem means_at (P : FVec Ideal S4x2x4x2048x2048 .f32) (W : FVec Ideal S4x2x2048x128 .bf16) (i : S4x2x2048x512.Idx) :
    means P W i = ∑ j : Fin 2048, P (ix5 (i 0) (i 1) ⟨(i 3).val / 128, by have := (i 3).isLt; simp at this; omega⟩ (i 2) j)
      * W (ix4 (i 0) (i 1) j ⟨(i 3).val % 128, by omega⟩) := by
  unfold means
  pointwise

end Cert.ReferenceIdeal
-- ==== Proof.Gqa.Body.lean ====
module

public import proofs.«01_k».proof.Proof.Gen.KernelIdeal.Frame.RunA
public import proofs.«01_k».proof.Proof.Gen.KernelIdeal.Frame.RunB
public import proofs.«01_k».proof.Proof.Row
public import Idealize.ShloMosaic.Lib.Pipeline.ReadBack

/-! What one grid point of the grouped-query attention stores, as functions of the blocks it reads: four blocks of 256 queries by four heads, each
    block's scores computed one block ahead into a scratch of two slots. -/

@[expose] public section

set_option maxRecDepth 16384

noncomputable section

namespace Cert.KernelIdeal.Gqa
open Cert.KernelIdeal Cert.KernelIdeal.Gen Cert.Attention Idealize.ShloMosaic Idealize.ShloMosaic.TcCoe Idealize.SL.Sem

/-- The attention of a point's 1024 queries, four heads side by side. -/
def attn (q : Vec Ideal S1x1x1024x512 .bf16) (k v : Vec Ideal S1x1x2048x128 .bf16) : Vec Ideal S1x1x1024x512 .bf16 := fun y =>
  row (score q k (y 2) ⟨(y 3).val / 128, by have := (y 3).isLt; simp at this; omega⟩)
    (fun j => v (ix4 0 0 j ⟨(y 3).val % 128, by omega⟩))

/-- The scores that a point leaves in the scratch: in slot 1 its own last block's, in slot 0 the next point's first block's. -/
def scr (q : Vec Ideal S1x1x1024x512 .bf16) (qn : Vec Ideal S1x1x256x512 .bf16) (k kn : Vec Ideal S1x1x2048x128 .bf16) :
    Vec Ideal S2x4x256x2048 .f32 := fun y =>
  if (y 0).val = 0 then score qn kn (y 2) (y 1) (y 3)
  else score q k ⟨768 + (y 2).val, by have := (y 2).isLt; simp at this; omega⟩ (y 1) (y 3)

/-- The row maxima of those scores. -/
def scrMax (q : Vec Ideal S1x1x1024x512 .bf16) (qn : Vec Ideal S1x1x256x512 .bf16) (k kn : Vec Ideal S1x1x2048x128 .bf16) :
    Vec Ideal S2x4x256x1 .f32 := fun y =>
  rowMax (fun j => scr q qn k kn (ix4 (y 0) (y 1) (y 2) j))

/-- One stored tile of the result, from scores and row maxima of its rows. -/
theorem tile (q : Vec Ideal S1x1x1024x512 .bf16) (k v : Vec Ideal S1x1x2048x128 .bf16) (S : Vec Ideal S1x1x256x2048 .f32) (M : Vec Ideal S1x1x256x1 .f32)
    (r0 c0 : ℕ) (inb) (h : Fin 4) (hc : c0 = h.val * 128) (hr : r0 + 256 ≤ 1024)
    (hS : ∀ (r : Fin 256) (j : Fin 2048), S (ix4 0 0 r j) = score q k ⟨r0 + r.val, by omega⟩ h j)
    (hM : ∀ r : Fin 256, M (ix4 0 0 r 0) = rowMax (score q k ⟨r0 + r.val, by omega⟩ h)) (x) :
    k0_pay36 (View.ld (Val := Elt Ideal) v (Rect.unit (s := S1x1x2048x128) ![0, 0, 0, 0] ![1, 1, 2048, 128] inb_S1x1x2048x128_S1x1x2048x128_0_0_0_0)) S M x
      = attn q k v ((Rect.unit (s := S1x1x1024x512) ![0, 0, r0, c0] ![1, 1, 256, 128] inb).emb x) := by
  have e2 : (((Rect.unit (s := S1x1x1024x512) ![0, 0, r0, c0] ![1, 1, 256, 128] inb).emb x) 2 : ℕ) = r0 + (x 2).val := Rect.idx_unit_val _ _ inb x 2
  have e3 : (((Rect.unit (s := S1x1x1024x512) ![0, 0, r0, c0] ![1, 1, 256, 128] inb).emb x) 3 : ℕ) = c0 + (x 3).val := Rect.idx_unit_val _ _ inb x 3
  have hx : (x 3).val < 128 := (x 3).isLt
  unfold attn
  generalize (Rect.unit (s := S1x1x1024x512) ![0, 0, r0, c0] ![1, 1, 256, 128] inb).emb x = y at e2 e3
  unfold_payloads
  pointwise
  have hq : (⟨(y 3).val / 128, by have := (y 3).isLt; simp at this; omega⟩ : Fin 4) = h := Fin.ext (by show (y 3).val / 128 = h.val; omega)
  have hy : y 2 = (⟨r0 + (x 2).val, by have : (x 2).val < 256 := (x 2).isLt; omega⟩ : Fin 1024) := Fin.ext e2
  rw [hq, hy]
  have hE : ∀ j : Fin 2048, FloatOps.exp2 (F := Ideal) (φ := .f32) (S (ix4 0 0 (x 2) j) - M (ix4 0 0 (x 2) 0))
      = Ideal.exp2 (score q k ⟨r0 + (x 2).val, by have : (x 2).val < 256 := (x 2).isLt; omega⟩ h j
        - rowMax (score q k ⟨r0 + (x 2).val, by have : (x 2).val < 256 := (x 2).isLt; omega⟩ h)) := fun j =>
    congrArg Ideal.exp2 (congrArg₂ (· - ·) (hS (x 2) j) (hM (x 2)))
  have h3 : (x 3 : Fin 128) = ⟨(y 3).val % 128, by omega⟩ := Fin.ext (by show (x 3).val = (y 3).val % 128; omega)
  refine congrArg₂ Ideal.div (Finset.sum_congr rfl fun j _ => congrArg₂ (· * ·) (hE j) ?_) (Finset.sum_congr rfl fun j _ => hE j)
  exact congrArg v (congrArg (ix4 0 0 j) h3)

/-- A tile whose scores the point computes itself. -/
theorem tile_own (q : Vec Ideal S1x1x1024x512 .bf16) (k v : Vec Ideal S1x1x2048x128 .bf16)
    (r0 c0 : ℕ) (inb) (inb') (h : Fin 4) (hc : c0 = h.val * 128) (hr : r0 + 256 ≤ 1024) (x) :
    k0_pay36 (View.ld (Val := Elt Ideal) v (Rect.unit (s := S1x1x2048x128) ![0, 0, 0, 0] ![1, 1, 2048, 128] inb_S1x1x2048x128_S1x1x2048x128_0_0_0_0))
      (k0_pay3 (View.ld (Val := Elt Ideal) k (Rect.unit (s := S1x1x2048x128) ![0, 0, 0, 0] ![1, 1, 2048, 128] inb_S1x1x2048x128_S1x1x2048x128_0_0_0_0))
        (View.ld (Val := Elt Ideal) q (Rect.unit (s := S1x1x1024x512) ![0, 0, r0, c0] ![1, 1, 256, 128] inb')))
      (k0_pay4 (View.ld (Val := Elt Ideal) k (Rect.unit (s := S1x1x2048x128) ![0, 0, 0, 0] ![1, 1, 2048, 128] inb_S1x1x2048x128_S1x1x2048x128_0_0_0_0))
        (View.ld (Val := Elt Ideal) q (Rect.unit (s := S1x1x1024x512) ![0, 0, r0, c0] ![1, 1, 256, 128] inb'))) x
      = attn q k v ((Rect.unit (s := S1x1x1024x512) ![0, 0, r0, c0] ![1, 1, 256, 128] inb).emb x) := by
  refine tile q k v _ _ r0 c0 inb h hc hr (fun r j => ?_) (fun r => ?_) x
  · unfold_payloads
    pointwise
    subst hc; rfl
  · unfold_payloads
    pointwise
    unfold rowMax
    congr 1
    subst hc; rfl

/-- A carried scratch: its slot 0 holds the scores of a point's first block, and their row maxima. -/
def Carried (q : Vec Ideal S1x1x1024x512 .bf16) (k : Vec Ideal S1x1x2048x128 .bf16) (X : Vec Ideal S2x4x256x2048 .f32) (Y : Vec Ideal S2x4x256x1 .f32) : Prop :=
  (∀ (h : Fin 4) (r : Fin 256) (j : Fin 2048), X (ix4 0 h r j) = score q k ⟨r.val, by omega⟩ h j)
    ∧ ∀ (h : Fin 4) (r : Fin 256), Y (ix4 0 h r 0) = rowMax (score q k ⟨r.val, by omega⟩ h)

/-- A tile whose scores the point before computed. -/
theorem tile_carried (q : Vec Ideal S1x1x1024x512 .bf16) (k v : Vec Ideal S1x1x2048x128 .bf16) (X : Vec Ideal S2x4x256x2048 .f32) (Y : Vec Ideal S2x4x256x1 .f32)
    (hXY : Carried q k X Y) (c0 n : ℕ) (inb) (inb') (inb'') (hn : n < 4) (hc : c0 = n * 128) (x) :
    k0_pay36 (View.ld (Val := Elt Ideal) v (Rect.unit (s := S1x1x2048x128) ![0, 0, 0, 0] ![1, 1, 2048, 128] inb_S1x1x2048x128_S1x1x2048x128_0_0_0_0))
      (View.ld (Val := Elt Ideal) X (Rect.unit (s := S2x4x256x2048) ![0, n, 0, 0] ![1, 1, 256, 2048] inb'))
      (View.ld (Val := Elt Ideal) Y (Rect.unit (s := S2x4x256x1) ![0, n, 0, 0] ![1, 1, 256, 1] inb'')) x
      = attn q k v ((Rect.unit (s := S1x1x1024x512) ![0, 0, 0, c0] ![1, 1, 256, 128] inb).emb x) := by
  refine tile q k v _ _ 0 c0 inb ⟨n, hn⟩ hc (by omega) (fun r j => ?_) (fun r => ?_) x
  · rw [View.ld_unit_apply_of X _ _ inb' (ix4 0 0 r j) (ix4 0 ⟨n, hn⟩ r j) fun a => ?_, hXY.1]
    · simp only [Nat.zero_add]
    · match a with
      | ⟨0, _⟩ => rfl
      | ⟨1, _⟩ => rfl
      | ⟨2, _⟩ => exact (Nat.zero_add _).symm
      | ⟨3, _⟩ => exact (Nat.zero_add _).symm
  · rw [View.ld_unit_apply_of Y _ _ inb'' (ix4 0 0 r 0) (ix4 0 ⟨n, hn⟩ r 0) fun a => ?_, hXY.2]
    · simp only [Nat.zero_add]
    · match a with
      | ⟨0, _⟩ => rfl
      | ⟨1, _⟩ => rfl
      | ⟨2, _⟩ => exact (Nat.zero_add _).symm
      | ⟨3, _⟩ => rfl

/-- The scores of the point's own last block, as stored. -/
theorem scr_own (q : Vec Ideal S1x1x1024x512 .bf16) (qn : Vec Ideal S1x1x256x512 .bf16) (k kn : Vec Ideal S1x1x2048x128 .bf16)
    (c0 n : ℕ) (inb) (inb') (hn : n < 4) (hc : c0 = n * 128) (x) :
    k0_pay3 (View.ld (Val := Elt Ideal) k (Rect.unit (s := S1x1x2048x128) ![0, 0, 0, 0] ![1, 1, 2048, 128] inb_S1x1x2048x128_S1x1x2048x128_0_0_0_0))
        (View.ld (Val := Elt Ideal) q (Rect.unit (s := S1x1x1024x512) ![0, 0, 768, c0] ![1, 1, 256, 128] inb')) x
      = scr q qn k kn ((Rect.unit (s := S2x4x256x2048) ![1, n, 0, 0] ![1, 1, 256, 2048] inb).emb x) := by
  have e : (Rect.unit (s := S2x4x256x2048) ![1, n, 0, 0] ![1, 1, 256, 2048] inb).emb x = ix4 1 ⟨n, hn⟩ (x 2) (x 3) := by
    refine funext fun a => Fin.ext ((Rect.idx_unit_val _ _ inb x a).trans ?_)
    match a with
    | ⟨0, _⟩ => have : (x 0).val < 1 := (x 0).isLt; show 1 + (x 0).val = 1; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- The scores of the next point's first block, as stored. -/
theorem scr_next (q : Vec Ideal S1x1x1024x512 .bf16) (qn : Vec Ideal S1x1x256x512 .bf16) (k kn : Vec Ideal S1x1x2048x128 .bf16)
    (c0 n : ℕ) (inb) (inb') (hn : n < 4) (hc : c0 = n * 128) (x) :
    k0_pay3 (View.ld (Val := Elt Ideal) kn (Rect.unit (s := S1x1x2048x128) ![0, 0, 0, 0] ![1, 1, 2048, 128] inb_S1x1x2048x128_S1x1x2048x128_0_0_0_0))
        (View.ld (Val := Elt Ideal) qn (Rect.unit (s := S1x1x256x512) ![0, 0, 0, c0] ![1, 1, 256, 128] inb')) x
      = scr q qn k kn ((Rect.unit (s := S2x4x256x2048) ![0, n, 0, 0] ![1, 1, 256, 2048] inb).emb x) := by
  have e : (Rect.unit (s := S2x4x256x2048) ![0, n, 0, 0] ![1, 1, 256, 2048] inb).emb x = ix4 0 ⟨n, hn⟩ (x 2) (x 3) := by
    refine funext fun a => Fin.ext ((Rect.idx_unit_val _ _ inb x a).trans ?_)
    match a with
    | ⟨0, _⟩ => have : (x 0).val < 1 := (x 0).isLt; show 0 + (x 0).val = 0; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- The row maxima of the point's own last block, as stored. -/
theorem scrMax_own (q : Vec Ideal S1x1x1024x512 .bf16) (qn : Vec Ideal S1x1x256x512 .bf16) (k kn : Vec Ideal S1x1x2048x128 .bf16)
    (c0 n : ℕ) (inb) (inb') (hn : n < 4) (hc : c0 = n * 128) (x) :
    k0_pay4 (View.ld (Val := Elt Ideal) k (Rect.unit (s := S1x1x2048x128) ![0, 0, 0, 0] ![1, 1, 2048, 128] inb_S1x1x2048x128_S1x1x2048x128_0_0_0_0))
        (View.ld (Val := Elt Ideal) q (Rect.unit (s := S1x1x1024x512) ![0, 0, 768, c0] ![1, 1, 256, 128] inb')) x
      = scrMax q qn k kn ((Rect.unit (s := S2x4x256x1) ![1, n, 0, 0] ![1, 1, 256, 1] inb).emb x) := by
  have e : (Rect.unit (s := S2x4x256x1) ![1, n, 0, 0] ![1, 1, 256, 1] inb).emb x = ix4 1 ⟨n, hn⟩ (x 2) (x 3) := by
    refine funext fun a => Fin.ext ((Rect.idx_unit_val _ _ inb x a).trans ?_)
    match a with
    | ⟨0, _⟩ => have : (x 0).val < 1 := (x 0).isLt; show 1 + (x 0).val = 1; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- The row maxima of the next point's first block, as stored. -/
theorem scrMax_next (q : Vec Ideal S1x1x1024x512 .bf16) (qn : Vec Ideal S1x1x256x512 .bf16) (k kn : Vec Ideal S1x1x2048x128 .bf16)
    (c0 n : ℕ) (inb) (inb') (hn : n < 4) (hc : c0 = n * 128) (x) :
    k0_pay4 (View.ld (Val := Elt Ideal) kn (Rect.unit (s := S1x1x2048x128) ![0, 0, 0, 0] ![1, 1, 2048, 128] inb_S1x1x2048x128_S1x1x2048x128_0_0_0_0))
        (View.ld (Val := Elt Ideal) qn (Rect.unit (s := S1x1x256x512) ![0, 0, 0, c0] ![1, 1, 256, 128] inb')) x
      = scrMax q qn k kn ((Rect.unit (s := S2x4x256x1) ![0, n, 0, 0] ![1, 1, 256, 1] inb).emb x) := by
  have e : (Rect.unit (s := S2x4x256x1) ![0, n, 0, 0] ![1, 1, 256, 1] inb).emb x = ix4 0 ⟨n, hn⟩ (x 2) (x 3) := by
    refine funext fun a => Fin.ext ((Rect.idx_unit_val _ _ inb x a).trans ?_)
    match a with
    | ⟨0, _⟩ => have : (x 0).val < 1 := (x 0).isLt; show 0 + (x 0).val = 0; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- A block of rows of the second weight, its columns cut into eight slabs. -/
def slabs (w : Vec Ideal S128x8192 .f32) : Vec Ideal S8x128x1024 .bf16 := fun y =>
  w (ix2 (y 1) ⟨(y 0).val * 1024 + (y 2).val, by
    have h0 : (y 0).val < 8 := (y 0).isLt
    have h2 : (y 2).val < 1024 := (y 2).isLt
    omega⟩)

/-- A cast tile of the first weight: at the ideal instance a cast changes nothing. -/
theorem copy_tile (w : Vec Ideal S512x2048 .f32) (r : ℕ) (inb) (inb') (x) :
    k0_pay27 (View.ld (Val := Elt Ideal) w (Rect.unit (s := S512x2048) ![r, 0] ![128, 2048] inb)) x
      = w ((Rect.unit (s := S512x2048) ![r, 0] ![128, 2048] inb').emb x) := rfl

/-- A cast tile of the second weight, stored into its slab. -/
theorem slab_tile (w : Vec Ideal S128x8192 .f32) (n r c0 : ℕ) (inb) (inb') (hn : n < 8) (hr : r + 32 ≤ 128) (hc : c0 = n * 1024) (x) :
    k0_pay28 (View.ld (Val := Elt Ideal) w (Rect.unit (s := S128x8192) ![r, c0] ![32, 1024] inb)) x
      = slabs w ((Rect.unit (s := S8x128x1024) ![n, r, 0] ![1, 32, 1024] inb').emb x) := by
  have e : (Rect.unit (s := S8x128x1024) ![n, r, 0] ![1, 32, 1024] inb').emb x
      = ix3 ⟨n, hn⟩ ⟨r + (x 1).val, by have : (x 1).val < 32 := (x 1).isLt; omega⟩ (x 2) := by
    refine funext fun a => Fin.ext ((Rect.idx_unit_val _ _ inb' x a).trans ?_)
    match a with
    | ⟨0, _⟩ => have : (x 0).val < 1 := (x 0).isLt; show n + (x 0).val = n; omega
    | ⟨1, _⟩ => rfl
    | ⟨2, _⟩ => exact Nat.zero_add _
  rw [e]
  unfold_payloads
  pointwise
  subst hc; rfl

end Cert.KernelIdeal.Gqa
-- ==== Proof.Gqa.Points.lean ====
module

public import proofs.«01_k».proof.Proof.Gqa.Body

/-! What the stores of one grid point leave in each buffer. -/

@[expose] public section

set_option maxRecDepth 16384

noncomputable section

namespace Cert.KernelIdeal.Gqa
open Cert.KernelIdeal Cert.KernelIdeal.Gen Cert.Attention Idealize.ShloMosaic Idealize.ShloMosaic.TcCoe Idealize.SL.Sem

variable (c : Dev nD) (t : Fin cfg0.N)
  (x0 : Vec Ideal S1x1x1024x512 .bf16) (x1 : Vec Ideal S1x1x256x512 .bf16) (x2 x3 x4 : Vec Ideal S1x1x2048x128 .bf16)
  (x5 : Vec Ideal S512x2048 .f32) (x6 : Vec Ideal S128x8192 .f32) (xs0 : Vec Ideal S2x4x256x2048 .f32) (xs1 : Vec Ideal S2x4x256x1 .f32)

/-- The body's run at the first point of the grid, on the point's own buffers. -/
abbrev runA (h : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 x6

/-- The body's run at a later point. -/
abbrev runB (h : ¬ cond0_0 (grid0.coords t)) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) h x0 x1 x2 x3 x4 x5 x6 xs0 xs1

theorem coverA_7 (h) (y) : ∃ p ∈ (runA c t x0 x1 x2 x3 x4 x5 x6 h).1, y ∈ p.1.set :=
  View.cover_of_tiledL (runA c t x0 x1 x2 x3 x4 x5 x6 h).1 S1x1x256x128.size (by sl_kernel_rfl) y

set_option maxHeartbeats 1000000 in
/-- Read back, the attention at a point of case A. -/
theorem canonA_7 (h) : View.canon (runA c t x0 x1 x2 x3 x4 x5 x6 h).1 = attn x0 x2 x4 := by
  funext y
  have hcov := coverA_7 c t x0 x1 x2 x3 x4 x5 x6 h y
  revert hcov
  unfold runA kernelRun0_A
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  intro hcov
  refine View.canon_append_of_piecesOf (attn x0 x2 x4) [] _ ?_ y hcov
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tile_own x0 x2 x4 768 384 (by decide) (by decide) 3 rfl (by omega) x
  · exact tile_own x0 x2 x4 768 256 (by decide) (by decide) 2 rfl (by omega) x
  · exact tile_own x0 x2 x4 768 128 (by decide) (by decide) 1 rfl (by omega) x
  · exact tile_own x0 x2 x4 768 0 (by decide) (by decide) 0 rfl (by omega) x
  · exact tile_own x0 x2 x4 512 384 (by decide) (by decide) 3 rfl (by omega) x
  · exact tile_own x0 x2 x4 512 256 (by decide) (by decide) 2 rfl (by omega) x
  · exact tile_own x0 x2 x4 512 128 (by decide) (by decide) 1 rfl (by omega) x
  · exact tile_own x0 x2 x4 512 0 (by decide) (by decide) 0 rfl (by omega) x
  · exact tile_own x0 x2 x4 256 384 (by decide) (by decide) 3 rfl (by omega) x
  · exact tile_own x0 x2 x4 256 256 (by decide) (by decide) 2 rfl (by omega) x
  · exact tile_own x0 x2 x4 256 128 (by decide) (by decide) 1 rfl (by omega) x
  · exact tile_own x0 x2 x4 256 0 (by decide) (by decide) 0 rfl (by omega) x
  · exact tile_own x0 x2 x4 0 384 (by decide) (by decide) 3 rfl (by omega) x
  · exact tile_own x0 x2 x4 0 256 (by decide) (by decide) 2 rfl (by omega) x
  · exact tile_own x0 x2 x4 0 128 (by decide) (by decide) 1 rfl (by omega) x
  · exact tile_own x0 x2 x4 0 0 (by decide) (by decide) 0 rfl (by omega) x

theorem coverA_8 (h) (y) : ∃ p ∈ (runA c t x0 x1 x2 x3 x4 x5 x6 h).2.1, y ∈ p.1.set :=
  View.cover_of_tiledL (runA c t x0 x1 x2 x3 x4 x5 x6 h).2.1 S128x2048.size (by sl_kernel_rfl) y

set_option maxHeartbeats 1000000 in
/-- Read back, the first cast weight at a point of case A. -/
theorem canonA_8 (h) : View.canon (runA c t x0 x1 x2 x3 x4 x5 x6 h).2.1 = x5 := by
  funext y
  have hcov := coverA_8 c t x0 x1 x2 x3 x4 x5 x6 h y
  revert hcov
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  intro hcov
  refine View.canon_append_of_piecesOf (x5) [] _ ?_ y hcov
  refine ⟨fun x => ?_, fun x => ?_, fun x => ?_, fun x => ?_, trivial⟩
  · exact copy_tile x5 384 (by decide) (by decide) x
  · exact copy_tile x5 256 (by decide) (by decide) x
  · exact copy_tile x5 128 (by decide) (by decide) x
  · exact copy_tile x5 0 (by decide) (by decide) x

theorem coverA_9 (h) (y) : ∃ p ∈ (runA c t x0 x1 x2 x3 x4 x5 x6 h).2.2.1, y ∈ p.1.set :=
  View.cover_of_tiledL (runA c t x0 x1 x2 x3 x4 x5 x6 h).2.2.1 S1x32x1024.size (by sl_kernel_rfl) y

set_option maxHeartbeats 4000000 in
/-- Read back, the second cast weight at a point of case A. -/
theorem canonA_9 (h) : View.canon (runA c t x0 x1 x2 x3 x4 x5 x6 h).2.2.1 = slabs x6 := by
  funext y
  have hcov := coverA_9 c t x0 x1 x2 x3 x4 x5 x6 h y
  revert hcov
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  intro hcov
  refine View.canon_append_of_piecesOf (slabs x6) [] _ ?_ y hcov
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact slab_tile x6 7 96 7168 (by decide) (by decide) (by omega) (by omega) rfl x
  · exact slab_tile x6 6 96 6144 (by decide) (by decide) (by omega) (by omega) rfl x
  · exact slab_tile x6 5 96 5120 (by decide) (by decide) (by omega) (by omega) rfl x
  · exact slab_tile x6 4 96 4096 (by decide) (by decide) (by omega) (by omega) rfl x
  · exact slab_tile x6 3 96 3072 (by decide) (by decide) (by omega) (by omega) rfl x
  · exact slab_tile x6 2 96 2048 (by decide) (by decide) (by omega) (by omega) rfl x
  · exact slab_tile x6 1 96 1024 (by decide) (by decide) (by omega) (by omega) rfl x
  · exact slab_tile x6 0 96 0 (by decide) (by decide) (by omega) (by omega) rfl x
  · exact slab_tile x6 7 64 7168 (by decide) (by decide) (by omega) (by omega) rfl x
  · exact slab_tile x6 6 64 6144 (by decide) (by decide) (by omega) (by omega) rfl x
  · exact slab_tile x6 5 64 5120 (by decide) (by decide) (by omega) (by omega) rfl x
  · exact slab_tile x6 4 64 4096 (by decide) (by decide) (by omega) (by omega) rfl x
  · exact slab_tile x6 3 64 3072 (by decide) (by decide) (by omega) (by omega) rfl x
  · exact slab_tile x6 2 64 2048 (by decide) (by decide) (by omega) (by omega) rfl x
  · exact slab_tile x6 1 64 1024 (by decide) (by decide) (by omega) (by omega) rfl x
  · exact slab_tile x6 0 64 0 (by decide) (by decide) (by omega) (by omega) rfl x
  · exact slab_tile x6 7 32 7168 (by decide) (by decide) (by omega) (by omega) rfl x
  · exact slab_tile x6 6 32 6144 (by decide) (by decide) (by omega) (by omega) rfl x
  · exact slab_tile x6 5 32 5120 (by decide) (by decide) (by omega) (by omega) rfl x
  · exact slab_tile x6 4 32 4096 (by decide) (by decide) (by omega) (by omega) rfl x
  · exact slab_tile x6 3 32 3072 (by decide) (by decide) (by omega) (by omega) rfl x
  · exact slab_tile x6 2 32 2048 (by decide) (by decide) (by omega) (by omega) rfl x
  · exact slab_tile x6 1 32 1024 (by decide) (by decide) (by omega) (by omega) rfl x
  · exact slab_tile x6 0 32 0 (by decide) (by decide) (by omega) (by omega) rfl x
  · exact slab_tile x6 7 0 7168 (by decide) (by decide) (by omega) (by omega) rfl x
  · exact slab_tile x6 6 0 6144 (by decide) (by decide) (by omega) (by omega) rfl x
  · exact slab_tile x6 5 0 5120 (by decide) (by decide) (by omega) (by omega) rfl x
  · exact slab_tile x6 4 0 4096 (by decide) (by decide) (by omega) (by omega) rfl x
  · exact slab_tile x6 3 0 3072 (by decide) (by decide) (by omega) (by omega) rfl x
  · exact slab_tile x6 2 0 2048 (by decide) (by decide) (by omega) (by omega) rfl x
  · exact slab_tile x6 1 0 1024 (by decide) (by decide) (by omega) (by omega) rfl x
  · exact slab_tile x6 0 0 0 (by decide) (by decide) (by omega) (by omega) rfl x

theorem coverB_7 (h) (y) : ∃ p ∈ (runB c t x0 x1 x2 x3 x4 x5 x6 xs0 xs1 h).1, y ∈ p.1.set :=
  View.cover_of_tiledL (runB c t x0 x1 x2 x3 x4 x5 x6 xs0 xs1 h).1 S1x1x256x128.size (by sl_kernel_rfl) y

set_option maxHeartbeats 1000000 in
/-- Read back, the attention at a point of case B. -/
theorem canonB_7 (h) (hc : Carried x0 x2 xs0 xs1) : View.canon (runB c t x0 x1 x2 x3 x4 x5 x6 xs0 xs1 h).1 = attn x0 x2 x4 := by
  funext y
  have hcov := coverB_7 c t x0 x1 x2 x3 x4 x5 x6 xs0 xs1 h y
  revert hcov
  unfold runB kernelRun0_B
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  intro hcov
  refine View.canon_append_of_piecesOf (attn x0 x2 x4) [] _ ?_ y hcov
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tile_own x0 x2 x4 768 384 (by decide) (by decide) 3 rfl (by omega) x
  · exact tile_own x0 x2 x4 768 256 (by decide) (by decide) 2 rfl (by omega) x
  · exact tile_own x0 x2 x4 768 128 (by decide) (by decide) 1 rfl (by omega) x
  · exact tile_own x0 x2 x4 768 0 (by decide) (by decide) 0 rfl (by omega) x
  · exact tile_own x0 x2 x4 512 384 (by decide) (by decide) 3 rfl (by omega) x
  · exact tile_own x0 x2 x4 512 256 (by decide) (by decide) 2 rfl (by omega) x
  · exact tile_own x0 x2 x4 512 128 (by decide) (by decide) 1 rfl (by omega) x
  · exact tile_own x0 x2 x4 512 0 (by decide) (by decide) 0 rfl (by omega) x
  · exact tile_own x0 x2 x4 256 384 (by decide) (by decide) 3 rfl (by omega) x
  · exact tile_own x0 x2 x4 256 256 (by decide) (by decide) 2 rfl (by omega) x
  · exact tile_own x0 x2 x4 256 128 (by decide) (by decide) 1 rfl (by omega) x
  · exact tile_own x0 x2 x4 256 0 (by decide) (by decide) 0 rfl (by omega) x
  · exact tile_carried x0 x2 x4 xs0 xs1 hc 384 3 (by decide) (by decide) (by decide) (by omega) rfl x
  · exact tile_carried x0 x2 x4 xs0 xs1 hc 256 2 (by decide) (by decide) (by decide) (by omega) rfl x
  · exact tile_carried x0 x2 x4 xs0 xs1 hc 128 1 (by decide) (by decide) (by decide) (by omega) rfl x
  · exact tile_carried x0 x2 x4 xs0 xs1 hc 0 0 (by decide) (by decide) (by decide) (by omega) rfl x

theorem coverB_8 (h) (y) : ∃ p ∈ (runB c t x0 x1 x2 x3 x4 x5 x6 xs0 xs1 h).2.1, y ∈ p.1.set :=
  View.cover_of_tiledL (runB c t x0 x1 x2 x3 x4 x5 x6 xs0 xs1 h).2.1 S128x2048.size (by sl_kernel_rfl) y

set_option maxHeartbeats 1000000 in
/-- Read back, the first cast weight at a point of case B. -/
theorem canonB_8 (h) : View.canon (runB c t x0 x1 x2 x3 x4 x5 x6 xs0 xs1 h).2.1 = x5 := by
  funext y
  have hcov := coverB_8 c t x0 x1 x2 x3 x4 x5 x6 xs0 xs1 h y
  revert hcov
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  intro hcov
  refine View.canon_append_of_piecesOf (x5) [] _ ?_ y hcov
  refine ⟨fun x => ?_, fun x => ?_, fun x => ?_, fun x => ?_, trivial⟩
  · exact copy_tile x5 384 (by decide) (by decide) x
  · exact copy_tile x5 256 (by decide) (by decide) x
  · exact copy_tile x5 128 (by decide) (by decide) x
  · exact copy_tile x5 0 (by decide) (by decide) x

theorem coverB_9 (h) (y) : ∃ p ∈ (runB c t x0 x1 x2 x3 x4 x5 x6 xs0 xs1 h).2.2.1, y ∈ p.1.set :=
  View.cover_of_tiledL (runB c t x0 x1 x2 x3 x4 x5 x6 xs0 xs1 h).2.2.1 S1x32x1024.size (by sl_kernel_rfl) y

set_option maxHeartbeats 4000000 in
/-- Read back, the second cast weight at a point of case B. -/
theorem canonB_9 (h) : View.canon (runB c t x0 x1 x2 x3 x4 x5 x6 xs0 xs1 h).2.2.1 = slabs x6 := by
  funext y
  have hcov := coverB_9 c t x0 x1 x2 x3 x4 x5 x6 xs0 xs1 h y
  revert hcov
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  intro hcov
  refine View.canon_append_of_piecesOf (slabs x6) [] _ ?_ y hcov
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact slab_tile x6 7 96 7168 (by decide) (by decide) (by omega) (by omega) rfl x
  · exact slab_tile x6 6 96 6144 (by decide) (by decide) (by omega) (by omega) rfl x
  · exact slab_tile x6 5 96 5120 (by decide) (by decide) (by omega) (by omega) rfl x
  · exact slab_tile x6 4 96 4096 (by decide) (by decide) (by omega) (by omega) rfl x
  · exact slab_tile x6 3 96 3072 (by decide) (by decide) (by omega) (by omega) rfl x
  · exact slab_tile x6 2 96 2048 (by decide) (by decide) (by omega) (by omega) rfl x
  · exact slab_tile x6 1 96 1024 (by decide) (by decide) (by omega) (by omega) rfl x
  · exact slab_tile x6 0 96 0 (by decide) (by decide) (by omega) (by omega) rfl x
  · exact slab_tile x6 7 64 7168 (by decide) (by decide) (by omega) (by omega) rfl x
  · exact slab_tile x6 6 64 6144 (by decide) (by decide) (by omega) (by omega) rfl x
  · exact slab_tile x6 5 64 5120 (by decide) (by decide) (by omega) (by omega) rfl x
  · exact slab_tile x6 4 64 4096 (by decide) (by decide) (by omega) (by omega) rfl x
  · exact slab_tile x6 3 64 3072 (by decide) (by decide) (by omega) (by omega) rfl x
  · exact slab_tile x6 2 64 2048 (by decide) (by decide) (by omega) (by omega) rfl x
  · exact slab_tile x6 1 64 1024 (by decide) (by decide) (by omega) (by omega) rfl x
  · exact slab_tile x6 0 64 0 (by decide) (by decide) (by omega) (by omega) rfl x
  · exact slab_tile x6 7 32 7168 (by decide) (by decide) (by omega) (by omega) rfl x
  · exact slab_tile x6 6 32 6144 (by decide) (by decide) (by omega) (by omega) rfl x
  · exact slab_tile x6 5 32 5120 (by decide) (by decide) (by omega) (by omega) rfl x
  · exact slab_tile x6 4 32 4096 (by decide) (by decide) (by omega) (by omega) rfl x
  · exact slab_tile x6 3 32 3072 (by decide) (by decide) (by omega) (by omega) rfl x
  · exact slab_tile x6 2 32 2048 (by decide) (by decide) (by omega) (by omega) rfl x
  · exact slab_tile x6 1 32 1024 (by decide) (by decide) (by omega) (by omega) rfl x
  · exact slab_tile x6 0 32 0 (by decide) (by decide) (by omega) (by omega) rfl x
  · exact slab_tile x6 7 0 7168 (by decide) (by decide) (by omega) (by omega) rfl x
  · exact slab_tile x6 6 0 6144 (by decide) (by decide) (by omega) (by omega) rfl x
  · exact slab_tile x6 5 0 5120 (by decide) (by decide) (by omega) (by omega) rfl x
  · exact slab_tile x6 4 0 4096 (by decide) (by decide) (by omega) (by omega) rfl x
  · exact slab_tile x6 3 0 3072 (by decide) (by decide) (by omega) (by omega) rfl x
  · exact slab_tile x6 2 0 2048 (by decide) (by decide) (by omega) (by omega) rfl x
  · exact slab_tile x6 1 0 1024 (by decide) (by decide) (by omega) (by omega) rfl x
  · exact slab_tile x6 0 0 0 (by decide) (by decide) (by omega) (by omega) rfl x

end Cert.KernelIdeal.Gqa
-- ==== Proof.Gqa.Scratch.lean ====
module

public import proofs.«01_k».proof.Proof.Gqa.Points

/-! What the stores of one grid point leave in the scratch it carries to the next. -/

@[expose] public section

set_option maxRecDepth 16384

noncomputable section

namespace Cert.KernelIdeal.Gqa
open Cert.KernelIdeal Cert.KernelIdeal.Gen Cert.Attention Idealize.ShloMosaic Idealize.ShloMosaic.TcCoe Idealize.SL.Sem

variable (c : Dev nD) (t : Fin cfg0.N)
  (x0 : Vec Ideal S1x1x1024x512 .bf16) (x1 : Vec Ideal S1x1x256x512 .bf16) (x2 x3 x4 : Vec Ideal S1x1x2048x128 .bf16)
  (x5 : Vec Ideal S512x2048 .f32) (x6 : Vec Ideal S128x8192 .f32) (xs0 : Vec Ideal S2x4x256x2048 .f32) (xs1 : Vec Ideal S2x4x256x1 .f32)

/-- A value at an index, from an equal function's. -/
theorem at_of_eq {α β : Type _} {p p' : α → β} {x : α} {b : β} (h : p' x = b) (hp : p = p') : p x = b := hp ▸ h

theorem coverA_S0 (h) (y) : ∃ p ∈ (runA c t x0 x1 x2 x3 x4 x5 x6 h).2.2.2.1, y ∈ p.1.set :=
  View.cover_of_tiledL (runA c t x0 x1 x2 x3 x4 x5 x6 h).2.2.2.1 S1x1x256x2048.size (by sl_kernel_rfl) y

set_option maxHeartbeats 1000000 in
/-- Read back, the scratch of scores at a point of case A. -/
theorem canonA_S0 (h) : View.canon (runA c t x0 x1 x2 x3 x4 x5 x6 h).2.2.2.1 = scr x0 x1 x2 x3 := by
  funext y
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  refine View.canon_append_of_piecesOf (scr x0 x1 x2 x3) [_, _, _, _, _, _, _, _, _, _, _, _] [_, _, _, _, _, _, _, _] ?_ y ?_
  rotate_left
  · exact View.cover_of_tiledL (s := S2x4x256x2048) _ S1x1x256x2048.size (by sl_kernel_rfl) y
  refine ⟨fun x => ?_, fun x => ?_, fun x => ?_, fun x => ?_, fun x => ?_, fun x => ?_, fun x => ?_, fun x => ?_, trivial⟩
  · exact at_of_eq (scr_next x0 x1 x2 x3 384 3 (by decide) (by decide) (by omega) rfl x) rfl
  · exact at_of_eq (scr_next x0 x1 x2 x3 256 2 (by decide) (by decide) (by omega) rfl x) rfl
  · exact at_of_eq (scr_next x0 x1 x2 x3 128 1 (by decide) (by decide) (by omega) rfl x) rfl
  · exact at_of_eq (scr_next x0 x1 x2 x3 0 0 (by decide) (by decide) (by omega) rfl x) rfl
  · exact at_of_eq (scr_own x0 x1 x2 x3 384 3 (by decide) (by decide) (by omega) rfl x) rfl
  · exact at_of_eq (scr_own x0 x1 x2 x3 256 2 (by decide) (by decide) (by omega) rfl x) rfl
  · exact at_of_eq (scr_own x0 x1 x2 x3 128 1 (by decide) (by decide) (by omega) rfl x) rfl
  · exact at_of_eq (scr_own x0 x1 x2 x3 0 0 (by decide) (by decide) (by omega) rfl x) rfl

theorem coverA_S1 (h) (y) : ∃ p ∈ (runA c t x0 x1 x2 x3 x4 x5 x6 h).2.2.2.2.1, y ∈ p.1.set :=
  View.cover_of_tiledL (runA c t x0 x1 x2 x3 x4 x5 x6 h).2.2.2.2.1 S1x1x256x1.size (by sl_kernel_rfl) y

set_option maxHeartbeats 1000000 in
/-- Read back, the scratch of row maxima at a point of case A. -/
theorem canonA_S1 (h) : View.canon (runA c t x0 x1 x2 x3 x4 x5 x6 h).2.2.2.2.1 = scrMax x0 x1 x2 x3 := by
  funext y
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  refine View.canon_append_of_piecesOf (scrMax x0 x1 x2 x3) [_, _, _, _, _, _, _, _, _, _, _, _] [_, _, _, _, _, _, _, _] ?_ y ?_
  rotate_left
  · exact View.cover_of_tiledL (s := S2x4x256x1) _ S1x1x256x1.size (by sl_kernel_rfl) y
  refine ⟨fun x => ?_, fun x => ?_, fun x => ?_, fun x => ?_, fun x => ?_, fun x => ?_, fun x => ?_, fun x => ?_, trivial⟩
  · exact at_of_eq (scrMax_next x0 x1 x2 x3 384 3 (by decide) (by decide) (by omega) rfl x) (by unfold_payloads; dsimp only)
  · exact at_of_eq (scrMax_next x0 x1 x2 x3 256 2 (by decide) (by decide) (by omega) rfl x) (by unfold_payloads; dsimp only)
  · exact at_of_eq (scrMax_next x0 x1 x2 x3 128 1 (by decide) (by decide) (by omega) rfl x) (by unfold_payloads; dsimp only)
  · exact at_of_eq (scrMax_next x0 x1 x2 x3 0 0 (by decide) (by decide) (by omega) rfl x) (by unfold_payloads; dsimp only)
  · exact at_of_eq (scrMax_own x0 x1 x2 x3 384 3 (by decide) (by decide) (by omega) rfl x) (by unfold_payloads; dsimp only)
  · exact at_of_eq (scrMax_own x0 x1 x2 x3 256 2 (by decide) (by decide) (by omega) rfl x) (by unfold_payloads; dsimp only)
  · exact at_of_eq (scrMax_own x0 x1 x2 x3 128 1 (by decide) (by decide) (by omega) rfl x) (by unfold_payloads; dsimp only)
  · exact at_of_eq (scrMax_own x0 x1 x2 x3 0 0 (by decide) (by decide) (by omega) rfl x) (by unfold_payloads; dsimp only)

theorem coverB_S0 (h) (y) : ∃ p ∈ (runB c t x0 x1 x2 x3 x4 x5 x6 xs0 xs1 h).2.2.2.1, y ∈ p.1.set :=
  View.cover_of_tiledL (runB c t x0 x1 x2 x3 x4 x5 x6 xs0 xs1 h).2.2.2.1 S1x1x256x2048.size (by sl_kernel_rfl) y

set_option maxHeartbeats 1000000 in
/-- Read back, the scratch of scores at a point of case B. -/
theorem canonB_S0 (h) : View.canon (runB c t x0 x1 x2 x3 x4 x5 x6 xs0 xs1 h).2.2.2.1 = scr x0 x1 x2 x3 := by
  funext y
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  refine View.canon_append_of_piecesOf (scr x0 x1 x2 x3) [_, _, _, _, _, _, _, _] [_, _, _, _, _, _, _, _] ?_ y ?_
  rotate_left
  · exact View.cover_of_tiledL (s := S2x4x256x2048) _ S1x1x256x2048.size (by sl_kernel_rfl) y
  refine ⟨fun x => ?_, fun x => ?_, fun x => ?_, fun x => ?_, fun x => ?_, fun x => ?_, fun x => ?_, fun x => ?_, trivial⟩
  · exact at_of_eq (scr_next x0 x1 x2 x3 384 3 (by decide) (by decide) (by omega) rfl x) rfl
  · exact at_of_eq (scr_next x0 x1 x2 x3 256 2 (by decide) (by decide) (by omega) rfl x) rfl
  · exact at_of_eq (scr_next x0 x1 x2 x3 128 1 (by decide) (by decide) (by omega) rfl x) rfl
  · exact at_of_eq (scr_next x0 x1 x2 x3 0 0 (by decide) (by decide) (by omega) rfl x) rfl
  · exact at_of_eq (scr_own x0 x1 x2 x3 384 3 (by decide) (by decide) (by omega) rfl x) rfl
  · exact at_of_eq (scr_own x0 x1 x2 x3 256 2 (by decide) (by decide) (by omega) rfl x) rfl
  · exact at_of_eq (scr_own x0 x1 x2 x3 128 1 (by decide) (by decide) (by omega) rfl x) rfl
  · exact at_of_eq (scr_own x0 x1 x2 x3 0 0 (by decide) (by decide) (by omega) rfl x) rfl

theorem coverB_S1 (h) (y) : ∃ p ∈ (runB c t x0 x1 x2 x3 x4 x5 x6 xs0 xs1 h).2.2.2.2.1, y ∈ p.1.set :=
  View.cover_of_tiledL (runB c t x0 x1 x2 x3 x4 x5 x6 xs0 xs1 h).2.2.2.2.1 S1x1x256x1.size (by sl_kernel_rfl) y

set_option maxHeartbeats 1000000 in
/-- Read back, the scratch of row maxima at a point of case B. -/
theorem canonB_S1 (h) : View.canon (runB c t x0 x1 x2 x3 x4 x5 x6 xs0 xs1 h).2.2.2.2.1 = scrMax x0 x1 x2 x3 := by
  funext y
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  refine View.canon_append_of_piecesOf (scrMax x0 x1 x2 x3) [_, _, _, _, _, _, _, _] [_, _, _, _, _, _, _, _] ?_ y ?_
  rotate_left
  · exact View.cover_of_tiledL (s := S2x4x256x1) _ S1x1x256x1.size (by sl_kernel_rfl) y
  refine ⟨fun x => ?_, fun x => ?_, fun x => ?_, fun x => ?_, fun x => ?_, fun x => ?_, fun x => ?_, fun x => ?_, trivial⟩
  · exact at_of_eq (scrMax_next x0 x1 x2 x3 384 3 (by decide) (by decide) (by omega) rfl x) (by unfold_payloads; dsimp only)
  · exact at_of_eq (scrMax_next x0 x1 x2 x3 256 2 (by decide) (by decide) (by omega) rfl x) (by unfold_payloads; dsimp only)
  · exact at_of_eq (scrMax_next x0 x1 x2 x3 128 1 (by decide) (by decide) (by omega) rfl x) (by unfold_payloads; dsimp only)
  · exact at_of_eq (scrMax_next x0 x1 x2 x3 0 0 (by decide) (by decide) (by omega) rfl x) (by unfold_payloads; dsimp only)
  · exact at_of_eq (scrMax_own x0 x1 x2 x3 384 3 (by decide) (by decide) (by omega) rfl x) (by unfold_payloads; dsimp only)
  · exact at_of_eq (scrMax_own x0 x1 x2 x3 256 2 (by decide) (by decide) (by omega) rfl x) (by unfold_payloads; dsimp only)
  · exact at_of_eq (scrMax_own x0 x1 x2 x3 128 1 (by decide) (by decide) (by omega) rfl x) (by unfold_payloads; dsimp only)
  · exact at_of_eq (scrMax_own x0 x1 x2 x3 0 0 (by decide) (by decide) (by omega) rfl x) (by unfold_payloads; dsimp only)

end Cert.KernelIdeal.Gqa
-- ==== Proof.Gqa.Blocks.lean ====
module

public import proofs.«01_k».proof.Proof.Gqa.Scratch
public import Idealize.ShloMosaic.Lib.Pipeline.ValueKit

/-! Which elements of the arrays a grid point's blocks hold: point `t` is batch `t / 4`, key/value head `t / 2 % 2`, half `t % 2` of the queries. -/

@[expose] public section

set_option maxRecDepth 16384

noncomputable section

namespace Cert.KernelIdeal.Gqa
open Cert.KernelIdeal Cert.KernelIdeal.Gen Cert.Attention Idealize.ShloMosaic Idealize.ShloMosaic.TcCoe Idealize.SL.Sem

variable (m : (ℓ : Loc nD τ sig) → Buf (Elt Ideal) ℓ) (c : Dev nD)

theorem idx0 : ∀ t : Fin grid0.N, (cfg0.win 0).index t = ![t.val / 4, t.val / 2 % 2, t.val % 2, 0] := by decide +kernel
theorem idx1 : ∀ t : Fin grid0.N, t.val < 15 → (cfg0.win 1).index t = ![(t.val + 1) / 4, (t.val + 1) / 2 % 2, (t.val + 1) % 2 * 4, 0] := by decide +kernel
theorem idx2 : ∀ t : Fin grid0.N, (cfg0.win 2).index t = ![t.val / 4, t.val / 2 % 2, 0, 0] := by decide +kernel
theorem idx3 : ∀ t : Fin grid0.N, t.val < 15 → (cfg0.win 3).index t = ![(t.val + 1) / 4, (t.val + 1) / 2 % 2, 0, 0] := by decide +kernel
theorem idx4 : ∀ t : Fin grid0.N, (cfg0.win 4).index t = ![t.val / 4, t.val / 2 % 2, 0, 0] := by decide +kernel
theorem idx5 : ∀ t : Fin grid0.N, (cfg0.win 5).index t = ![t.val, 0] := by decide +kernel
theorem idx6 : ∀ t : Fin grid0.N, (cfg0.win 6).index t = ![t.val, 0] := by decide +kernel
theorem idx7 : ∀ t : Fin grid0.N, (cfg0.win 7).index t = ![t.val / 4, t.val / 2 % 2, t.val % 2, 0] := by decide +kernel
theorem idx8 : ∀ t : Fin grid0.N, (cfg0.win 8).index t = ![t.val, 0] := by decide +kernel
theorem idx9 : ∀ t : Fin grid0.N, (cfg0.win 9).index t = ![0, t.val, 0] := by decide +kernel

theorem lt16 (t : Fin cfg0.N) : t.val < 16 := lt_of_lt_of_eq t.isLt (show cfg0.N = 16 from N_0)

/-- A point's queries. -/
theorem blk0 (t : Fin cfg0.N) (r : Fin 1024) (d : Fin 512) : iblk m c 0 t (ix4 0 0 r d)
    = m ((c : Thread nD τ).loc main_arg0) (ix4 ⟨t.val / 4, by have := lt16 t; omega⟩ ⟨t.val / 2 % 2, by omega⟩ ⟨t.val % 2 * 1024 + r.val, by omega⟩ d) := by
  blk_ext [iblk, V, idx0 t]

/-- The next point's first 256 queries. -/
theorem blk1 (t : Fin cfg0.N) (ht : t.val < 15) (r : Fin 256) (d : Fin 512) : iblk m c 1 t (ix4 0 0 r d)
    = m ((c : Thread nD τ).loc main_arg0) (ix4 ⟨(t.val + 1) / 4, by omega⟩ ⟨(t.val + 1) / 2 % 2, by omega⟩ ⟨(t.val + 1) % 2 * 1024 + r.val, by omega⟩ d) := by
  blk_ext [iblk, V, idx1 t ht]

/-- A point's keys. -/
theorem blk2 (t : Fin cfg0.N) (j : Fin 2048) (d : Fin 128) : iblk m c 2 t (ix4 0 0 j d)
    = m ((c : Thread nD τ).loc main_arg1) (ix4 ⟨t.val / 4, by have := lt16 t; omega⟩ ⟨t.val / 2 % 2, by omega⟩ j d) := by
  blk_ext [iblk, V, idx2 t]

/-- The next point's keys. -/
theorem blk3 (t : Fin cfg0.N) (ht : t.val < 15) (j : Fin 2048) (d : Fin 128) : iblk m c 3 t (ix4 0 0 j d)
    = m ((c : Thread nD τ).loc main_arg1) (ix4 ⟨(t.val + 1) / 4, by omega⟩ ⟨(t.val + 1) / 2 % 2, by omega⟩ j d) := by
  blk_ext [iblk, V, idx3 t ht]

/-- A point's values. -/
theorem blk4 (t : Fin cfg0.N) (j : Fin 2048) (d : Fin 128) : iblk m c 4 t (ix4 0 0 j d)
    = m ((c : Thread nD τ).loc main_arg2) (ix4 ⟨t.val / 4, by have := lt16 t; omega⟩ ⟨t.val / 2 % 2, by omega⟩ j d) := by
  blk_ext [iblk, V, idx4 t]

/-- What a point leaves in the scratch is what the next one finds there as its first block's scores. -/
theorem carried (n : ℕ) (hn : n + 1 < cfg0.N) :
    Carried (iblk m c 0 ⟨n + 1, hn⟩) (iblk m c 2 ⟨n + 1, hn⟩)
      (scr (iblk m c 0 ⟨n, by omega⟩) (iblk m c 1 ⟨n, by omega⟩) (iblk m c 2 ⟨n, by omega⟩) (iblk m c 3 ⟨n, by omega⟩))
      (scrMax (iblk m c 0 ⟨n, by omega⟩) (iblk m c 1 ⟨n, by omega⟩) (iblk m c 2 ⟨n, by omega⟩) (iblk m c 3 ⟨n, by omega⟩)) := by
  have hN : n + 1 < 16 := lt16 ⟨n + 1, hn⟩
  have hs : ∀ (h : Fin 4) (r : Fin 256) (j : Fin 2048),
      score (iblk m c 1 ⟨n, by omega⟩) (iblk m c 3 ⟨n, by omega⟩) r h j
        = score (iblk m c 0 ⟨n + 1, hn⟩) (iblk m c 2 ⟨n + 1, hn⟩) ⟨r.val, by omega⟩ h j := by
    intro h r j
    refine Finset.sum_congr rfl fun d _ => ?_
    exact congrArg₂ (· * ·)
      ((blk1 m c ⟨n, by omega⟩ (by show n < 15; omega) _ _).trans (blk0 m c ⟨n + 1, hn⟩ ⟨r.val, by omega⟩ ⟨h.val * 128 + d.val, by omega⟩).symm)
      ((blk3 m c ⟨n, by omega⟩ (by show n < 15; omega) _ _).trans (blk2 m c ⟨n + 1, hn⟩ j d).symm)
  refine ⟨fun h r j => ?_, fun h r => ?_⟩
  · exact (if_pos rfl).trans (hs h r j)
  · exact congrArg rowMax (funext fun j => (if_pos rfl).trans (hs h r j))

end Cert.KernelIdeal.Gqa
-- ==== Proof.Gqa.Frame.lean ====
module

public import proofs.«01_k».proof.Proof.Gqa.Blocks

/-! The run of the grouped-query attention over its grid: every point's output blocks and the scratch it hands on are
    closed forms of the blocks it reads, so the invariant between points needs no recursion. -/

@[expose] public section

set_option maxRecDepth 16384

noncomputable section

namespace Cert.KernelIdeal.Gqa
open Cert.KernelIdeal Cert.KernelIdeal.Gen Cert.Attention
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch of scores after point `n`. -/
abbrev scrAt (c : Dev nD) (n : ℕ) (hn : n < cfg0.N) : Vec Ideal S2x4x256x2048 .f32 :=
  scr (iblk m c 0 ⟨n, hn⟩) (iblk m c 1 ⟨n, hn⟩) (iblk m c 2 ⟨n, hn⟩) (iblk m c 3 ⟨n, hn⟩)

/-- The scratch of row maxima after point `n`. -/
abbrev maxAt (c : Dev nD) (n : ℕ) (hn : n < cfg0.N) : Vec Ideal S2x4x256x1 .f32 :=
  scrMax (iblk m c 0 ⟨n, hn⟩) (iblk m c 1 ⟨n, hn⟩) (iblk m c 2 ⟨n, hn⟩) (iblk m c 3 ⟨n, hn⟩)

/-- The invariant before position `n`: the scratch at anything before the first point, afterwards at the closed forms. -/
def PhiS (c : Dev nD) : (n : ℕ) → n ≤ cfg0.N → sProp 𝕄
  | 0, _ => Pipeline.ΦA spec0 c
  | n + 1, hn => iprop(iprop(owns (c : Thread nD τ) scM0_0 fullShare (scrAt m c n hn) ∗ owns (c : Thread nD τ) scM0_1 fullShare (maxAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n hn) ∗ owns (c : Thread nD τ) scM0_1 fullShare (maxAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1) (by omega)) ∗ owns (c : Thread nD τ) scM0_1 fullShare (maxAt m c (n - 1) (by omega))) ∗ (∃ r, prngReg c r)) := by
  cases n with
  | zero => exact absurd rfl hz
  | succ n => rfl

/-- The pipeline's proof data: an input's buffer at its block, an output's at its closed form. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => attn (iblk m c 0 t) (iblk m c 2 t) (iblk m c 4 t)
    | ⟨8, _⟩ => iblk m c 5 t
    | ⟨9, _⟩ => slabs (iblk m c 6 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = attn (iblk m c 0 t) (iblk m c 2 t) (iblk m c 4 t) := by dsimp only [dats]
theorem after0_8 (c : Dev nD) (t : Fin cfg0.N) : (dats m 0 c).after 8 t = (iblk m c 5 t : Vec Ideal S512x2048 .f32) := by dsimp only [dats]
theorem after0_9 (c : Dev nD) (t : Fin cfg0.N) : (dats m 0 c).after 9 t = slabs (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: at the first the run of case A; at a later one case B's, the scratch holding what the point before left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 16 := lt16 t
  by_cases hz : t.val = 0
  · have hA : cond0_0 (grid0.coords t) := (hcond0_0 t).mpr (by omega)
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runA c t (iblk m c 0 t) (iblk m c 1 t) (iblk m c 2 t) (iblk m c 3 t) (iblk m c 4 t) (iblk m c 5 t) (iblk m c 6 t) hA).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%e7, H7⟩, ⟨%e8, H8⟩, ⟨%e9, H9⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverA_S0 c t (iblk m c 0 t) (iblk m c 1 t) (iblk m c 2 t) (iblk m c 3 t) (iblk m c 4 t) (iblk m c 5 t) (iblk m c 6 t) hA)).trans (canonA_S0 c t (iblk m c 0 t) (iblk m c 1 t) (iblk m c 2 t) (iblk m c 3 t) (iblk m c 4 t) (iblk m c 5 t) (iblk m c 6 t) hA)
        unfold owns; iexists _; isplitr
        swap; · iexact HS1
        ipureintro; exact (View.read_writes_eq_canon _ _ _ (coverA_S1 c t (iblk m c 0 t) (iblk m c 1 t) (iblk m c 2 t) (iblk m c 3 t) (iblk m c 4 t) (iblk m c 5 t) (iblk m c 6 t) hA)).trans (canonA_S1 c t (iblk m c 0 t) (iblk m c 1 t) (iblk m c 2 t) (iblk m c 3 t) (iblk m c 4 t) (iblk m c 5 t) (iblk m c 6 t) hA)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact (View.read_writes_eq_canon _ _ _ (coverA_7 c t (iblk m c 0 t) (iblk m c 1 t) (iblk m c 2 t) (iblk m c 3 t) (iblk m c 4 t) (iblk m c 5 t) (iblk m c 6 t) hA)).trans (canonA_7 c t (iblk m c 0 t) (iblk m c 1 t) (iblk m c 2 t) (iblk m c 3 t) (iblk m c 4 t) (iblk m c 5 t) (iblk m c 6 t) hA)
    isplitl [H8]
    · unfold owns; iexists _; isplitr
      swap; · iexact H8
      ipureintro; exact (View.read_writes_eq_canon _ _ _ (coverA_8 c t (iblk m c 0 t) (iblk m c 1 t) (iblk m c 2 t) (iblk m c 3 t) (iblk m c 4 t) (iblk m c 5 t) (iblk m c 6 t) hA)).trans (canonA_8 c t (iblk m c 0 t) (iblk m c 1 t) (iblk m c 2 t) (iblk m c 3 t) (iblk m c 4 t) (iblk m c 5 t) (iblk m c 6 t) hA)
    unfold owns; iexists _; isplitr
    swap; · iexact H9
    ipureintro; exact (View.read_writes_eq_canon _ _ _ (coverA_9 c t (iblk m c 0 t) (iblk m c 1 t) (iblk m c 2 t) (iblk m c 3 t) (iblk m c 4 t) (iblk m c 5 t) (iblk m c 6 t) hA)).trans (canonA_9 c t (iblk m c 0 t) (iblk m c 1 t) (iblk m c 2 t) (iblk m c 3 t) (iblk m c 4 t) (iblk m c 5 t) (iblk m c 6 t) hA)
  · have hB : ¬ cond0_0 (grid0.coords t) := fun h => hz (by have := (hcond0_0 t).mp h; omega)
    have hC : Carried (iblk m c 0 t) (iblk m c 2 t) (scrAt m c (t.val - 1) (by omega)) (maxAt m c (t.val - 1) (by omega)) := by
      obtain ⟨n, hn⟩ := t
      cases n with
      | zero => exact absurd rfl hz
      | succ n => exact carried m c n hn
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runB c t (iblk m c 0 t) (iblk m c 1 t) (iblk m c 2 t) (iblk m c 3 t) (iblk m c 4 t) (iblk m c 5 t) (iblk m c 6 t) (scrAt m c (t.val - 1) (by omega)) (maxAt m c (t.val - 1) (by omega)) hB).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%e7, H7⟩, ⟨%e8, H8⟩, ⟨%e9, H9⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverB_S0 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)).trans (canonB_S0 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)
        unfold owns; iexists _; isplitr
        swap; · iexact HS1
        ipureintro; exact (View.read_writes_eq_canon _ _ _ (coverB_S1 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)).trans (canonB_S1 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact (View.read_writes_eq_canon _ _ _ (coverB_7 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)).trans (canonB_7 c t (iblk m c 0 t) (iblk m c 1 t) (iblk m c 2 t) (iblk m c 3 t) (iblk m c 4 t) (iblk m c 5 t) (iblk m c 6 t) (scrAt m c (t.val - 1) (by omega)) (maxAt m c (t.val - 1) (by omega)) hB hC)
    isplitl [H8]
    · unfold owns; iexists _; isplitr
      swap; · iexact H8
      ipureintro; exact (View.read_writes_eq_canon _ _ _ (coverB_8 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)).trans (canonB_8 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)
    unfold owns; iexists _; isplitr
    swap; · iexact H9
    ipureintro; exact (View.read_writes_eq_canon _ _ _ (coverB_9 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)).trans (canonB_9 c t (iblk m c 0 t) (iblk m c 1 t) (iblk m c 2 t) (iblk m c 3 t) (iblk m c 4 t) (iblk m c 5 t) (iblk m c 6 t) (scrAt m c (t.val - 1) (by omega)) (maxAt m c (t.val - 1) (by omega)) hB)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch: every array of the pipeline ends at what the proof data computes, every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)
/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gqa
-- ==== Proof.Gqa.Value.lean ====
module

public import proofs.«01_k».proof.Proof.Gqa.Frame
public import Idealize.ShloMosaic.Lib.Claim

/-! The three result arrays of the grouped-query attention's call after its run. -/

@[expose] public section

set_option maxRecDepth 16384

noncomputable section

namespace Cert.KernelIdeal.Gqa
open Cert.KernelIdeal Cert.KernelIdeal.Gen Cert.Attention Idealize.ShloMosaic Idealize.ShloMosaic.TcCoe Idealize.SL.Sem

/-- The attention of whole arrays: for a query row and a head of four, its scores over all keys of the group, then the row of attention. -/
def attention (Q : S4x2x2048x512.Idx → EReal) (K W : S4x2x2048x128.Idx → EReal) : S4x2x2048x512.Idx → EReal := fun i =>
  row (fun j => ∑ d : Fin 128, Q (ix4 (i 0) (i 1) (i 2) ⟨(i 3).val / 128 * 128 + d.val, by
      have h3 : (i 3).val < 512 := (i 3).isLt
      omega⟩) * K (ix4 (i 0) (i 1) j d))
    (fun j => W (ix4 (i 0) (i 1) j ⟨(i 3).val % 128, by omega⟩))

/-- The second weight, its columns cut into eight slabs. -/
def slabsArr (w : S2048x8192.Idx → EReal) : S8x2048x1024.Idx → EReal := fun i =>
  w (ix2 (i 1) ⟨(i 0).val * 1024 + (i 2).val, by
    have h0 : (i 0).val < 8 := (i 0).isLt
    have h2 : (i 2).val < 1024 := (i 2).isLt
    omega⟩)

variable (m : (ℓ : Loc nD τ sig) → Buf (Elt Ideal) ℓ) (c : Dev nD)

set_option maxHeartbeats 1000000 in
/-- The attention's array after the run. -/
theorem arr7 : (dats m 0 c).arrAt 7 (cfgs 0).N
    = attention (m ((c : Thread nD τ).loc main_arg0)) (m ((c : Thread nD τ).loc main_arg1)) (m ((c : Thread nD τ).loc main_arg2)) := by
  refine (dats m 0 c).arrAt_eq_of_covers 7 _ (by decide +kernel) fun t hf y => ?_
  have hN := lt16 t
  have e0 : (((((cfg0.win 7).blk t).view.emb y) 0 : Fin 4) : ℕ) = t.val / 4 := by blk_simp [idx7 t]
  have e1 : (((((cfg0.win 7).blk t).view.emb y) 1 : Fin 2) : ℕ) = t.val / 2 % 2 := by blk_simp [idx7 t]
  have e2 : (((((cfg0.win 7).blk t).view.emb y) 2 : Fin 2048) : ℕ) = t.val % 2 * 1024 + (y 2).val := by blk_simp [idx7 t]
  have e3 : (((((cfg0.win 7).blk t).view.emb y) 3 : Fin 512) : ℕ) = (y 3).val := by blk_simp [idx7 t]
  show (cfg0.win 7).cut (grid0.coords t) ((dats m 0 c).after 7 t) y = _
  rw [after0_7]
  show attn (iblk m c 0 t) (iblk m c 2 t) (iblk m c 4 t) y = attention _ _ _ (((cfg0.win 7).blk t).view.emb y)
  generalize (((cfg0.win 7).blk t).view.emb y : S4x2x2048x512.Idx) = i at e0 e1 e2 e3 ⊢
  have h2 : (y 2).val < 1024 := (y 2).isLt
  have h3 : (y 3).val < 512 := (y 3).isLt
  have i0 : i 0 = (⟨t.val / 4, by omega⟩ : Fin 4) := Fin.ext e0
  have i1 : i 1 = (⟨t.val / 2 % 2, by omega⟩ : Fin 2) := Fin.ext e1
  have i2 : i 2 = (⟨t.val % 2 * 1024 + (y 2).val, by omega⟩ : Fin 2048) := Fin.ext e2
  unfold attn attention score
  simp only [e3, i0, i1, i2]
  refine congrArg₂ row (funext fun j => Finset.sum_congr rfl fun d _ => congrArg₂ (· * ·) ?_ ?_) (funext fun j => ?_)
  · exact blk0 m c t (y 2) _
  · exact blk2 m c t j d
  · exact blk4 m c t j _

/-- The first cast weight's array after the run. -/
theorem arr8 : (dats m 0 c).arrAt 8 (cfgs 0).N = (m ((c : Thread nD τ).loc main_arg3) : S8192x2048.Idx → EReal) := by
  refine (dats m 0 c).arrAt_eq_of_covers 8 _ (by decide +kernel) fun t hf y => ?_
  have hN := lt16 t
  show (cfg0.win 8).cut (grid0.coords t) ((dats m 0 c).after 8 t) y = _
  rw [after0_8]
  show iblk m c 5 t y = (m ((c : Thread nD τ).loc main_arg3) : S8192x2048.Idx → EReal) (((cfg0.win 8).blk t).view.emb y)
  blk_ext [iblk, V, idx5 t, idx8 t]

/-- The second cast weight's array after the run. -/
theorem arr9 : (dats m 0 c).arrAt 9 (cfgs 0).N = slabsArr (m ((c : Thread nD τ).loc main_arg4)) := by
  refine (dats m 0 c).arrAt_eq_of_covers 9 _ (by decide +kernel) fun t hf y => ?_
  have hN := lt16 t
  have e0 : (((((cfg0.win 9).blk t).view.emb y) 0 : Fin 8) : ℕ) = (y 0).val := by blk_simp [idx9 t]
  have e2 : (((((cfg0.win 9).blk t).view.emb y) 2 : Fin 1024) : ℕ) = (y 2).val := by blk_simp [idx9 t]
  have e1 : (((((cfg0.win 9).blk t).view.emb y) 1 : Fin 2048) : ℕ) = t.val * 128 + (y 1).val := by blk_simp [idx9 t]
  show (cfg0.win 9).cut (grid0.coords t) ((dats m 0 c).after 9 t) y = _
  rw [after0_9]
  show slabs (iblk m c 6 t) y = slabsArr _ (((cfg0.win 9).blk t).view.emb y)
  generalize (((cfg0.win 9).blk t).view.emb y : S8x2048x1024.Idx) = i at e0 e1 e2 ⊢
  have h1 : (y 1).val < 128 := (y 1).isLt
  have i1 : i 1 = (⟨t.val * 128 + (y 1).val, by omega⟩ : Fin 2048) := Fin.ext e1
  unfold slabs slabsArr
  simp only [e0, e2, i1]
  blk_ext [iblk, V, idx6 t]

/-- The call's run: its three results as functions of its arguments, which it leaves as they were. -/
theorem value (g : Dev nD → PrngReg) : θ_run defs (onTc (τ := τ) (main (F := Ideal))) ⟨m, fun _ => 0, g⟩ (fun r => ∀ c : Dev nD,
      r.2.mem ((c : Thread nD τ).loc main_v0_0) = attention (m ((c : Thread nD τ).loc main_arg0)) (m ((c : Thread nD τ).loc main_arg1)) (m ((c : Thread nD τ).loc main_arg2))
      ∧ r.2.mem ((c : Thread nD τ).loc main_v0_1) = (m ((c : Thread nD τ).loc main_arg3) : S8192x2048.Idx → EReal)
      ∧ r.2.mem ((c : Thread nD τ).loc main_v0_2) = slabsArr (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  run_from run_main m g
  · exact arr7 m c
  · exact arr8 m c
  · exact arr9 m c

end Cert.KernelIdeal.Gqa
-- ==== Proof.Gqa.Claim.lean ====
module

public import proofs.«01_k».proof.Proof.Softmax
public import proofs.«01_k».proof.Proof.Gqa.Reference
public import proofs.«01_k».proof.Proof.Gqa.Value
public import proofs.«01_k».proof.Proof.Gen.ReferenceIdeal.Run
public import proofs.«01_k».proof.Proof.Gen.Pre_finite
public import proofs.«01_k».proof.Defs

/-! The grouped attention and its reference end with equal results, where the queries and keys are finite. -/

@[expose] public section

set_option maxRecDepth 16384

noncomputable section

namespace Cert.Gqa
open Cert.Attention Cert.ReferenceIdeal Idealize.ShloMosaic Idealize.ShloMosaic.TcCoe Idealize.SL.Sem

/-- A sum of products of real numbers is real. -/
theorem dot_real {n : ℕ} (a b : Fin n → EReal) (ha : ∀ j, ∃ r : ℝ, a j = r) (hb : ∀ j, ∃ r : ℝ, b j = r) :
    ∃ r : ℝ, ∑ j, a j * b j = r := by
  choose x hx using ha
  choose y hy using hb
  exact ⟨∑ j, x j * y j, by simp only [hx, hy, ← EReal.coe_mul, coe_sum]⟩

/-- The reference's weight of a key: the softmax of the row's scores times the logarithm of two. -/
theorem shares_eq (Q : FVec Ideal S4x2x2048x512 .bf16) (K : FVec Ideal S4x2x2048x128 .bf16) (b : Fin 4) (k : Fin 2) (h : Fin 4) (q j : Fin 2048)
    (s : Fin 2048 → EReal) (hs : s = fun x => ∑ d : Fin 128, Q (ix4 b k q ⟨h.val * 128 + d.val, by omega⟩) * K (ix4 b k x d)) :
    shares (exps (scores Q K)) (ix5 b k h q j)
      = Ideal.div (softmaxTerm (fun x => s x * Ideal.log (Ideal.ofBits FTy.f32 0x40000000#32)) j)
          (∑ x, softmaxTerm (fun x => s x * Ideal.log (Ideal.ofBits FTy.f32 0x40000000#32)) x) := by
  subst hs
  simp only [shares_at, exps_at, scores_at, softmaxTerm]

/-- Where queries and keys are real, the reference's attention is the call's. -/
theorem reference_eq (Q : FVec Ideal S4x2x2048x512 .bf16) (K W : FVec Ideal S4x2x2048x128 .bf16)
    (hQ : ∀ i, ∃ r : ℝ, Q i = r) (hK : ∀ i, ∃ r : ℝ, K i = r) :
    means (shares (exps (scores Q K))) W = Cert.KernelIdeal.Gqa.attention Q K W := by
  funext i
  choose r hr using fun j : Fin 2048 => dot_real (n := 128) _ _
    (fun d => hQ (ix4 (i 0) (i 1) (i 2) ⟨(i 3).val / 128 * 128 + d.val, by
      have h3 : (i 3).val < 512 := (i 3).isLt
      omega⟩)) (fun d => hK (ix4 (i 0) (i 1) j d))
  rw [means_at]
  have h3 : (i 3).val < 512 := (i 3).isLt
  exact (Finset.sum_congr rfl fun j _ => congrArg (· * W (ix4 (i 0) (i 1) j ⟨(i 3).val % 128, by omega⟩))
      (shares_eq Q K (i 0) (i 1) ⟨(i 3).val / 128, by omega⟩ (i 2) j _ rfl)).trans
    (softmax_row (by norm_num) _ _ r hr _ log_two)

/-- What is less than plus infinity in size is real. -/
theorem real_of_lt (x : EReal) (h : Ideal.cmp .olt (max x (-x)) (Ideal.ofBits FTy.f32 0x7F800000#32) = 1#1) : ∃ r : ℝ, x = r := by
  have ht : Ideal.ofBits FTy.f32 0x7F800000#32 = ⊤ := by simp [Ideal.ofBits, Ideal.ieee]
  rw [ht] at h
  induction x with
  | bot => simp [Ideal.cmp] at h
  | top => simp [Ideal.cmp] at h
  | coe r => exact ⟨r, rfl⟩

theorem finite_queries (Q : FVec Ideal S4x2x2048x512 .bf16) (K W : FVec Ideal S4x2x2048x128 .bf16) (a b)
    (h : (Cert.Pre_finite.fn (F := Ideal) Q K W a b).1 = fun _ => 1#1) (i) : ∃ r : ℝ, Q i = r := by
  refine real_of_lt (Q i) ((Eq.symm ?_).trans (congrFun h i))
  unfold Cert.Pre_finite.fn
  pointwise
  rfl

theorem finite_keys (Q : FVec Ideal S4x2x2048x512 .bf16) (K W : FVec Ideal S4x2x2048x128 .bf16) (a b)
    (h : (Cert.Pre_finite.fn (F := Ideal) Q K W a b).2 = fun _ => 1#1) (i) : ∃ r : ℝ, K i = r := by
  refine real_of_lt (K i) ((Eq.symm ?_).trans (congrFun h i))
  unfold Cert.Pre_finite.fn
  pointwise
  rfl

/-- The second weight's slabs, as the reference cuts them. -/
theorem slabs_eq (w : FVec Ideal S2048x8192 .f32) (h h' hb) :
    truncf .bf16 (transpose S8x2048x1024 [1, 0, 2] (shapeCast S2048x8x1024 w h) h') hb = Cert.KernelIdeal.Gqa.slabsArr w := by
  funext i
  unfold Cert.KernelIdeal.Gqa.slabsArr
  pointwise

theorem algebraic : Cert.algebraic_KernelIdeal_ReferenceIdeal_pre_finite := by
  intro m g m' g' hpre hagree
  refine ⟨_, _, _, Cert.KernelIdeal.Gqa.value m g, ?_⟩
  refine (θ_run _ _ _).mono (fun r h c => ?_) (Cert.ReferenceIdeal.Value.run (F := Ideal) m' g')
  obtain ⟨h0, h1, h2, ha⟩ := h c
  obtain ⟨a0, a1, a2, a3, a4⟩ := hagree c
  refine ⟨h0.trans ?_, h1.trans ?_, h2.trans ?_, ha⟩
  · refine Eq.trans (b := means (shares (exps (scores (m' ((c.tc : Thread nD τ).loc main_arg0)) (m' ((c.tc : Thread nD τ).loc main_arg1))))) (m' ((c.tc : Thread nD τ).loc main_arg2))) rfl ?_
    rw [a0, a1, a2]
    exact reference_eq _ _ _ (finite_queries _ _ _ _ _ (hpre c).1) (finite_keys _ _ _ _ _ (hpre c).2)
  · exact a3
  · rw [a4]
    exact slabs_eq _ _ _ _

end Cert.Gqa
-- ==== Proof.Mlp.Body.lean ====
module

public import proofs.«01_k».proof.Proof.Gen.Kernel2Ideal.Frame
public import Idealize.ShloMosaic.Lib.Claim
public import Idealize.ShloMosaic.Lib.Pipeline.ValueKit
public import Idealize.ShloMosaic.Lib.Pointwise
public import Idealize.ShloMosaic.Lib.Pipeline.ReadBack

/-! What one grid point of the feed-forward call stores, as functions of the blocks it reads: 512 rows, normalized and modulated at the first of four
    points; at each point two slices of 1024 hidden units added to the rows' sums; at the last the sums normalized, gated and added to the rows. -/

@[expose] public section

set_option maxRecDepth 16384

noncomputable section

namespace Cert.Kernel2Ideal.Mlp
open Cert.Kernel2Ideal Cert.Kernel2Ideal.Gen Idealize.ShloMosaic Idealize.ShloMosaic.TcCoe Idealize.SL.Sem

/-- A value at an index, from an equal function's. -/
theorem at_of_eq {α β : Type _} {p p' : α → β} {x : α} {b : β} (h : p' x = b) (hp : p = p') : p x = b := hp ▸ h

/-- One over the root of a row's mean square, the small constant under the root. -/
def scale (v : Fin 2048 → EReal) : EReal :=
  Ideal.rsqrt (Ideal.div (∑ j, v j * v j) (Ideal.ofBits FTy.f32 1157627904#32) + Ideal.ofBits FTy.f32 897988541#32)

/-- The normalized and modulated rows. -/
def hid (x : Vec Ideal S1x512x2048 .f32) (g sc sh : Vec Ideal S1x2048 .f32) : Vec Ideal S512x2048 .bf16 := fun y =>
  x (ix3 0 (y 0) (y 1)) * scale (fun j => x (ix3 0 (y 0) j)) * (g (ix2 0 (y 1)) * (1 + sc (ix2 0 (y 1)))) + sh (ix2 0 (y 1))

/-- What some hidden units add to one element of a row: the squares of the positive parts, weighed. -/
def chunk {n : ℕ} (u : Fin 2048 → EReal) (w : Fin 2048 → Fin n → EReal) (v : Fin n → EReal) : EReal :=
  ∑ k, max (∑ j, u j * w j k) 0 * max (∑ j, u j * w j k) 0 * v k

/-- What slice `s` of a point's two adds to row `r`, column `d`. -/
def part (h : Vec Ideal S512x2048 .bf16) (w : Vec Ideal S2x2048x1024 .bf16) (w2 : Vec Ideal S2048x2048 .bf16) (s : Fin 2) (r : Fin 512) (d : Fin 2048) : EReal :=
  chunk (fun j => h (ix2 r j)) (fun j k => w (ix3 s j k)) (fun k : Fin 1024 => w2 (ix2 ⟨s.val * 1024 + k.val, by omega⟩ d))

/-- The sums after the first of four points. -/
def first (h : Vec Ideal S512x2048 .bf16) (w : Vec Ideal S2x2048x1024 .bf16) (w2 : Vec Ideal S2048x2048 .bf16) : Vec Ideal S1x512x2048 .f32 := fun y =>
  part h w w2 0 (y 1) (y 2) + part h w w2 1 (y 1) (y 2)

/-- The sums after a later point. -/
def more (o : Vec Ideal S1x512x2048 .f32) (h : Vec Ideal S512x2048 .bf16) (w : Vec Ideal S2x2048x1024 .bf16) (w2 : Vec Ideal S2048x2048 .bf16) :
    Vec Ideal S1x512x2048 .f32 := fun y =>
  o y + part h w w2 0 (y 1) (y 2) + part h w w2 1 (y 1) (y 2)

/-- The rows, with their sums normalized, gated and added. -/
def gated (x o : Vec Ideal S1x512x2048 .f32) (g gt : Vec Ideal S1x2048 .f32) : Vec Ideal S1x512x2048 .f32 := fun y =>
  x y + o y * scale (fun j => o (ix3 0 (y 1) j)) * (gt (ix2 0 (y 2)) * g (ix2 0 (y 2)))

/-- Sixteen rows of `hid`, as stored. -/
theorem hid_tile (x : Vec Ideal S1x512x2048 .f32) (g sc sh : Vec Ideal S1x2048 .f32) (r0 : ℕ) (inb) (inb') (p) :
    k0_pay5 g sc sh (View.ld (Val := Elt Ideal) x (Rect.unit (s := S1x512x2048) ![0, r0, 0] ![1, 16, 2048] inb')) p
      = hid x g sc sh ((Rect.unit (s := S512x2048) ![r0, 0] ![16, 2048] inb).emb p) := by
  have hr : r0 + 16 ≤ 512 := inb 0
  have hp : (p 0).val < 16 := (p 0).isLt
  have e : (Rect.unit (s := S512x2048) ![r0, 0] ![16, 2048] inb).emb p = ix2 ⟨r0 + (p 0).val, by omega⟩ (p 1) := by
    refine funext fun a => Fin.ext ((Rect.idx_unit_val _ _ inb p a).trans ?_)
    match a with
    | ⟨0, _⟩ => rfl
    | ⟨1, _⟩ => exact Nat.zero_add _
  have hx : ∀ j : Fin 2048, View.ld (Val := Elt Ideal) x (Rect.unit (s := S1x512x2048) ![0, r0, 0] ![1, 16, 2048] inb') (ix3 0 (p 0) j)
      = x (ix3 0 ⟨r0 + (p 0).val, by omega⟩ j) := fun j => View.ld_unit_apply_of x _ _ inb' _ _ fun a => by
    match a with
    | ⟨0, _⟩ => rfl
    | ⟨1, _⟩ => rfl
    | ⟨2, _⟩ => exact (Nat.zero_add _).symm
  rw [e]
  generalize View.ld (Val := Elt Ideal) x (Rect.unit (s := S1x512x2048) ![0, r0, 0] ![1, 16, 2048] inb') = v at hx
  unfold_payloads
  pointwise
  refine congrArg (· + _) (congrArg₂ (· * ·) (congrArg₂ (· * ·) (hx (p 1)) (congrArg scale (funext hx))) ?_)
  rfl

/-- A slice's share added to sums, as stored: 256 rows. -/
theorem pay27_at (a : Vec Ideal S256x2048 .bf16) (w : Vec Ideal S1x2048x1024 .bf16) (w2 : Vec Ideal S1024x2048 .bf16) (o : Vec Ideal S1x256x2048 .f32)
    (r : Fin 256) (d : Fin 2048) : k0_pay27 a w w2 o (ix3 0 r d)
      = o (ix3 0 r d) + chunk (fun j => a (ix2 r j)) (fun j k => w (ix3 0 j k)) (fun k : Fin 1024 => w2 (ix2 k d)) := by
  unfold_payloads
  pointwise
  rfl

/-- A slice's share, as first stored: 256 rows. -/
theorem pay26_at (a : Vec Ideal S256x2048 .bf16) (w : Vec Ideal S1x2048x1024 .bf16) (w2 : Vec Ideal S1024x2048 .bf16)
    (r : Fin 256) (d : Fin 2048) : k0_pay26 a w w2 (ix3 0 r d)
      = chunk (fun j => a (ix2 r j)) (fun j k => w (ix3 0 j k)) (fun k : Fin 1024 => w2 (ix2 k d)) := by
  unfold_payloads
  pointwise
  rfl

/-- A slice's share added to sums, as stored: 512 rows. -/
theorem pay52_at (a : Vec Ideal S512x2048 .bf16) (w : Vec Ideal S1x2048x1024 .bf16) (w2 : Vec Ideal S1024x2048 .bf16) (o : Vec Ideal S1x512x2048 .f32)
    (r : Fin 512) (d : Fin 2048) : k0_pay52 a w w2 o (ix3 0 r d)
      = o (ix3 0 r d) + chunk (fun j => a (ix2 r j)) (fun j k => w (ix3 0 j k)) (fun k : Fin 1024 => w2 (ix2 k d)) := by
  unfold_payloads
  pointwise
  rfl

/-- A slice's weights, loaded from a point's blocks. -/
theorem chunk_ld {n : ℕ} (h : Vec Ideal S512x2048 .bf16) (w : Vec Ideal S2x2048x1024 .bf16) (w2 : Vec Ideal S2048x2048 .bf16) (s r0 c0 : ℕ) (hs : s < 2)
    (hc : c0 = s * 1024) (hr : r0 + n ≤ 512) (i1) (i2) (i3) (r : Fin n) (d : Fin 2048) :
    chunk (fun j => View.ld (Val := Elt Ideal) h (Rect.unit (s := S512x2048) ![r0, 0] ![n, 2048] i1) (ix2 r j))
      (fun j k => View.ld (Val := Elt Ideal) w (Rect.unit (s := S2x2048x1024) ![s, 0, 0] ![1, 2048, 1024] i2) (ix3 0 j k))
      (fun k : Fin 1024 => View.ld (Val := Elt Ideal) w2 (Rect.unit (s := S2048x2048) ![c0, 0] ![1024, 2048] i3) (ix2 k d))
      = part h w w2 ⟨s, hs⟩ ⟨r0 + r.val, by omega⟩ d := by
  have e1 : (fun j => View.ld (Val := Elt Ideal) h (Rect.unit (s := S512x2048) ![r0, 0] ![n, 2048] i1) (ix2 r j))
      = fun j => h (ix2 ⟨r0 + r.val, by omega⟩ j) := funext fun j => View.ld_unit_apply_of h _ _ i1 _ _ fun a => by
    match a with
    | ⟨0, _⟩ => rfl
    | ⟨1, _⟩ => exact (Nat.zero_add _).symm
  have e2 : (fun j k => View.ld (Val := Elt Ideal) w (Rect.unit (s := S2x2048x1024) ![s, 0, 0] ![1, 2048, 1024] i2) (ix3 0 j k))
      = fun j k => w (ix3 ⟨s, hs⟩ j k) := funext fun j => funext fun k => View.ld_unit_apply_of w _ _ i2 _ _ fun a => by
    match a with
    | ⟨0, _⟩ => rfl
    | ⟨1, _⟩ => exact (Nat.zero_add _).symm
    | ⟨2, _⟩ => exact (Nat.zero_add _).symm
  have e3 : (fun k : Fin 1024 => View.ld (Val := Elt Ideal) w2 (Rect.unit (s := S2048x2048) ![c0, 0] ![1024, 2048] i3) (ix2 k d))
      = fun k => w2 (ix2 ⟨s * 1024 + k.val, by omega⟩ d) := funext fun k => View.ld_unit_apply_of w2 _ _ i3 _ _ fun a => by
    match a with
    | ⟨0, _⟩ => exact congrArg (· + k.val) hc.symm
    | ⟨1, _⟩ => exact (Nat.zero_add _).symm
  unfold part
  exact congrArg₂ (fun u v => u v) (congrArg₂ chunk e1 e2) e3

/-- An index of a block of `n` rows in the 512 that hold it. -/
theorem emb_rows {n : ℕ} (r0 : ℕ) (hr : r0 + n ≤ 512) (inb) (r : Fin n) (d : Fin 2048) :
    (Rect.unit (s := S1x512x2048) ![0, r0, 0] ![1, n, 2048] inb).emb (ix3 0 r d) = ix3 0 ⟨r0 + r.val, by omega⟩ d := by
  refine funext fun a => Fin.ext ((Rect.idx_unit_val _ _ inb _ a).trans ?_)
  match a with
  | ⟨0, _⟩ => rfl
  | ⟨1, _⟩ => rfl
  | ⟨2, _⟩ => exact Nat.zero_add _

/-- An index of a block of rows, its parts named. -/
theorem ix3_eta {n : ℕ} (p : (⟨3, ![1, n, 2048]⟩ : Shape).Idx) : p = ix3 0 (p 1) (p 2) := by
  funext a
  match a with
  | ⟨0, _⟩ => exact Subsingleton.elim (α := Fin 1) _ _
  | ⟨1, _⟩ => rfl
  | ⟨2, _⟩ => rfl

/-- A half of the first point's sums, as stored last. -/
theorem first_tile (h : Vec Ideal S512x2048 .bf16) (w : Vec Ideal S2x2048x1024 .bf16) (w2 : Vec Ideal S2048x2048 .bf16) (a : Vec Ideal S256x2048 .bf16)
    (r0 : ℕ) (inb) (i1) (i2) (i3) (i4) (i5) (ha : a = View.ld (Val := Elt Ideal) h (Rect.unit (s := S512x2048) ![r0, 0] ![256, 2048] i1)) (p) :
    k0_pay27 a (View.ld (Val := Elt Ideal) w (Rect.unit (s := S2x2048x1024) ![1, 0, 0] ![1, 2048, 1024] i2))
        (View.ld (Val := Elt Ideal) w2 (Rect.unit (s := S2048x2048) ![1024, 0] ![1024, 2048] i3))
        (k0_pay26 a (View.ld (Val := Elt Ideal) w (Rect.unit (s := S2x2048x1024) ![0, 0, 0] ![1, 2048, 1024] i4))
          (View.ld (Val := Elt Ideal) w2 (Rect.unit (s := S2048x2048) ![0, 0] ![1024, 2048] i5))) p
      = first h w w2 ((Rect.unit (s := S1x512x2048) ![0, r0, 0] ![1, 256, 2048] inb).emb p) := by
  have hr : r0 + 256 ≤ 512 := inb 1
  obtain ⟨r, d, rfl⟩ : ∃ (r : Fin 256) (d : Fin 2048), p = ix3 0 r d := ⟨p 1, p 2, ix3_eta p⟩
  subst ha
  rw [emb_rows r0 hr inb r d, pay27_at, pay26_at]
  exact congrArg₂ (· + ·) (chunk_ld h w w2 0 r0 0 (by omega) rfl hr i1 i4 i5 r d) (chunk_ld h w w2 1 r0 1024 (by omega) rfl hr i1 i2 i3 r d)

/-- A half of a later point's sums, as stored last. -/
theorem more_tile (o : Vec Ideal S1x512x2048 .f32) (h : Vec Ideal S512x2048 .bf16) (w : Vec Ideal S2x2048x1024 .bf16) (w2 : Vec Ideal S2048x2048 .bf16)
    (r0 : ℕ) (inb) (i1) (i2) (i3) (i4) (i5) (i6) (p) :
    k0_pay27 (View.ld (Val := Elt Ideal) h (Rect.unit (s := S512x2048) ![r0, 0] ![256, 2048] i1))
        (View.ld (Val := Elt Ideal) w (Rect.unit (s := S2x2048x1024) ![1, 0, 0] ![1, 2048, 1024] i2))
        (View.ld (Val := Elt Ideal) w2 (Rect.unit (s := S2048x2048) ![1024, 0] ![1024, 2048] i3))
        (k0_pay27 (View.ld (Val := Elt Ideal) h (Rect.unit (s := S512x2048) ![r0, 0] ![256, 2048] i1))
          (View.ld (Val := Elt Ideal) w (Rect.unit (s := S2x2048x1024) ![0, 0, 0] ![1, 2048, 1024] i4))
          (View.ld (Val := Elt Ideal) w2 (Rect.unit (s := S2048x2048) ![0, 0] ![1024, 2048] i5))
          (View.ld (Val := Elt Ideal) o (Rect.unit (s := S1x512x2048) ![0, r0, 0] ![1, 256, 2048] i6))) p
      = more o h w w2 ((Rect.unit (s := S1x512x2048) ![0, r0, 0] ![1, 256, 2048] inb).emb p) := by
  have hr : r0 + 256 ≤ 512 := inb 1
  obtain ⟨r, d, rfl⟩ : ∃ (r : Fin 256) (d : Fin 2048), p = ix3 0 r d := ⟨p 1, p 2, ix3_eta p⟩
  rw [emb_rows r0 hr inb r d, pay27_at, pay27_at]
  refine congrArg₂ (· + ·) (congrArg₂ (· + ·) ?_ (chunk_ld h w w2 0 r0 0 (by omega) rfl hr i1 i4 i5 r d)) (chunk_ld h w w2 1 r0 1024 (by omega) rfl hr i1 i2 i3 r d)
  exact congrArg o (emb_rows r0 hr i6 r d)

/-- All 512 rows of a later point's sums, as stored last. -/
theorem more_whole (o : Vec Ideal S1x512x2048 .f32) (h : Vec Ideal S512x2048 .bf16) (w : Vec Ideal S2x2048x1024 .bf16) (w2 : Vec Ideal S2048x2048 .bf16)
    (inb) (i1) (i2) (i3) (i4) (i5) (i6) (p) :
    k0_pay52 (View.ld (Val := Elt Ideal) h (Rect.unit (s := S512x2048) ![0, 0] ![512, 2048] i1))
        (View.ld (Val := Elt Ideal) w (Rect.unit (s := S2x2048x1024) ![1, 0, 0] ![1, 2048, 1024] i2))
        (View.ld (Val := Elt Ideal) w2 (Rect.unit (s := S2048x2048) ![1024, 0] ![1024, 2048] i3))
        (k0_pay52 (View.ld (Val := Elt Ideal) h (Rect.unit (s := S512x2048) ![0, 0] ![512, 2048] i1))
          (View.ld (Val := Elt Ideal) w (Rect.unit (s := S2x2048x1024) ![0, 0, 0] ![1, 2048, 1024] i4))
          (View.ld (Val := Elt Ideal) w2 (Rect.unit (s := S2048x2048) ![0, 0] ![1024, 2048] i5))
          (View.ld (Val := Elt Ideal) o (Rect.unit (s := S1x512x2048) ![0, 0, 0] ![1, 512, 2048] i6))) p
      = more o h w w2 ((Rect.unit (s := S1x512x2048) ![0, 0, 0] ![1, 512, 2048] inb).emb p) := by
  obtain ⟨r, d, rfl⟩ : ∃ (r : Fin 512) (d : Fin 2048), p = ix3 0 r d := ⟨p 1, p 2, ix3_eta p⟩
  rw [emb_rows 0 (by omega) inb r d, pay52_at, pay52_at]
  refine congrArg₂ (· + ·) (congrArg₂ (· + ·) ?_ (chunk_ld h w w2 0 0 0 (by omega) rfl (by omega) i1 i4 i5 r d)) (chunk_ld h w w2 1 0 1024 (by omega) rfl (by omega) i1 i2 i3 r d)
  exact congrArg o (emb_rows 0 (by omega) i6 r d)

/-- Sixteen rows of the result, as stored. -/
theorem pay58_at (g gt : Vec Ideal S1x2048 .f32) (x o : Vec Ideal S1x16x2048 .f32) (r : Fin 16) (d : Fin 2048) :
    k0_pay58 g gt x o (ix3 0 r d)
      = x (ix3 0 r d) + o (ix3 0 r d) * scale (fun j => o (ix3 0 r j)) * (gt (ix2 0 d) * g (ix2 0 d)) := by
  unfold_payloads
  pointwise
  rfl

/-- The same in the place of the 512 rows. -/
theorem gated_tile (x O : Vec Ideal S1x512x2048 .f32) (g gt : Vec Ideal S1x2048 .f32) (o : Vec Ideal S1x16x2048 .f32)
    (r0 : ℕ) (inb) (i1) (i2) (ho : o = View.ld (Val := Elt Ideal) O (Rect.unit (s := S1x512x2048) ![0, r0, 0] ![1, 16, 2048] i2)) (p) :
    k0_pay58 g gt (View.ld (Val := Elt Ideal) x (Rect.unit (s := S1x512x2048) ![0, r0, 0] ![1, 16, 2048] i1)) o p
      = gated x O g gt ((Rect.unit (s := S1x512x2048) ![0, r0, 0] ![1, 16, 2048] inb).emb p) := by
  have hr : r0 + 16 ≤ 512 := inb 1
  obtain ⟨r, d, rfl⟩ : ∃ (r : Fin 16) (d : Fin 2048), p = ix3 0 r d := ⟨p 1, p 2, ix3_eta p⟩
  subst ho
  have e : ∀ (X : Vec Ideal S1x512x2048 .f32) (i) (j : Fin 2048), View.ld (Val := Elt Ideal) X (Rect.unit (s := S1x512x2048) ![0, r0, 0] ![1, 16, 2048] i) (ix3 0 r j)
      = X (ix3 0 ⟨r0 + r.val, by omega⟩ j) := fun X i j => congrArg X (emb_rows r0 hr i r j)
  rw [emb_rows r0 hr inb r d, pay58_at, e, e]
  refine congrArg (fun u => _ + _ * u * _) (congrArg scale (funext fun j => ?_))
  exact e O i2 j

end Cert.Kernel2Ideal.Mlp
-- ==== Proof.Mlp.Points.lean ====
module

public import proofs.«01_k».proof.Proof.Mlp.Body

/-! What the stores of one grid point of the feed-forward call leave in its two buffers. -/

@[expose] public section

set_option maxRecDepth 16384

noncomputable section

namespace Cert.Kernel2Ideal.Mlp
open Cert.Kernel2Ideal Cert.Kernel2Ideal.Gen Idealize.ShloMosaic Idealize.ShloMosaic.TcCoe Idealize.SL.Sem

/-- A box cut along axis `a` into `n + 1` pieces of sixteen, the piece stored last holding the last. -/
def rowsOf (a : ℕ) : ℕ → LoadRect.Cov
  | 0 => .leaf 0
  | n + 1 => .split a 16 (.leaf (n + 1)) (rowsOf a n)

section
variable {sig : RefSig} {κ : Kind} {sp : Space} {s : Shape} {e : EltTy}

/-- A box read back from pieces of one function that cover it. -/
theorem readCov_of_pieces (v : View sig κ sp s e) (G : s.Idx → Elt Ideal e) (r : Rect s) (cov : LoadRect.Cov) (L : List (View.Piece (Elt Ideal) s e))
    (h : View.PiecesOf G L) (hc : LoadRect.covChk (L.map Sigma.fst) r.toLoadRect cov = true) : v.readCov L r.toLoadRect = View.ld G r := by
  rw [View.readCov_eq_canon']
  funext j
  have := View.canon_append_of_piecesOf G [] L h (r.toLoadRect.idx j) (LoadRect.cover_of_covChk L _ cov hc j)
  rw [List.append_nil] at this
  exact this

/-- The same where older pieces lie under those. -/
theorem readCov_of_pieces_append (v : View sig κ sp s e) (G : s.Idx → Elt Ideal e) (r : Rect s) (cov : LoadRect.Cov) (L L' : List (View.Piece (Elt Ideal) s e))
    (h : View.PiecesOf G L) (hc : LoadRect.covChk (L.map Sigma.fst) r.toLoadRect cov = true) : v.readCov (L ++ L') r.toLoadRect = View.ld G r := by
  rw [View.readCov_eq_canon']
  funext j
  exact View.canon_append_of_piecesOf G L' L h (r.toLoadRect.idx j) (LoadRect.cover_of_covChk L _ cov hc j)

/-- A buffer stored in pieces of one function that cover it. -/
theorem canon_of_pieces (G : s.Idx → Elt Ideal e) (L : List (View.Piece (Elt Ideal) s e)) (h : View.PiecesOf G L) (y : s.Idx)
    (hc : ∃ p ∈ L, y ∈ p.1.set) : View.canon L y = G y := by
  have := View.canon_append_of_piecesOf G [] L h y hc
  rwa [List.append_nil] at this

/-- Pieces that miss a box say nothing of it. -/
theorem canon_skip (B : LoadRect s) (L' : List (View.Piece (Elt Ideal) s e)) (j) : ∀ L : List (View.Piece (Elt Ideal) s e),
    (L.map Sigma.fst).all (fun r => LoadRect.disj r B) = true → View.canon (L ++ L') (B.idx j) = View.canon L' (B.idx j)
  | [], _ => rfl
  | p :: L, h => by
    rw [List.map_cons, List.all_cons, Bool.and_eq_true] at h
    exact (View.canon_cons_of_not_mem p (L ++ L') (LoadRect.idx_not_mem_of_disj h.1 j)).trans (canon_skip B L' j L h.2)

/-- A buffer of two boxes, the second stored after the first: its pieces that are one function's, over older ones in each box. -/
theorem canon_halves (G : s.Idx → Elt Ideal e) (B1 B2 : LoadRect s) (cov1 cov2 : LoadRect.Cov) (La Lb Lc Ld : List (View.Piece (Elt Ideal) s e))
    (h2 : View.PiecesOf G La) (c2 : LoadRect.covChk (La.map Sigma.fst) B2 cov2 = true)
    (sk : ((La ++ Lb).map Sigma.fst).all (fun r => LoadRect.disj r B1) = true)
    (h1 : View.PiecesOf G Lc) (c1 : LoadRect.covChk (Lc.map Sigma.fst) B1 cov1 = true)
    (y : s.Idx) (hy : (∃ j, y = B1.idx j) ∨ (∃ j, y = B2.idx j)) : View.canon (La ++ (Lb ++ (Lc ++ Ld))) y = G y := by
  rcases hy with ⟨j, rfl⟩ | ⟨j, rfl⟩
  · rw [← List.append_assoc, canon_skip B1 (Lc ++ Ld) j (La ++ Lb) sk]
    exact View.canon_append_of_piecesOf G Ld Lc h1 _ (LoadRect.cover_of_covChk Lc _ cov1 c1 j)
  · exact View.canon_append_of_piecesOf G _ La h2 _ (LoadRect.cover_of_covChk La _ cov2 c2 j)

end

/-- A row of the 512 is of the first 256 or of the last. -/
theorem halves (y : S1x512x2048.Idx) :
    (∃ j, y = (Rect.unit (s := S1x512x2048) ![0, 0, 0] ![1, 256, 2048] inb_S1x512x2048_S1x256x2048_0_0_0).toLoadRect.idx j)
    ∨ (∃ j, y = (Rect.unit (s := S1x512x2048) ![0, 256, 0] ![1, 256, 2048] inb_S1x512x2048_S1x256x2048_0_256_0).toLoadRect.idx j) := by
  obtain ⟨r, d, rfl⟩ : ∃ (r : Fin 512) (d : Fin 2048), y = ix3 0 r d := ⟨y 1, y 2, ix3_eta y⟩
  by_cases h : r.val < 256
  · refine Or.inl ⟨ix3 0 ⟨r.val, h⟩ d, ((emb_rows 0 (by omega) inb_S1x512x2048_S1x256x2048_0_0_0 (⟨r.val, h⟩ : Fin 256) d).trans ?_).symm⟩
    simp only [Nat.zero_add]
  · refine Or.inr ⟨ix3 0 ⟨r.val - 256, by omega⟩ d, ((emb_rows 256 (by omega) inb_S1x512x2048_S1x256x2048_0_256_0 (⟨r.val - 256, by omega⟩ : Fin 256) d).trans ?_).symm⟩
    have e : 256 + (r.val - 256) = r.val := by omega
    simp only [e]

variable (c : Dev nD) (t : Fin cfg0.N)
  (x0 : Vec Ideal S1x512x2048 .f32) (x1 : Vec Ideal S4x8192 .f32) (x2 : Vec Ideal S1x2048 .f32) (x3 : Vec Ideal S2x2048x1024 .bf16)
  (x4 : Vec Ideal S2048x2048 .bf16) (x5 : Vec Ideal S1x2048 .f32) (o : Vec Ideal S1x512x2048 .f32) (h : Vec Ideal S512x2048 .bf16)

/-- The body's run at the first of the four points of a block of rows, on the point's own buffers. -/
abbrev runA (h0 : cond0_0 (grid0.coords t)) (h1 : ¬ cond0_1 (grid0.coords t)) (h2 : ¬ cond0_2 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 h2 x0 x1 x2 x3 x4 x5

/-- The body's run at the second and third. -/
abbrev runB (h0 : ¬ cond0_0 (grid0.coords t)) (h1 : cond0_1 (grid0.coords t)) (h2 : ¬ cond0_2 (grid0.coords t)) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 h2 x0 x1 x2 x3 x4 x5 o h

/-- The body's run at the last. -/
abbrev runC (h0 : ¬ cond0_0 (grid0.coords t)) (h1 : ¬ cond0_1 (grid0.coords t)) (h2 : cond0_2 (grid0.coords t)) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) h0 h1 h2 x0 x1 x2 x3 x4 x5 o h

/-- One row of the small vectors' blocks, as loaded. -/
abbrev row1 (x : Vec Ideal S1x2048 .f32) : Vec Ideal S1x2048 .f32 :=
  View.ld (Val := Elt Ideal) x (Rect.unit (s := S1x2048) ![0, 0] ![1, 2048] inb_S1x2048_S1x2048_0_0)

/-- The point's row of the modulation from column `o0`, as loaded. -/
abbrev modRow (o0 : ℕ) (inb : ∀ a, (![BitVec.toNat (Scalar.indexCast (BitVec.ofNat 32 (grid0.coords t 0).val)), o0] : Fin 2 → ℕ) a + (![1, 2048] : Fin 2 → ℕ) a ≤ S4x8192.size a) : Vec Ideal S1x2048 .f32 :=
  View.ld (Val := Elt Ideal) x1 (Rect.unit (s := S4x8192) ![BitVec.toNat (Scalar.indexCast (BitVec.ofNat 32 (grid0.coords t 0).val)), o0] ![1, 2048] inb)

set_option maxHeartbeats 4000000 in
/-- Read back, the scratch of rows at a point of case A. -/
theorem canonA_S0 (h0 h1 h2) (i1) (i2) : View.canon (runA c t x0 x1 x2 x3 x4 x5 h0 h1 h2).2.1
    = hid x0 (row1 x2) (modRow t x1 4096 i1) (modRow t x1 2048 i2) := by
  funext y
  have hcov : ∃ p ∈ (runA c t x0 x1 x2 x3 x4 x5 h0 h1 h2).2.1, y ∈ p.1.set :=
    View.cover_of_tiledL (runA c t x0 x1 x2 x3 x4 x5 h0 h1 h2).2.1 S16x2048.size (by sl_kernel_rfl) y
  revert hcov
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  intro hcov
  refine canon_of_pieces (hid x0 (row1 x2) (modRow t x1 4096 i1) (modRow t x1 2048 i2)) _ ?_ y hcov
  repeat' (refine And.intro (fun x => at_of_eq (hid_tile x0 (row1 x2) (modRow t x1 4096 i1) (modRow t x1 2048 i2) _ (by decide) (by decide) x) rfl) ?_)
  trivial

end Cert.Kernel2Ideal.Mlp
-- ==== Proof.Mlp.PointA.lean ====
module

public import proofs.«01_k».proof.Proof.Mlp.Points

/-! What the stores of one grid point of the feed-forward call leave in the result's block. -/

@[expose] public section

set_option maxRecDepth 16384

noncomputable section

namespace Cert.Kernel2Ideal.Mlp
open Cert.Kernel2Ideal Cert.Kernel2Ideal.Gen Idealize.ShloMosaic Idealize.ShloMosaic.TcCoe Idealize.SL.Sem

variable (c : Dev nD) (t : Fin cfg0.N)
  (x0 : Vec Ideal S1x512x2048 .f32) (x1 : Vec Ideal S4x8192 .f32) (x2 : Vec Ideal S1x2048 .f32) (x3 : Vec Ideal S2x2048x1024 .bf16)
  (x4 : Vec Ideal S2048x2048 .bf16) (x5 : Vec Ideal S1x2048 .f32) (o : Vec Ideal S1x512x2048 .f32) (h : Vec Ideal S512x2048 .bf16)

set_option maxHeartbeats 4000000 in
/-- Read back, the sums at a point of case A. -/
theorem canonA_6 (h0 h1 h2) (i1) (i2) : View.canon (runA c t x0 x1 x2 x3 x4 x5 h0 h1 h2).1
    = first (hid x0 (row1 x2) (modRow t x1 4096 i1) (modRow t x1 2048 i2)) x3 x4 := by
  funext y
  unfold runA kernelRun0_A
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  refine canon_halves (first (hid x0 (row1 x2) (modRow t x1 4096 i1) (modRow t x1 2048 i2)) x3 x4) _ _ (.leaf 0) (.leaf 0) [_] [_] [_] [_] ?_ (by sl_kernel_rfl) (by sl_kernel_rfl) ?_ (by sl_kernel_rfl) y (halves y)
  · refine And.intro (fun x => ?_) trivial
    refine at_of_eq (first_tile (hid x0 (row1 x2) (modRow t x1 4096 i1) (modRow t x1 2048 i2)) x3 x4 _ 256 (by decide) (by decide) (by decide) (by decide) (by decide) (by decide) ?_ x) rfl
    refine readCov_of_pieces _ (hid x0 (row1 x2) (modRow t x1 4096 i1) (modRow t x1 2048 i2)) _ (rowsOf 0 15) _ ?_ (by sl_kernel_rfl)
    repeat' (refine And.intro (fun x => at_of_eq (hid_tile x0 (row1 x2) (modRow t x1 4096 i1) (modRow t x1 2048 i2) _ (by decide) (by decide) x) rfl) ?_)
    trivial
  · refine And.intro (fun x => ?_) trivial
    refine at_of_eq (first_tile (hid x0 (row1 x2) (modRow t x1 4096 i1) (modRow t x1 2048 i2)) x3 x4 _ 0 (by decide) (by decide) (by decide) (by decide) (by decide) (by decide) ?_ x) rfl
    refine readCov_of_pieces _ (hid x0 (row1 x2) (modRow t x1 4096 i1) (modRow t x1 2048 i2)) _ (rowsOf 0 15) _ ?_ (by sl_kernel_rfl)
    repeat' (refine And.intro (fun x => at_of_eq (hid_tile x0 (row1 x2) (modRow t x1 4096 i1) (modRow t x1 2048 i2) _ (by decide) (by decide) x) rfl) ?_)
    trivial

end Cert.Kernel2Ideal.Mlp
-- ==== Proof.Mlp.PointC.lean ====
module

public import proofs.«01_k».proof.Proof.Mlp.Points

/-! What the stores of one grid point of the feed-forward call leave in the result's block. -/

@[expose] public section

set_option maxRecDepth 16384

noncomputable section

namespace Cert.Kernel2Ideal.Mlp
open Cert.Kernel2Ideal Cert.Kernel2Ideal.Gen Idealize.ShloMosaic Idealize.ShloMosaic.TcCoe Idealize.SL.Sem

variable (c : Dev nD) (t : Fin cfg0.N)
  (x0 : Vec Ideal S1x512x2048 .f32) (x1 : Vec Ideal S4x8192 .f32) (x2 : Vec Ideal S1x2048 .f32) (x3 : Vec Ideal S2x2048x1024 .bf16)
  (x4 : Vec Ideal S2048x2048 .bf16) (x5 : Vec Ideal S1x2048 .f32) (o : Vec Ideal S1x512x2048 .f32) (h : Vec Ideal S512x2048 .bf16)

set_option maxHeartbeats 4000000 in
/-- Read back, the sums at a point of case B. -/
theorem canonB_6 (h0 h1 h2) : View.canon (runB c t x0 x1 x2 x3 x4 x5 o h h0 h1 h2).1 = more o h x3 x4 := by
  funext y
  unfold runB kernelRun0_B
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  refine View.canon_append_of_piecesOf (more o h x3 x4) [_] [_] ?_ y ?_
  · exact And.intro (fun x => at_of_eq (more_whole o h x3 x4 (by decide) (by decide) (by decide) (by decide) (by decide) (by decide) (by decide) x) rfl) trivial
  · exact View.cover_of_tiledL (s := S1x512x2048) _ S1x512x2048.size (by sl_kernel_rfl) y

set_option maxHeartbeats 4000000 in
/-- Read back, the result at a point of case C. -/
theorem canonC_6 (h0 h1 h2) (i1) : View.canon (runC c t x0 x1 x2 x3 x4 x5 o h h0 h1 h2).1
    = gated x0 (more o h x3 x4) (row1 x5) (modRow t x1 6144 i1) := by
  funext y
  unfold runC kernelRun0_C
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, read_unread_whole]
  refine canon_halves (gated x0 (more o h x3 x4) (row1 x5) (modRow t x1 6144 i1)) _ _ (rowsOf 1 15) (rowsOf 1 15)
    [_, _, _, _, _, _, _, _, _, _, _, _, _, _, _, _] [_, _] [_, _, _, _, _, _, _, _, _, _, _, _, _, _, _, _] [_, _] ?_ (by sl_kernel_rfl) (by sl_kernel_rfl) ?_ (by sl_kernel_rfl) y (halves y)
  · repeat' (refine And.intro (fun x => at_of_eq (gated_tile x0 (more o h x3 x4) (row1 x5) (modRow t x1 6144 i1) _ _ (by decide) (by decide) (by decide)
      (readCov_of_pieces_append _ (more o h x3 x4) _ (.leaf 0) [_] _
        (And.intro (fun x => at_of_eq (more_tile o h x3 x4 256 (by decide) (by decide) (by decide) (by decide) (by decide) (by decide) (by decide) x) rfl) trivial)
        (by sl_kernel_rfl)) x) rfl) ?_)
    trivial
  · repeat' (refine And.intro (fun x => at_of_eq (gated_tile x0 (more o h x3 x4) (row1 x5) (modRow t x1 6144 i1) _ _ (by decide) (by decide) (by decide)
      (readCov_of_pieces_append _ (more o h x3 x4) _ (.leaf 0) [_] _
        (And.intro (fun x => at_of_eq (more_tile o h x3 x4 0 (by decide) (by decide) (by decide) (by decide) (by decide) (by decide) (by decide) x) rfl) trivial)
        (by sl_kernel_rfl)) x) rfl) ?_)
    trivial

end Cert.Kernel2Ideal.Mlp
-- ==== Proof.Mlp.Call.lean ====
module

public import proofs.«01_k».proof.Proof.Mlp.PointA
public import proofs.«01_k».proof.Proof.Mlp.PointC
public import Idealize.ShloMosaic.Lib.Pipeline.ValueKit

/-! What the grid points of the feed-forward call find in their blocks and leave in their two buffers, as functions of the whole arrays: points
    `4 q` to `4 q + 3` are block `q % 4` of batch `q / 4`, 512 rows, each with two of the eight slabs of the weights. -/

@[expose] public section

set_option maxRecDepth 16384

noncomputable section

namespace Cert.Kernel2Ideal.Mlp
open Cert.Kernel2Ideal Cert.Kernel2Ideal.Gen Idealize.ShloMosaic Idealize.ShloMosaic.TcCoe Idealize.SL.Sem

/-- A normalized and modulated row of the whole arrays. -/
def rows (X : S4x2048x2048.Idx → EReal) (M : S4x8192.Idx → EReal) (g : S1x2048.Idx → EReal) (b : Fin 4) (r : Fin 2048) (d : Fin 2048) : EReal :=
  X (ix3 b r d) * scale (fun j => X (ix3 b r j)) * (g (ix2 0 d) * (1 + M (ix2 b ⟨4096 + d.val, by omega⟩))) + M (ix2 b ⟨2048 + d.val, by omega⟩)

/-- What slab `n` of the hidden units adds to one element. -/
def share (X : S4x2048x2048.Idx → EReal) (M : S4x8192.Idx → EReal) (g : S1x2048.Idx → EReal) (W1 : S8x2048x1024.Idx → EReal) (W2 : S8192x2048.Idx → EReal)
    (b : Fin 4) (r : Fin 2048) (d : Fin 2048) (n : Fin 8) : EReal :=
  chunk (rows X M g b r) (fun j k => W1 (ix3 n j k)) (fun k : Fin 1024 => W2 (ix2 ⟨n.val * 1024 + k.val, by omega⟩ d))

/-- The feed-forward block of whole arrays. -/
def feed (X : S4x2048x2048.Idx → EReal) (M : S4x8192.Idx → EReal) (g : S1x2048.Idx → EReal) (W1 : S8x2048x1024.Idx → EReal) (W2 : S8192x2048.Idx → EReal)
    (g' : S1x2048.Idx → EReal) (b : Fin 4) (r : Fin 2048) (d : Fin 2048) : EReal :=
  X (ix3 b r d) + (∑ n, share X M g W1 W2 b r d n) * scale (fun j => ∑ n, share X M g W1 W2 b r j n)
    * (M (ix2 b ⟨6144 + d.val, by omega⟩) * g' (ix2 0 d))

theorem chunk_congr {n : ℕ} {u u' : Fin 2048 → EReal} {w w' : Fin 2048 → Fin n → EReal} {v v' : Fin n → EReal} (hu : ∀ j, u j = u' j)
    (hw : ∀ j k, w j k = w' j k) (hv : ∀ k, v k = v' k) : chunk u w v = chunk u' w' v' := by
  rw [show u = u' from funext hu, show w = w' from funext fun j => funext (hw j), show v = v' from funext hv]

theorem row1_at (x : Vec Ideal S1x2048 .f32) (d : Fin 2048) : row1 x (ix2 0 d) = x (ix2 0 d) :=
  View.ld_unit_apply_of x _ _ inb_S1x2048_S1x2048_0_0 _ _ fun a => by
    match a with
    | ⟨0, _⟩ => rfl
    | ⟨1, _⟩ => exact (Nat.zero_add _).symm

theorem batch : ∀ t : Fin grid0.N, BitVec.toNat (Scalar.indexCast (BitVec.ofNat 32 (grid0.coords t 0).val)) = t.val / 16 := by decide +kernel

theorem lt64 (t : Fin cfg0.N) : t.val < 64 := lt_of_lt_of_eq t.isLt (show cfg0.N = 64 from N_0)

theorem modRow_inb (t : Fin cfg0.N) (o0 : ℕ) (h : o0 + 2048 ≤ 8192) (a) :
    (![BitVec.toNat (Scalar.indexCast (BitVec.ofNat 32 (grid0.coords t 0).val)), o0] : Fin 2 → ℕ) a + (![1, 2048] : Fin 2 → ℕ) a ≤ S4x8192.size a := by
  have ht := lt64 t
  match a with
  | ⟨0, _⟩ => show BitVec.toNat (Scalar.indexCast (BitVec.ofNat 32 (grid0.coords t 0).val)) + 1 ≤ 4; rw [batch t]; omega
  | ⟨1, _⟩ => exact h

theorem modRow_at (t : Fin cfg0.N) (x : Vec Ideal S4x8192 .f32) (o0 : ℕ) (h : o0 + 2048 ≤ 8192) (inb) (d : Fin 2048) :
    modRow t x o0 inb (ix2 0 d) = x (ix2 ⟨t.val / 16, by have := lt64 t; omega⟩ ⟨o0 + d.val, by omega⟩) :=
  View.ld_unit_apply_of x _ _ inb _ _ fun a => by
    match a with
    | ⟨0, _⟩ => exact (batch t).symm
    | ⟨1, _⟩ => rfl

theorem idx0 : ∀ t : Fin grid0.N, (cfg0.win 0).index t = ![t.val / 16, t.val / 4 % 4, 0] := by decide +kernel
theorem idx1 : ∀ t : Fin grid0.N, (cfg0.win 1).index t = ![0, 0] := by decide +kernel
theorem idx2 : ∀ t : Fin grid0.N, (cfg0.win 2).index t = ![0, 0] := by decide +kernel
theorem idx3 : ∀ t : Fin grid0.N, (cfg0.win 3).index t = ![t.val % 4, 0, 0] := by decide +kernel
theorem idx4 : ∀ t : Fin grid0.N, (cfg0.win 4).index t = ![t.val % 4, 0] := by decide +kernel
theorem idx5 : ∀ t : Fin grid0.N, (cfg0.win 5).index t = ![0, 0] := by decide +kernel
theorem idx6 : ∀ t : Fin grid0.N, (cfg0.win 6).index t = ![t.val / 16, t.val / 4 % 4, 0] := by decide +kernel

variable (m : (ℓ : Loc nD τ sig) → Buf (Elt Ideal) ℓ) (c : Dev nD)

theorem blk0 (t : Fin cfg0.N) (r : Fin 512) (d : Fin 2048) : iblk m c 0 t (ix3 0 r d)
    = m ((c : Thread nD τ).loc main_arg0) (ix3 ⟨t.val / 16, by have := lt64 t; omega⟩ ⟨t.val / 4 % 4 * 512 + r.val, by omega⟩ d) := by
  blk_ext [iblk, V, idx0 t]

theorem blk1 (t : Fin cfg0.N) (b : Fin 4) (d : Fin 8192) : iblk m c 1 t (ix2 b d) = m ((c : Thread nD τ).loc main_arg1) (ix2 b d) := by
  blk_ext [iblk, V, idx1 t]

theorem blk2 (t : Fin cfg0.N) (d : Fin 2048) : iblk m c 2 t (ix2 0 d) = m ((c : Thread nD τ).loc main_arg2) (ix2 0 d) := by
  blk_ext [iblk, V, idx2 t]

theorem blk3 (t : Fin cfg0.N) (s : Fin 2) (j : Fin 2048) (k : Fin 1024) : iblk m c 3 t (ix3 s j k)
    = m ((c : Thread nD τ).loc main_arg3) (ix3 ⟨t.val % 4 * 2 + s.val, by omega⟩ j k) := by
  blk_ext [iblk, V, idx3 t]

theorem blk4 (t : Fin cfg0.N) (k : Fin 2048) (d : Fin 2048) : iblk m c 4 t (ix2 k d)
    = m ((c : Thread nD τ).loc main_arg4) (ix2 ⟨t.val % 4 * 2048 + k.val, by omega⟩ d) := by
  blk_ext [iblk, V, idx4 t]

theorem blk5 (t : Fin cfg0.N) (d : Fin 2048) : iblk m c 5 t (ix2 0 d) = m ((c : Thread nD τ).loc main_arg5) (ix2 0 d) := by
  blk_ext [iblk, V, idx5 t]

/-- The normalized rows of block `q`. -/
def H (q : Fin 16) : Vec Ideal S512x2048 .bf16 := fun y =>
  rows (m ((c : Thread nD τ).loc main_arg0)) (m ((c : Thread nD τ).loc main_arg1)) (m ((c : Thread nD τ).loc main_arg2))
    ⟨q.val / 4, by omega⟩ ⟨q.val % 4 * 512 + (y 0).val, by have : (y 0).val < 512 := (y 0).isLt; omega⟩ (y 1)

/-- Slab `n`'s share of block `q`. -/
def sh (q : Fin 16) (n : Fin 8) : Vec Ideal S1x512x2048 .f32 := fun y =>
  share (m ((c : Thread nD τ).loc main_arg0)) (m ((c : Thread nD τ).loc main_arg1)) (m ((c : Thread nD τ).loc main_arg2))
    (m ((c : Thread nD τ).loc main_arg3)) (m ((c : Thread nD τ).loc main_arg4))
    ⟨q.val / 4, by omega⟩ ⟨q.val % 4 * 512 + (y 1).val, by have : (y 1).val < 512 := (y 1).isLt; omega⟩ (y 2) n

/-- The rows that the first point of block `q` normalizes. -/
theorem hid_eq (q : Fin 16) (t : Fin cfg0.N) (ht : t.val = 4 * q.val) (i1) (i2) :
    hid (iblk m c 0 t) (row1 (iblk m c 2 t)) (modRow t (iblk m c 1 t) 4096 i1) (modRow t (iblk m c 1 t) 2048 i2) = H m c q := by
  have e1 : t.val / 16 = q.val / 4 := by omega
  have e2 : t.val / 4 % 4 = q.val % 4 := by omega
  funext y
  unfold hid H rows
  have hx : ∀ j : Fin 2048, iblk m c 0 t (ix3 0 (y 0) j) = m ((c : Thread nD τ).loc main_arg0)
      (ix3 ⟨q.val / 4, by omega⟩ ⟨q.val % 4 * 512 + (y 0).val, by have : (y 0).val < 512 := (y 0).isLt; omega⟩ j) := fun j => by
    refine (blk0 m c t (y 0) j).trans ?_
    simp only [e1, e2]
  have hm : ∀ (o0 : ℕ) (h : o0 + 2048 ≤ 8192) (inb), modRow t (iblk m c 1 t) o0 inb (ix2 0 (y 1))
      = m ((c : Thread nD τ).loc main_arg1) (ix2 ⟨q.val / 4, by omega⟩ ⟨o0 + (y 1).val, by have : (y 1).val < 2048 := (y 1).isLt; omega⟩) := fun o0 h inb => by
    refine (modRow_at t (iblk m c 1 t) o0 h inb (y 1)).trans ((blk1 m c t _ _).trans ?_)
    simp only [e1]
  refine congrArg₂ (· + ·) (congrArg₂ (· * ·) (congrArg₂ (· * ·) (hx (y 1)) (congrArg scale (funext hx))) (congrArg₂ (· * ·) ?_ (congrArg (1 + ·) ?_))) ?_
  · exact (row1_at (iblk m c 2 t) (y 1)).trans (blk2 m c t (y 1))
  · exact hm 4096 (by omega) i1
  · exact hm 2048 (by omega) i2

/-- A point's two slices are two of the eight slabs. -/
theorem part_eq (q : Fin 16) (t : Fin cfg0.N) (s : Fin 2) (n : Fin 8) (hn : n.val = t.val % 4 * 2 + s.val) (y : S1x512x2048.Idx) :
    part (H m c q) (iblk m c 3 t) (iblk m c 4 t) s (y 1) (y 2) = sh m c q n y := by
  unfold part sh share
  refine chunk_congr (fun j => rfl) (fun j k => ?_) (fun k => ?_)
  · refine (blk3 m c t s j k).trans ?_
    simp only [← hn]
  · refine (blk4 m c t _ (y 2)).trans ?_
    have e : t.val % 4 * 2048 + (s.val * 1024 + k.val) = n.val * 1024 + k.val := by omega
    simp only [e]

/-- After the first point of a block. -/
theorem after_first (q : Fin 16) (t : Fin cfg0.N) (ht : t.val = 4 * q.val) :
    outsAt0 m c t.val t.isLt = (fun y => sh m c q 0 y + sh m c q 1 y, H m c q) := by
  have hh := hid_eq m c q t ht (modRow_inb t 4096 (by omega)) (modRow_inb t 2048 (by omega))
  rw [outsAt0_A m c t (by omega) (by omega) (by omega)]
  unfold out0_A_6 sout0_A_0
  rw [View.read_writes_junk_eq_canon, View.read_writes_junk_eq_canon]
  refine congrArg₂ Prod.mk ?_ ?_
  · refine (canonA_6 c t _ _ _ _ _ _ _ _ _ (modRow_inb t 4096 (by omega)) (modRow_inb t 2048 (by omega))).trans ?_
    rw [hh]
    funext y
    exact congrArg₂ (· + ·) (part_eq m c q t 0 0 (by show 0 = t.val % 4 * 2 + 0; omega) y) (part_eq m c q t 1 1 (by show 1 = t.val % 4 * 2 + 1; omega) y)
  · exact (canonA_S0 c t _ _ _ _ _ _ _ _ _ (modRow_inb t 4096 (by omega)) (modRow_inb t 2048 (by omega))).trans hh

/-- After its second or third point, from what the point before left. -/
theorem after_next (q : Fin 16) (t : Fin cfg0.N) (h1 : 1 ≤ t.val % 4 ∧ t.val % 4 ≤ 2) (o : Vec Ideal S1x512x2048 .f32)
    (ho : outsAt0 m c (t.val - 1) (Nat.lt_of_le_of_lt (Nat.sub_le _ _) t.isLt) = (o, H m c q))
    (n n' : Fin 8) (hn : n.val = t.val % 4 * 2) (hn' : n'.val = t.val % 4 * 2 + 1) :
    outsAt0 m c t.val t.isLt = (fun y => o y + sh m c q n y + sh m c q n' y, H m c q) := by
  rw [outsAt0_B m c t (by omega) h1 (by omega), ho]
  unfold out0_B_6 sout0_B_0
  rw [View.read_writes_junk_eq_canon]
  refine congrArg₂ Prod.mk ?_ rfl
  refine (canonB_6 c t _ _ _ _ _ _ _ _ _ _ _).trans ?_
  funext y
  exact congrArg₂ (· + ·) (congrArg (o y + ·) (part_eq m c q t 0 n hn y)) (part_eq m c q t 1 n' hn' y)

/-- After its last point. -/
theorem after_last (q : Fin 16) (t : Fin cfg0.N) (ht : t.val = 4 * q.val + 3) (o : Vec Ideal S1x512x2048 .f32)
    (ho : outsAt0 m c (t.val - 1) (Nat.lt_of_le_of_lt (Nat.sub_le _ _) t.isLt) = (o, H m c q)) :
    (outsAt0 m c t.val t.isLt).1
      = gated (iblk m c 0 t) (fun y => o y + sh m c q 6 y + sh m c q 7 y) (row1 (iblk m c 5 t)) (modRow t (iblk m c 1 t) 6144 (modRow_inb t 6144 (by omega))) := by
  rw [outsAt0_C m c t (by omega) (by omega) (by omega), ho]
  dsimp only
  unfold out0_C_6
  rw [View.read_writes_junk_eq_canon]
  refine (canonC_6 c t _ _ _ _ _ _ _ _ _ _ _ (modRow_inb t 6144 (by omega))).trans ?_
  refine congrArg (fun u => gated (iblk m c 0 t) u _ _) (funext fun y => ?_)
  exact congrArg₂ (· + ·) (congrArg (o y + ·) (part_eq m c q t 0 6 (by show 6 = t.val % 4 * 2 + 0; omega) y)) (part_eq m c q t 1 7 (by show 7 = t.val % 4 * 2 + 1; omega) y)

/-- What the last point of a block leaves in the result's buffer. -/
theorem result_block (q : Fin 16) (t : Fin cfg0.N) (ht : t.val = 4 * q.val + 3) (r : Fin 512) (d : Fin 2048) :
    (outsAt0 m c t.val t.isLt).1 (ix3 0 r d)
      = feed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        ⟨q.val / 4, by omega⟩ ⟨q.val % 4 * 512 + r.val, by omega⟩ d := by
  have hN := lt64 t
  have hc : cfg0.N = 64 := N_0
  have s0 := after_first m c q ⟨4 * q.val, by omega⟩ rfl
  have s1 := after_next m c q ⟨4 * q.val + 1, by omega⟩ (by dsimp only; omega) _ s0 2 3 (by show 2 = (4 * q.val + 1) % 4 * 2; omega) (by show 3 = (4 * q.val + 1) % 4 * 2 + 1; omega)
  have s2 := after_next m c q ⟨4 * q.val + 2, by omega⟩ (by dsimp only; omega) _ s1 4 5 (by show 4 = (4 * q.val + 2) % 4 * 2; omega) (by show 5 = (4 * q.val + 2) % 4 * 2 + 1; omega)
  obtain ⟨n, hn⟩ := t
  dsimp only at ht
  subst ht
  rw [after_last m c q ⟨4 * q.val + 3, hn⟩ rfl _ s2]
  have e1 : (4 * q.val + 3) / 16 = q.val / 4 := by omega
  have e2 : (4 * q.val + 3) / 4 % 4 = q.val % 4 := by omega
  have hs : ∀ j : Fin 2048, sh m c q 0 (ix3 0 r j) + sh m c q 1 (ix3 0 r j) + sh m c q 2 (ix3 0 r j) + sh m c q 3 (ix3 0 r j) + sh m c q 4 (ix3 0 r j)
      + sh m c q 5 (ix3 0 r j) + sh m c q 6 (ix3 0 r j) + sh m c q 7 (ix3 0 r j) = ∑ n, sh m c q n (ix3 0 r j) := fun j => (Fin.sum_univ_eight _).symm
  unfold gated feed
  refine congrArg₂ (· + ·) ?_ (congrArg₂ (· * ·) (congrArg₂ (· * ·) (hs d) (congrArg scale (funext hs))) (congrArg₂ (· * ·) ?_ ?_))
  · refine (blk0 m c _ r d).trans ?_
    simp only [e1, e2]
  · refine (modRow_at _ (iblk m c 1 _) 6144 (by omega) _ d).trans ((blk1 m c _ _ _).trans ?_)
    simp only [e1]
  · exact (row1_at (iblk m c 5 _) d).trans (blk5 m c _ d)

end Cert.Kernel2Ideal.Mlp
-- ==== Proof.Mlp.Value.lean ====
module

public import proofs.«01_k».proof.Proof.Mlp.Call
public import proofs.«01_k».proof.Proof.Gen.Kernel2Ideal.Value
public import Idealize.ShloMosaic.Lib.Claim

/-! The feed-forward call's result array after its run. -/

@[expose] public section

set_option maxRecDepth 16384

noncomputable section

namespace Cert.Kernel2Ideal.Mlp
open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The feed-forward block, as an array. -/
def feedArr (X : S4x2048x2048.Idx → EReal) (M : S4x8192.Idx → EReal) (g : S1x2048.Idx → EReal) (W1 : S8x2048x1024.Idx → EReal)
    (W2 : S8192x2048.Idx → EReal) (g' : S1x2048.Idx → EReal) : S4x2048x2048.Idx → EReal := fun i => feed X M g W1 W2 g' (i 0) (i 1) (i 2)

theorem arr6 : (dats m 0 c).arrAt 6 (cfgs 0).N
    = feedArr (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  have hN := lt64 t
  have h3 : t.val % 4 = 3 := (flush0_6 t).mp hf
  have e0 : (((((cfg0.win 6).blk t).view.emb y) 0 : Fin 4) : ℕ) = t.val / 16 := by blk_simp [idx6 t]
  have e1 : (((((cfg0.win 6).blk t).view.emb y) 1 : Fin 2048) : ℕ) = t.val / 4 % 4 * 512 + (y 1).val := by blk_simp [idx6 t]
  have e2 : (((((cfg0.win 6).blk t).view.emb y) 2 : Fin 2048) : ℕ) = (y 2).val := by blk_simp [idx6 t]
  show (cfg0.win 6).cut (grid0.coords t) ((dats m 0 c).after 6 t) y = _
  rw [after0_6]
  show (outsAt0 m c t.val t.isLt).1 y = feedArr _ _ _ _ _ _ (((cfg0.win 6).blk t).view.emb y)
  generalize (((cfg0.win 6).blk t).view.emb y : S4x2048x2048.Idx) = i at e0 e1 e2 ⊢
  have h1 : (y 1).val < 512 := (y 1).isLt
  have h2 : (y 2).val < 2048 := (y 2).isLt
  have i0 : i 0 = (⟨t.val / 4 / 4, by omega⟩ : Fin 4) := Fin.ext (e0.trans (by show t.val / 16 = t.val / 4 / 4; omega))
  have i1 : i 1 = (⟨t.val / 4 % 4 * 512 + (y 1).val, by omega⟩ : Fin 2048) := Fin.ext e1
  have i2 : i 2 = (y 2 : Fin 2048) := Fin.ext e2
  have hb := result_block m c ⟨t.val / 4, by omega⟩ t (by show t.val = 4 * (t.val / 4) + 3; omega) (y 1) (y 2)
  have hy : y = ix3 (n0 := 1) 0 (y 1) (y 2) := by
    funext a
    match a with
    | ⟨0, _⟩ => exact Fin.ext (by have : (y 0).val < 1 := (y 0).isLt; show (y 0).val = 0; omega)
    | ⟨1, _⟩ => rfl
    | ⟨2, _⟩ => rfl
  unfold feedArr
  rw [i0, i1, i2]
  exact (congrArg (outsAt0 m c t.val t.isLt).1 hy).trans hb

/-- The call's run: its result as a function of its arguments, which it leaves as they were. -/
theorem value (g : Dev nD → PrngReg) : θ_run defs (onTc (τ := τ) (main (F := Ideal))) ⟨m, fun _ => 0, g⟩ (fun r => ∀ c : Dev nD,
      r.2.mem ((c : Thread nD τ).loc main_v0)
        = feedArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun _ h c => ⟨(h c).1.trans (arr6 m c), (h c).2⟩) (Cert.Kernel2Ideal.Value.run_blocks (F := Ideal) m g)

end Cert.Kernel2Ideal.Mlp
-- ==== Proof.Mlp.Reference.lean ====
module

public import proofs.«01_k».proof.Proof.Mlp.Call
public import proofs.«01_k».proof.Reference2Ideal
public import Idealize.ShloMosaic.Lib.Pointwise
public import Idealize.ShloMosaic.Lib.Claim

/-! The reference of the feed-forward block, array by array: the normalized rows, the hidden units, their product with the second weight, the
    gated sum. -/

@[expose] public section

set_option maxRecDepth 16384

noncomputable section

namespace Cert.Reference2Ideal
open Cert.Reference2Ideal Cert.Reference2Ideal.Facts₀ Cert.Kernel2Ideal.Mlp Idealize.ShloMosaic

variable [Facts]

/-- The inverse square root of each row's mean square. -/
def scales (X : FVec Ideal S4x2048x2048 .f32) : FVec Ideal S4x2048x1 .f32 :=
  Host.rsqrt (addf (Host.divf (broadcastInDim S4x2048x1 ![0, 1] bcast_S4x2048_S4x2048x1_0_1
      (Host.reduceAdd (mulf X X) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

/-- The normalized rows times a gain. -/
def normed (X : FVec Ideal S4x2048x2048 .f32) (R : FVec Ideal S4x2048x1 .f32) (g : FVec Ideal S1x2048 .f32) : FVec Ideal S4x2048x2048 .f32 :=
  mulf (mulf X (broadcastInDim S4x2048x2048 ![0, 1, 2] bcast_S4x2048x1_S4x2048x2048_0_1_2 R))
    (broadcastInDim S4x2048x2048 ![0, 1, 2] bcast_S1x1x2048_S4x2048x2048_0_1_2
      (broadcastInDim S1x1x2048 ![2] bcast_S2048_S1x1x2048_2 (shapeCast S2048 g shapeCasts_S1x2048_S2048)))

/-- The modulated rows. -/
def modulated (N : FVec Ideal S4x2048x2048 .f32) (M : FVec Ideal S4x8192 .f32) : FVec Ideal S4x2048x2048 .f32 :=
  addf (mulf N (broadcastInDim S4x2048x2048 ![0, 1, 2] bcast_S4x1x2048_S4x2048x2048_0_1_2
      (addf (broadcastInDim S4x1x2048 ![] bcast_S_S4x1x2048 (constant S_ .f32 0x3F800000#32))
        (broadcastInDim S4x1x2048 ![0, 2] bcast_S4x2048_S4x1x2048_0_2 (extractStridedSlice S4x2048 ![0, 4096] M slices_S4x8192_S4x2048_0_4096)))))
    (broadcastInDim S4x2048x2048 ![0, 1, 2] bcast_S4x1x2048_S4x2048x2048_0_1_2
      (broadcastInDim S4x1x2048 ![0, 2] bcast_S4x2048_S4x1x2048_0_2 (extractStridedSlice S4x2048 ![0, 2048] M slices_S4x8192_S4x2048_0_2048)))

/-- The hidden units before their activation. -/
def units (N : FVec Ideal S4x2048x2048 .f32) (W : FVec Ideal S8x2048x1024 .bf16) : FVec Ideal S4x2048x8192 .f32 :=
  Host.dotGeneral dot_S4x2048x2048_S2048x8192_S4x2048x8192_2_0_01_1_n_n none N
    (shapeCast S2048x8192 (transpose S2048x8x1024 [1, 0, 2] (extf .f32 W bitsLt_bf16_f32) transposes_S8x2048x1024_S2048x8x1024_1_0_2)
      shapeCasts_S2048x8x1024_S2048x8192)

/-- Their positive parts. -/
def positive (U : FVec Ideal S4x2048x8192 .f32) : FVec Ideal S4x2048x8192 .f32 :=
  maximumf U (broadcastInDim S4x2048x8192 ![] bcast_S_S4x2048x8192 (constant S_ .f32 0x00000000#32))

/-- The squares' product with the second weight. -/
def down (U : FVec Ideal S4x2048x8192 .f32) (W : FVec Ideal S8192x2048 .bf16) : FVec Ideal S4x2048x2048 .f32 :=
  Host.dotGeneral dot_S4x2048x8192_S8192x2048_S4x2048x2048_2_0_01_1_n_n none (mulf U U) (extf .f32 W bitsLt_bf16_f32)

/-- The rows plus the gated branch. -/
def added (X N : FVec Ideal S4x2048x2048 .f32) (M : FVec Ideal S4x8192 .f32) : FVec Ideal S4x2048x2048 .f32 :=
  addf X (mulf (broadcastInDim S4x2048x2048 ![0, 1, 2] bcast_S4x1x2048_S4x2048x2048_0_1_2
    (broadcastInDim S4x1x2048 ![0, 2] bcast_S4x2048_S4x1x2048_0_2 (extractStridedSlice S4x2048 ![0, 6144] M slices_S4x8192_S4x2048_0_6144))) N)

theorem scales_at (X : FVec Ideal S4x2048x2048 .f32) (b : Fin 4) (r : Fin 2048) (z : Fin 1) :
    scales X (ix3 b r z) = scale (fun j => X (ix3 b r j)) := by
  unfold scales scale
  pointwise

theorem normed_at (X : FVec Ideal S4x2048x2048 .f32) (R : FVec Ideal S4x2048x1 .f32) (g : FVec Ideal S1x2048 .f32) (b : Fin 4) (r d : Fin 2048) :
    normed X R g (ix3 b r d) = X (ix3 b r d) * R (ix3 b r 0) * g (ix2 0 d) := by
  unfold normed
  pointwise

theorem modulated_at (N : FVec Ideal S4x2048x2048 .f32) (M : FVec Ideal S4x8192 .f32) (b : Fin 4) (r d : Fin 2048) :
    modulated N M (ix3 b r d) = N (ix3 b r d) * (1 + M (ix2 b ⟨4096 + d.val, by omega⟩)) + M (ix2 b ⟨2048 + d.val, by omega⟩) := by
  unfold modulated
  pointwise

theorem units_at (N : FVec Ideal S4x2048x2048 .f32) (W : FVec Ideal S8x2048x1024 .bf16) (b : Fin 4) (r : Fin 2048) (k : Fin 8192) :
    units N W (ix3 b r k) = ∑ j, N (ix3 b r j) * W (ix3 ⟨k.val / 1024, by omega⟩ j ⟨k.val % 1024, by omega⟩) := by
  unfold units
  pointwise

theorem positive_at (U : FVec Ideal S4x2048x8192 .f32) (b : Fin 4) (r : Fin 2048) (k : Fin 8192) :
    positive U (ix3 b r k) = max (U (ix3 b r k)) 0 := by
  unfold positive
  pointwise

theorem down_at (U : FVec Ideal S4x2048x8192 .f32) (W : FVec Ideal S8192x2048 .bf16) (b : Fin 4) (r d : Fin 2048) :
    down U W (ix3 b r d) = ∑ k, U (ix3 b r k) * U (ix3 b r k) * W (ix2 k d) := by
  unfold down
  pointwise

theorem added_at (X N : FVec Ideal S4x2048x2048 .f32) (M : FVec Ideal S4x8192 .f32) (b : Fin 4) (r d : Fin 2048) :
    added X N M (ix3 b r d) = X (ix3 b r d) + M (ix2 b ⟨6144 + d.val, by omega⟩) * N (ix3 b r d) := by
  unfold added
  pointwise

end Cert.Reference2Ideal
-- ==== Proof.Mlp.Claim.lean ====
module

public import proofs.«01_k».proof.Proof.Mlp.Value
public import proofs.«01_k».proof.Proof.Mlp.Reference
public import proofs.«01_k».proof.Proof.Gen.Reference2Ideal.Run
public import proofs.«01_k».proof.Defs

/-! The feed-forward call and its reference end with equal results, whatever their arguments. -/

@[expose] public section

set_option maxRecDepth 16384

noncomputable section

namespace Cert.Mlp
open Cert.Reference2Ideal Cert.Kernel2Ideal.Mlp Idealize.ShloMosaic Idealize.ShloMosaic.TcCoe Idealize.SL.Sem

/-- The reference's modulated rows are the call's. -/
theorem rows_eq (X : FVec Ideal S4x2048x2048 .f32) (M : FVec Ideal S4x8192 .f32) (g : FVec Ideal S1x2048 .f32) (b : Fin 4) (r d : Fin 2048) :
    modulated (normed X (scales X) g) M (ix3 b r d) = rows X M g b r d := by
  rw [modulated_at, normed_at, scales_at, mul_assoc _ (g (ix2 0 d))]
  rfl

/-- The sum over all hidden units is the sum over the slabs of the sums within them. -/
theorem down_eq (X : FVec Ideal S4x2048x2048 .f32) (M : FVec Ideal S4x8192 .f32) (g : FVec Ideal S1x2048 .f32) (W : FVec Ideal S8x2048x1024 .bf16)
    (W' : FVec Ideal S8192x2048 .bf16) (b : Fin 4) (r d : Fin 2048) :
    down (positive (units (modulated (normed X (scales X) g) M) W)) W' (ix3 b r d) = ∑ n, share X M g W W' b r d n := by
  rw [down_at]
  symm
  refine Fin.sum_mul_add_congr fun n k hl => ?_
  have e1 : (n.val * 1024 + k.val) / 1024 = n.val := by omega
  have e2 : (n.val * 1024 + k.val) % 1024 = k.val := by omega
  have hu : units (modulated (normed X (scales X) g) M) W (ix3 b r ⟨n.val * 1024 + k.val, hl⟩)
      = ∑ j, rows X M g b r j * W (ix3 n j k) := by
    rw [units_at]
    refine Finset.sum_congr rfl fun j _ => ?_
    rw [rows_eq]
    simp only [e1, e2]
  rw [positive_at, hu]

/-- The reference's result is the call's. -/
theorem reference_eq (X : FVec Ideal S4x2048x2048 .f32) (M : FVec Ideal S4x8192 .f32) (g : FVec Ideal S1x2048 .f32) (W : FVec Ideal S8x2048x1024 .bf16)
    (W' : FVec Ideal S8192x2048 .bf16) (g' : FVec Ideal S1x2048 .f32) (Y : FVec Ideal S4x2048x2048 .f32)
    (hY : Y = down (positive (units (modulated (normed X (scales X) g) M) W)) W') :
    added X (normed Y (scales Y) g') M = feedArr X M g W W' g' := by
  have hs : ∀ b r d, Y (ix3 b r d) = ∑ n, share X M g W W' b r d n := fun b r d => (congrFun hY _).trans (down_eq X M g W W' b r d)
  have h : ∀ b r d, added X (normed Y (scales Y) g') M (ix3 b r d) = feed X M g W W' g' b r d := fun b r d => by
    unfold feed
    rw [added_at, normed_at, scales_at, mul_comm (M _), mul_assoc (_ * _) (g' _), mul_comm (g' _)]
    simp only [hs]
  funext i
  have hi : i = ix3 (i 0) (i 1) (i 2) := by
    funext a
    match a with
    | ⟨0, _⟩ => rfl
    | ⟨1, _⟩ => rfl
    | ⟨2, _⟩ => rfl
  exact (congrArg (added X (normed Y (scales Y) g') M) hi).trans (h (i 0) (i 1) (i 2))

theorem algebraic : Cert.algebraic_Kernel2Ideal_Reference2Ideal := by
  intro m g m' g' _ hagree
  refine ⟨_, Cert.Kernel2Ideal.Mlp.value m g, ?_⟩
  refine (θ_run _ _ _).mono (fun r h c => ?_) (Cert.Reference2Ideal.Value.run (F := Ideal) m' g')
  obtain ⟨h0, ha⟩ := h c
  obtain ⟨a0, a1, a2, a3, a4, a5⟩ := hagree c
  refine ⟨h0.trans ?_, ha⟩
  rw [← a0, ← a1, ← a2, ← a3, ← a4, ← a5]
  refine Eq.trans ?_ (reference_eq (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)) (m' ((c.tc : Thread nD τ).loc main_arg5)) _ rfl)
  rfl

end Cert.Mlp
-- ==== Proof.Out.Body.lean ====
module

public import proofs.«01_k».proof.Proof.Gen.Kernel3Ideal.Frame
public import proofs.«01_k».proof.Proof.Mlp.Points

/-! What one grid point of the output projection stores, as functions of the blocks it reads: the rows of both attentions, normalized; their product
    with the weight; the product's rows normalized, gated and added. -/

@[expose] public section

set_option maxRecDepth 16384

noncomputable section

namespace Cert.Kernel3Ideal.Out
open Cert.Kernel3Ideal Cert.Kernel3Ideal.Gen Cert.Kernel2Ideal.Mlp Idealize.ShloMosaic Idealize.ShloMosaic.TcCoe Idealize.SL.Sem

/-- One over the root of the mean square of 1024 numbers, the small constant under the root. -/
def scale1 (v : Fin 1024 → EReal) : EReal :=
  Ideal.rsqrt (Ideal.div (∑ j, v j * v j) (Ideal.ofBits FTy.f32 0x44800000#32) + Ideal.ofBits FTy.f32 0x358637BD#32)

/-- A row of two head groups side by side. -/
def cat (x : Vec Ideal S1x2x512x512 .bf16) (r : Fin 512) (j : Fin 1024) : EReal := x (ix4 0 ⟨j.val / 512, by omega⟩ r ⟨j.val % 512, by omega⟩)

/-- Two blocks of sixteen rows side by side. -/
def join (u v : Vec Ideal S1x1x16x512 .bf16) (r : Fin 16) (j : Fin 1024) : EReal :=
  if h : j.val < 512 then u (ix4 0 0 r ⟨j.val, h⟩) else v (ix4 0 0 r ⟨j.val - 512, by omega⟩)

/-- The normalized rows of both attentions. -/
def normed (a b : Vec Ideal S1x2x512x512 .bf16) (ga gb : Vec Ideal S1x1024 .f32) : Vec Ideal S512x2048 .bf16 := fun y =>
  if h : (y 1).val < 1024 then cat a (y 0) ⟨(y 1).val, h⟩ * scale1 (cat a (y 0)) * ga (ix2 0 ⟨(y 1).val, h⟩)
  else cat b (y 0) ⟨(y 1).val - 1024, by have : (y 1).val < 2048 := (y 1).isLt; omega⟩ * scale1 (cat b (y 0))
    * gb (ix2 0 ⟨(y 1).val - 1024, by have : (y 1).val < 2048 := (y 1).isLt; omega⟩)

theorem pay2_at (u v : Vec Ideal S1x1x16x512 .bf16) (g : Vec Ideal S1x1024 .f32) (r : Fin 16) (j : Fin 1024) :
    k0_pay2 u v g (ix2 r j) = join u v r j * scale1 (join u v r) * g (ix2 0 j) := by
  unfold_payloads
  unfold join scale1
  pointwise

/-- The product with the weight. -/
def mixed (n : Vec Ideal S512x2048 .bf16) (w : Vec Ideal S2048x2048 .bf16) : Vec Ideal S512x2048 .f32 := fun y =>
  ∑ j : Fin 2048, n (ix2 (y 0) j) * w (ix2 j (y 1))

theorem pay116_eq (n : Vec Ideal S512x2048 .bf16) (w : Vec Ideal S2048x2048 .bf16) : k0_pay116 n w = mixed n w := by
  funext y
  obtain ⟨r, d, rfl⟩ : ∃ (r : Fin 512) (d : Fin 2048), y = ix2 r d := ⟨y 0, y 1, by
    funext a
    match a with
    | ⟨0, _⟩ => rfl
    | ⟨1, _⟩ => rfl⟩
  unfold mixed
  unfold_payloads
  pointwise

/-- The rows, with their products normalized, gated and added. -/
def residual (x : Vec Ideal S1x512x2048 .f32) (o : Vec Ideal S512x2048 .f32) (g gt : Vec Ideal S1x2048 .f32) : Vec Ideal S1x512x2048 .f32 := fun y =>
  x y + o (ix2 (y 1) (y 2)) * scale (fun j => o (ix2 (y 1) j)) * (gt (ix2 0 (y 2)) * g (ix2 0 (y 2)))

theorem pay118_at (g gt : Vec Ideal S1x2048 .f32) (x : Vec Ideal S1x16x2048 .f32) (o : Vec Ideal S16x2048 .f32) (r : Fin 16) (d : Fin 2048) :
    k0_pay118 (k0_pay117 g gt) x o (ix3 0 r d)
      = x (ix3 0 r d) + o (ix2 r d) * scale (fun j => o (ix2 r j)) * (gt (ix2 0 d) * g (ix2 0 d)) := by
  unfold_payloads
  unfold scale
  pointwise

/-- Two blocks of sixteen rows, loaded from a box of two head groups, are rows of it. -/
theorem join_at (x : Vec Ideal S1x2x512x512 .bf16) (r0 : ℕ) (hr : r0 + 16 ≤ 512) (i1) (i2) (r : Fin 16) :
    join (View.ld (Val := Elt Ideal) x (Rect.unit (s := S1x2x512x512) ![0, 0, r0, 0] ![1, 1, 16, 512] i1))
      (View.ld (Val := Elt Ideal) x (Rect.unit (s := S1x2x512x512) ![0, 1, r0, 0] ![1, 1, 16, 512] i2)) r = cat x ⟨r0 + r.val, by omega⟩ := by
  funext j
  unfold join cat
  by_cases h : j.val < 512
  · rw [dif_pos h]
    refine View.ld_unit_apply_of x _ _ i1 _ _ fun a => ?_
    match a with
    | ⟨0, _⟩ => rfl
    | ⟨1, _⟩ => show j.val / 512 = 0 + 0; omega
    | ⟨2, _⟩ => rfl
    | ⟨3, _⟩ => show j.val % 512 = 0 + j.val; omega
  · rw [dif_neg h]
    refine View.ld_unit_apply_of x _ _ i2 _ _ fun a => ?_
    match a with
    | ⟨0, _⟩ => rfl
    | ⟨1, _⟩ => show j.val / 512 = 1 + 0; omega
    | ⟨2, _⟩ => rfl
    | ⟨3, _⟩ => show j.val % 512 = 0 + (j.val - 512); omega

theorem emb_at (r0 c0 n : ℕ) (inb : ∀ a, (![r0, c0] : Fin 2 → ℕ) a + (![16, n] : Fin 2 → ℕ) a ≤ S512x2048.size a) (r : Fin 16) (d : Fin n) :
    (Rect.unit (s := S512x2048) ![r0, c0] ![16, n] inb).emb (ix2 r d)
      = ix2 ⟨r0 + r.val, by have : r0 + 16 ≤ 512 := inb 0; omega⟩ ⟨c0 + d.val, by have : c0 + n ≤ 2048 := inb 1; omega⟩ := by
  refine funext fun a => Fin.ext ?_
  match a with
  | ⟨0, _⟩ => exact Rect.idx_unit_val _ _ inb _ 0
  | ⟨1, _⟩ => exact Rect.idx_unit_val _ _ inb _ 1

/-- Sixteen rows of the first attention's half, as stored. -/
theorem left_tile (a b : Vec Ideal S1x2x512x512 .bf16) (ga gb : Vec Ideal S1x1024 .f32) (r0 : ℕ) (inb) (i1) (i2) (p) :
    k0_pay2 (View.ld (Val := Elt Ideal) a (Rect.unit (s := S1x2x512x512) ![0, 0, r0, 0] ![1, 1, 16, 512] i1))
      (View.ld (Val := Elt Ideal) a (Rect.unit (s := S1x2x512x512) ![0, 1, r0, 0] ![1, 1, 16, 512] i2)) ga p
      = normed a b ga gb ((Rect.unit (s := S512x2048) ![r0, 0] ![16, 1024] inb).emb p) := by
  obtain ⟨r, d, rfl⟩ : ∃ (r : Fin 16) (d : Fin 1024), p = ix2 r d := ⟨p 0, p 1, by
    funext a
    match a with
    | ⟨0, _⟩ => rfl
    | ⟨1, _⟩ => rfl⟩
  have hr : r0 + 16 ≤ 512 := inb 0
  rw [emb_at r0 0 1024 inb r d, pay2_at, join_at a r0 hr i1 i2 r]
  have h : 0 + d.val < 1024 := by omega
  have e : (⟨0 + d.val, h⟩ : Fin 1024) = d := Fin.ext (Nat.zero_add _)
  refine Eq.trans ?_ (dif_pos h).symm
  show _ = cat a ⟨r0 + r.val, _⟩ ⟨0 + d.val, h⟩ * scale1 (cat a ⟨r0 + r.val, _⟩) * ga (ix2 0 ⟨0 + d.val, h⟩)
  rw [e]

/-- Sixteen rows of the second's. -/
theorem right_tile (a b : Vec Ideal S1x2x512x512 .bf16) (ga gb : Vec Ideal S1x1024 .f32) (r0 : ℕ) (inb) (i1) (i2) (p) :
    k0_pay2 (View.ld (Val := Elt Ideal) b (Rect.unit (s := S1x2x512x512) ![0, 0, r0, 0] ![1, 1, 16, 512] i1))
      (View.ld (Val := Elt Ideal) b (Rect.unit (s := S1x2x512x512) ![0, 1, r0, 0] ![1, 1, 16, 512] i2)) gb p
      = normed a b ga gb ((Rect.unit (s := S512x2048) ![r0, 1024] ![16, 1024] inb).emb p) := by
  obtain ⟨r, d, rfl⟩ : ∃ (r : Fin 16) (d : Fin 1024), p = ix2 r d := ⟨p 0, p 1, by
    funext a
    match a with
    | ⟨0, _⟩ => rfl
    | ⟨1, _⟩ => rfl⟩
  have hr : r0 + 16 ≤ 512 := inb 0
  rw [emb_at r0 1024 1024 inb r d, pay2_at, join_at b r0 hr i1 i2 r]
  have h : ¬ 1024 + d.val < 1024 := by omega
  have h' : 1024 + d.val - 1024 < 1024 := by omega
  have e : (⟨1024 + d.val - 1024, h'⟩ : Fin 1024) = d := Fin.ext (Nat.add_sub_cancel_left _ _)
  refine Eq.trans ?_ (dif_neg h).symm
  show _ = cat b ⟨r0 + r.val, _⟩ ⟨1024 + d.val - 1024, h'⟩ * scale1 (cat b ⟨r0 + r.val, _⟩) * gb (ix2 0 ⟨1024 + d.val - 1024, h'⟩)
  rw [e]

/-- The product, as stored, from what its loads read. -/
theorem mixed_whole (n : Vec Ideal S512x2048 .bf16) (w : Vec Ideal S2048x2048 .bf16) (n' : Vec Ideal S512x2048 .bf16) (inb) (i1) (i2)
    (hn : n' = View.ld (Val := Elt Ideal) n (Rect.unit (s := S512x2048) ![0, 0] ![512, 2048] i1)) (p) :
    k0_pay116 n' (View.ld (Val := Elt Ideal) w (Rect.unit (s := S2048x2048) ![0, 0] ![2048, 2048] i2)) p
      = mixed n w ((Rect.unit (s := S512x2048) ![0, 0] ![512, 2048] inb).emb p) := by
  have e1 : n' = n := by
    subst hn
    funext y
    exact View.ld_unit_apply_of n _ _ i1 _ _ fun a => by
      match a with
      | ⟨0, _⟩ => exact (Nat.zero_add _).symm
      | ⟨1, _⟩ => exact (Nat.zero_add _).symm
  have e2 : View.ld (Val := Elt Ideal) w (Rect.unit (s := S2048x2048) ![0, 0] ![2048, 2048] i2) = w := by
    funext y
    exact View.ld_unit_apply_of w _ _ i2 _ _ fun a => by
      match a with
      | ⟨0, _⟩ => exact (Nat.zero_add _).symm
      | ⟨1, _⟩ => exact (Nat.zero_add _).symm
  have e3 : (Rect.unit (s := S512x2048) ![0, 0] ![512, 2048] inb).emb p = p := funext fun a => Fin.ext ((Rect.idx_unit_val _ _ inb p a).trans (by
    match a with
    | ⟨0, _⟩ => exact Nat.zero_add _
    | ⟨1, _⟩ => exact Nat.zero_add _))
  rw [e1, e2, e3, pay116_eq]

/-- Sixteen rows of the result, as stored, from what the load of the products reads. -/
theorem residual_tile (x : Vec Ideal S1x512x2048 .f32) (O : Vec Ideal S512x2048 .f32) (g gt : Vec Ideal S1x2048 .f32) (o : Vec Ideal S16x2048 .f32)
    (r0 : ℕ) (inb) (i1) (i2) (ho : o = View.ld (Val := Elt Ideal) O (Rect.unit (s := S512x2048) ![r0, 0] ![16, 2048] i2)) (p) :
    k0_pay118 (k0_pay117 g gt) (View.ld (Val := Elt Ideal) x (Rect.unit (s := S1x512x2048) ![0, r0, 0] ![1, 16, 2048] i1)) o p
      = residual x O g gt ((Rect.unit (s := S1x512x2048) ![0, r0, 0] ![1, 16, 2048] inb).emb p) := by
  have hr : r0 + 16 ≤ 512 := inb 1
  obtain ⟨r, d, rfl⟩ : ∃ (r : Fin 16) (d : Fin 2048), p = ix3 0 r d := ⟨p 1, p 2, ix3_eta p⟩
  subst ho
  have e : ∀ j : Fin 2048, View.ld (Val := Elt Ideal) O (Rect.unit (s := S512x2048) ![r0, 0] ![16, 2048] i2) (ix2 r j) = O (ix2 ⟨r0 + r.val, by omega⟩ j) :=
    fun j => View.ld_unit_apply_of O _ _ i2 _ _ fun a => by
      match a with
      | ⟨0, _⟩ => rfl
      | ⟨1, _⟩ => exact (Nat.zero_add _).symm
  have ex : View.ld (Val := Elt Ideal) x (Rect.unit (s := S1x512x2048) ![0, r0, 0] ![1, 16, 2048] i1) (ix3 0 r d) = x (ix3 0 ⟨r0 + r.val, by omega⟩ d) :=
    congrArg x (emb_rows r0 hr i1 r d)
  rw [emb_rows r0 hr inb r d, pay118_at, ex, e]
  exact congrArg (fun u => _ + _ * u * _) (congrArg scale (funext e))

end Cert.Kernel3Ideal.Out
-- ==== Proof.Out.Point.lean ====
module

public import proofs.«01_k».proof.Proof.Out.Body

/-! What the stores of one grid point of the output projection leave in the result's block. -/

@[expose] public section

set_option maxRecDepth 16384

noncomputable section

namespace Cert.Kernel3Ideal.Out
open Cert.Kernel3Ideal Cert.Kernel3Ideal.Gen Cert.Kernel2Ideal.Mlp Idealize.ShloMosaic Idealize.ShloMosaic.TcCoe Idealize.SL.Sem

/-- Thirty-two blocks of sixteen rows, each of two halves. -/
def halvesOf : ℕ → LoadRect.Cov
  | 0 => .split 1 1024 (.leaf 1) (.leaf 0)
  | n + 1 => .split 0 16 (.split 1 1024 (.leaf (2 * n + 3)) (.leaf (2 * n + 2))) (halvesOf n)

variable (c : Dev nD) (t : Fin cfg0.N)
  (x0 x1 : Vec Ideal S1x2x512x512 .bf16) (x2 : Vec Ideal S1x512x2048 .f32) (x3 : Vec Ideal S4x8192 .f32) (x4 x5 : Vec Ideal S1x1024 .f32)
  (x6 : Vec Ideal S2048x2048 .bf16) (x7 : Vec Ideal S1x2048 .f32)

/-- The body's run at a point, on the point's own buffers. -/
abbrev run :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) x0 x1 x2 x3 x4 x5 x6 x7

/-- An attention's gain, as loaded. -/
abbrev gain (x : Vec Ideal S1x1024 .f32) : Vec Ideal S1x1024 .f32 :=
  View.ld (Val := Elt Ideal) x (Rect.unit (s := S1x1024) ![0, 0] ![1, 1024] inb_S1x1024_S1x1024_0_0)

/-- The last gain, as loaded. -/
abbrev row1 (x : Vec Ideal S1x2048 .f32) : Vec Ideal S1x2048 .f32 :=
  View.ld (Val := Elt Ideal) x (Rect.unit (s := S1x2048) ![0, 0] ![1, 2048] inb_S1x2048_S1x2048_0_0)

/-- The point's row of gates, as loaded. -/
abbrev gate (inb : ∀ a, (![BitVec.toNat (Scalar.indexCast (BitVec.ofNat 32 (grid0.coords t 0).val)), 0] : Fin 2 → ℕ) a + (![1, 2048] : Fin 2 → ℕ) a ≤ S4x8192.size a) : Vec Ideal S1x2048 .f32 :=
  View.ld (Val := Elt Ideal) x3 (Rect.unit (s := S4x8192) ![BitVec.toNat (Scalar.indexCast (BitVec.ofNat 32 (grid0.coords t 0).val)), 0] ![1, 2048] inb)

set_option maxHeartbeats 4000000 in
/-- Read back, the result at a point. -/
theorem canon_8 (i1) : View.canon (run c t x0 x1 x2 x3 x4 x5 x6 x7).1
    = residual x2 (mixed (normed x0 x1 (gain x4) (gain x5)) x6) (row1 x7) (gate t x3 i1) := by
  funext y
  have hcov : ∃ p ∈ (run c t x0 x1 x2 x3 x4 x5 x6 x7).1, y ∈ p.1.set :=
    View.cover_of_tiledL (run c t x0 x1 x2 x3 x4 x5 x6 x7).1 S1x16x2048.size (by sl_kernel_rfl) y
  revert hcov
  unfold run kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, read_unread_whole]
  rw [readCov_of_pieces _ (normed x0 x1 (gain x4) (gain x5)) (Rect.unit (s := S512x2048) ![0, 0] ![512, 2048] inb_S512x2048_S512x2048_0_0) (halvesOf 31) _ ?h ?hc]
  case hc => sl_kernel_rfl
  case h =>
    iterate 32
      refine And.intro (fun x => at_of_eq (right_tile x0 x1 (gain x4) (gain x5) _ (by decide) (by decide) (by decide) x) rfl) ?_
      refine And.intro (fun x => at_of_eq (left_tile x0 x1 (gain x4) (gain x5) _ (by decide) (by decide) (by decide) x) rfl) ?_
    trivial
  intro hcov
  refine canon_of_pieces (residual x2 (mixed (normed x0 x1 (gain x4) (gain x5)) x6) (row1 x7) (gate t x3 i1)) _ ?_ y hcov
  repeat' (refine And.intro (fun x => at_of_eq (residual_tile x2 (mixed (normed x0 x1 (gain x4) (gain x5)) x6) (row1 x7) (gate t x3 i1) _ _ (by decide) (by decide) (by decide)
    (readCov_of_pieces _ (mixed (normed x0 x1 (gain x4) (gain x5)) x6) _ (.leaf 0) [_]
      (And.intro (fun x => at_of_eq (mixed_whole (normed x0 x1 (gain x4) (gain x5)) x6 _ (by decide) (by decide) (by decide) rfl x) rfl) trivial) (by sl_kernel_rfl)) x) rfl) ?_)
  trivial

end Cert.Kernel3Ideal.Out
-- ==== Proof.Out.Call.lean ====
module

public import proofs.«01_k».proof.Proof.Out.Point
public import Idealize.ShloMosaic.Lib.Pipeline.ValueKit

/-! What each grid point of the output projection leaves in the result's block, as a function of the whole arrays: point `t` is block `t % 4` of
    batch `t / 4`, 512 rows. -/

@[expose] public section

set_option maxRecDepth 16384

noncomputable section

namespace Cert.Kernel3Ideal.Out
open Cert.Kernel2Ideal.Mlp (scale)
open Cert.Kernel3Ideal Cert.Kernel3Ideal.Gen Idealize.ShloMosaic Idealize.ShloMosaic.TcCoe Idealize.SL.Sem

/-- A row of an attention's heads, side by side. -/
def heads (A : S4x2x2048x512.Idx → EReal) (b : Fin 4) (r : Fin 2048) (j : Fin 1024) : EReal := A (ix4 b ⟨j.val / 512, by omega⟩ r ⟨j.val % 512, by omega⟩)

/-- A normalized row of both attentions. -/
def mix (A B : S4x2x2048x512.Idx → EReal) (ga gb : S1x1024.Idx → EReal) (b : Fin 4) (r : Fin 2048) (d : Fin 2048) : EReal :=
  if h : d.val < 1024 then heads A b r ⟨d.val, h⟩ * scale1 (heads A b r) * ga (ix2 0 ⟨d.val, h⟩)
  else heads B b r ⟨d.val - 1024, by omega⟩ * scale1 (heads B b r) * gb (ix2 0 ⟨d.val - 1024, by omega⟩)

/-- Its product with a column of the weight. -/
def proj (A B : S4x2x2048x512.Idx → EReal) (ga gb : S1x1024.Idx → EReal) (W : S2048x2048.Idx → EReal) (b : Fin 4) (r : Fin 2048) (d : Fin 2048) : EReal :=
  ∑ j, mix A B ga gb b r j * W (ix2 j d)

/-- The output projection of whole arrays. -/
def out (A B : S4x2x2048x512.Idx → EReal) (X : S4x2048x2048.Idx → EReal) (M : S4x8192.Idx → EReal) (ga gb : S1x1024.Idx → EReal)
    (W : S2048x2048.Idx → EReal) (g : S1x2048.Idx → EReal) (b : Fin 4) (r : Fin 2048) (d : Fin 2048) : EReal :=
  X (ix3 b r d) + proj A B ga gb W b r d * scale (proj A B ga gb W b r) * (M (ix2 b ⟨d.val, by omega⟩) * g (ix2 0 d))

theorem gain_at (x : Vec Ideal S1x1024 .f32) (d : Fin 1024) : gain x (ix2 0 d) = x (ix2 0 d) :=
  View.ld_unit_apply_of x _ _ inb_S1x1024_S1x1024_0_0 _ _ fun a => by
    match a with
    | ⟨0, _⟩ => rfl
    | ⟨1, _⟩ => exact (Nat.zero_add _).symm

theorem row1_at (x : Vec Ideal S1x2048 .f32) (d : Fin 2048) : row1 x (ix2 0 d) = x (ix2 0 d) :=
  View.ld_unit_apply_of x _ _ inb_S1x2048_S1x2048_0_0 _ _ fun a => by
    match a with
    | ⟨0, _⟩ => rfl
    | ⟨1, _⟩ => exact (Nat.zero_add _).symm

theorem batch : ∀ t : Fin grid0.N, BitVec.toNat (Scalar.indexCast (BitVec.ofNat 32 (grid0.coords t 0).val)) = t.val / 4 := by decide +kernel

theorem lt16 (t : Fin cfg0.N) : t.val < 16 := lt_of_lt_of_eq t.isLt (show cfg0.N = 16 from N_0)

theorem gate_inb (t : Fin cfg0.N) (a) :
    (![BitVec.toNat (Scalar.indexCast (BitVec.ofNat 32 (grid0.coords t 0).val)), 0] : Fin 2 → ℕ) a + (![1, 2048] : Fin 2 → ℕ) a ≤ S4x8192.size a := by
  have ht := lt16 t
  match a with
  | ⟨0, _⟩ => show BitVec.toNat (Scalar.indexCast (BitVec.ofNat 32 (grid0.coords t 0).val)) + 1 ≤ 4; rw [batch t]; omega
  | ⟨1, _⟩ => show 0 + 2048 ≤ 8192; omega

theorem gate_at (t : Fin cfg0.N) (x : Vec Ideal S4x8192 .f32) (inb) (d : Fin 2048) :
    gate t x inb (ix2 0 d) = x (ix2 ⟨t.val / 4, by have := lt16 t; omega⟩ ⟨d.val, by omega⟩) :=
  View.ld_unit_apply_of x _ _ inb _ _ fun a => by
    match a with
    | ⟨0, _⟩ => exact (batch t).symm
    | ⟨1, _⟩ => exact (Nat.zero_add _).symm

theorem idx0 : ∀ t : Fin grid0.N, (cfg0.win 0).index t = ![t.val / 4, 0, t.val % 4, 0] := by decide +kernel
theorem idx1 : ∀ t : Fin grid0.N, (cfg0.win 1).index t = ![t.val / 4, 0, t.val % 4, 0] := by decide +kernel
theorem idx2 : ∀ t : Fin grid0.N, (cfg0.win 2).index t = ![t.val / 4, t.val % 4, 0] := by decide +kernel
theorem idx3 : ∀ t : Fin grid0.N, (cfg0.win 3).index t = ![0, 0] := by decide +kernel
theorem idx4 : ∀ t : Fin grid0.N, (cfg0.win 4).index t = ![0, 0] := by decide +kernel
theorem idx5 : ∀ t : Fin grid0.N, (cfg0.win 5).index t = ![0, 0] := by decide +kernel
theorem idx6 : ∀ t : Fin grid0.N, (cfg0.win 6).index t = ![0, 0] := by decide +kernel
theorem idx7 : ∀ t : Fin grid0.N, (cfg0.win 7).index t = ![0, 0] := by decide +kernel
theorem idx8 : ∀ t : Fin grid0.N, (cfg0.win 8).index t = ![t.val / 4, t.val % 4, 0] := by decide +kernel

variable (m : (ℓ : Loc nD τ sig) → Buf (Elt Ideal) ℓ) (c : Dev nD)

theorem blk0 (t : Fin cfg0.N) (h : Fin 2) (r : Fin 512) (d : Fin 512) : iblk m c 0 t (ix4 0 h r d)
    = m ((c : Thread nD τ).loc main_arg0) (ix4 ⟨t.val / 4, by have := lt16 t; omega⟩ h ⟨t.val % 4 * 512 + r.val, by omega⟩ d) := by
  blk_ext [iblk, V, idx0 t]

theorem blk1 (t : Fin cfg0.N) (h : Fin 2) (r : Fin 512) (d : Fin 512) : iblk m c 1 t (ix4 0 h r d)
    = m ((c : Thread nD τ).loc main_arg1) (ix4 ⟨t.val / 4, by have := lt16 t; omega⟩ h ⟨t.val % 4 * 512 + r.val, by omega⟩ d) := by
  blk_ext [iblk, V, idx1 t]

theorem blk2 (t : Fin cfg0.N) (r : Fin 512) (d : Fin 2048) : iblk m c 2 t (ix3 0 r d)
    = m ((c : Thread nD τ).loc main_arg2) (ix3 ⟨t.val / 4, by have := lt16 t; omega⟩ ⟨t.val % 4 * 512 + r.val, by omega⟩ d) := by
  blk_ext [iblk, V, idx2 t]

theorem blk3 (t : Fin cfg0.N) (b : Fin 4) (d : Fin 8192) : iblk m c 3 t (ix2 b d) = m ((c : Thread nD τ).loc main_arg3) (ix2 b d) := by
  blk_ext [iblk, V, idx3 t]

theorem blk4 (t : Fin cfg0.N) (d : Fin 1024) : iblk m c 4 t (ix2 0 d) = m ((c : Thread nD τ).loc main_arg4) (ix2 0 d) := by
  blk_ext [iblk, V, idx4 t]

theorem blk5 (t : Fin cfg0.N) (d : Fin 1024) : iblk m c 5 t (ix2 0 d) = m ((c : Thread nD τ).loc main_arg5) (ix2 0 d) := by
  blk_ext [iblk, V, idx5 t]

theorem blk6 (t : Fin cfg0.N) (k d : Fin 2048) : iblk m c 6 t (ix2 k d) = m ((c : Thread nD τ).loc main_arg6) (ix2 k d) := by
  blk_ext [iblk, V, idx6 t]

theorem blk7 (t : Fin cfg0.N) (d : Fin 2048) : iblk m c 7 t (ix2 0 d) = m ((c : Thread nD τ).loc main_arg7) (ix2 0 d) := by
  blk_ext [iblk, V, idx7 t]

/-- A point's normalized rows are rows of the whole arrays'. -/
theorem normed_at (t : Fin cfg0.N) (r : Fin 512) (j : Fin 2048) :
    normed (iblk m c 0 t) (iblk m c 1 t) (gain (iblk m c 4 t)) (gain (iblk m c 5 t)) (ix2 r j)
      = mix (m ((c : Thread nD τ).loc main_arg0)) (m ((c : Thread nD τ).loc main_arg1)) (m ((c : Thread nD τ).loc main_arg4)) (m ((c : Thread nD τ).loc main_arg5))
        ⟨t.val / 4, by have := lt16 t; omega⟩ ⟨t.val % 4 * 512 + r.val, by omega⟩ j := by
  have hA : cat (iblk m c 0 t) r = heads (m ((c : Thread nD τ).loc main_arg0)) ⟨t.val / 4, by have := lt16 t; omega⟩ ⟨t.val % 4 * 512 + r.val, by omega⟩ :=
    funext fun j => blk0 m c t _ r _
  have hB : cat (iblk m c 1 t) r = heads (m ((c : Thread nD τ).loc main_arg1)) ⟨t.val / 4, by have := lt16 t; omega⟩ ⟨t.val % 4 * 512 + r.val, by omega⟩ :=
    funext fun j => blk1 m c t _ r _
  unfold mix
  by_cases h : j.val < 1024
  · rw [dif_pos h]
    refine (dif_pos h).trans ?_
    show cat (iblk m c 0 t) r ⟨j.val, h⟩ * scale1 (cat (iblk m c 0 t) r) * gain (iblk m c 4 t) (ix2 0 ⟨j.val, h⟩) = _
    rw [hA, gain_at, blk4]
  · rw [dif_neg h]
    refine (dif_neg h).trans ?_
    show cat (iblk m c 1 t) r ⟨j.val - 1024, _⟩ * scale1 (cat (iblk m c 1 t) r) * gain (iblk m c 5 t) (ix2 0 ⟨j.val - 1024, _⟩) = _
    rw [hB, gain_at, blk5]

/-- And so are its products. -/
theorem mixed_at (t : Fin cfg0.N) (r : Fin 512) (d : Fin 2048) :
    mixed (normed (iblk m c 0 t) (iblk m c 1 t) (gain (iblk m c 4 t)) (gain (iblk m c 5 t))) (iblk m c 6 t) (ix2 r d)
      = proj (m ((c : Thread nD τ).loc main_arg0)) (m ((c : Thread nD τ).loc main_arg1)) (m ((c : Thread nD τ).loc main_arg4)) (m ((c : Thread nD τ).loc main_arg5))
        (m ((c : Thread nD τ).loc main_arg6)) ⟨t.val / 4, by have := lt16 t; omega⟩ ⟨t.val % 4 * 512 + r.val, by omega⟩ d :=
  Finset.sum_congr rfl fun j _ => congrArg₂ (· * ·) (normed_at m c t r j) (blk6 m c t j d)

/-- What a point leaves in the result's buffer. -/
theorem result_block (t : Fin cfg0.N) (r : Fin 512) (d : Fin 2048) :
    outsAt0 m c t (ix3 0 r d)
      = out (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        ⟨t.val / 4, by have := lt16 t; omega⟩ ⟨t.val % 4 * 512 + r.val, by omega⟩ d := by
  unfold outsAt0 out0_A_8
  rw [View.read_writes_junk_eq_canon]
  refine (congrFun (canon_8 c t _ _ _ _ _ _ _ _ (gate_inb t)) _).trans ?_
  refine congrArg₂ (· + ·) (blk2 m c t r d) (congrArg₂ (· * ·) (congrArg₂ (· * ·) (mixed_at m c t r d) (congrArg scale (funext fun j => mixed_at m c t r j)))
    (congrArg₂ (· * ·) ?_ ?_))
  · exact (gate_at t (iblk m c 3 t) _ d).trans (blk3 m c t _ _)
  · exact (row1_at (iblk m c 7 t) d).trans (blk7 m c t d)

end Cert.Kernel3Ideal.Out
-- ==== Proof.Out.Value.lean ====
module

public import proofs.«01_k».proof.Proof.Out.Call
public import proofs.«01_k».proof.Proof.Gen.Kernel3Ideal.Value
public import Idealize.ShloMosaic.Lib.Claim

/-! The output projection's result array after its run. -/

@[expose] public section

set_option maxRecDepth 16384

noncomputable section

namespace Cert.Kernel3Ideal.Out
open Cert.Kernel3Ideal Cert.Kernel3Ideal.Gen Idealize.ShloMosaic Idealize.ShloMosaic.TcCoe Idealize.SL.Sem

variable (m : (ℓ : Loc nD τ sig) → Buf (Elt Ideal) ℓ) (c : Dev nD)

/-- The output projection, as an array. -/
def outArr (A B : S4x2x2048x512.Idx → EReal) (X : S4x2048x2048.Idx → EReal) (M : S4x8192.Idx → EReal) (ga gb : S1x1024.Idx → EReal)
    (W : S2048x2048.Idx → EReal) (g : S1x2048.Idx → EReal) : S4x2048x2048.Idx → EReal := fun i => out A B X M ga gb W g (i 0) (i 1) (i 2)

theorem arr8 : (dats m 0 c).arrAt 8 (cfgs 0).N
    = outArr (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t hf y => ?_
  have hN := lt16 t
  have e0 : (((((cfg0.win 8).blk t).view.emb y) 0 : Fin 4) : ℕ) = t.val / 4 := by blk_simp [idx8 t]
  have e1 : (((((cfg0.win 8).blk t).view.emb y) 1 : Fin 2048) : ℕ) = t.val % 4 * 512 + (y 1).val := by blk_simp [idx8 t]
  have e2 : (((((cfg0.win 8).blk t).view.emb y) 2 : Fin 2048) : ℕ) = (y 2).val := by blk_simp [idx8 t]
  show (cfg0.win 8).cut (grid0.coords t) ((dats m 0 c).after 8 t) y = _
  rw [after0_8]
  show outsAt0 m c t y = outArr _ _ _ _ _ _ _ _ (((cfg0.win 8).blk t).view.emb y)
  generalize (((cfg0.win 8).blk t).view.emb y : S4x2048x2048.Idx) = i at e0 e1 e2 ⊢
  have h1 : (y 1).val < 512 := (y 1).isLt
  have i0 : i 0 = (⟨t.val / 4, by omega⟩ : Fin 4) := Fin.ext e0
  have i1 : i 1 = (⟨t.val % 4 * 512 + (y 1).val, by omega⟩ : Fin 2048) := Fin.ext e1
  have i2 : i 2 = (y 2 : Fin 2048) := Fin.ext e2
  have hb := result_block m c t (y 1) (y 2)
  have hy : y = ix3 (n0 := 1) 0 (y 1) (y 2) := by
    funext a
    match a with
    | ⟨0, _⟩ => exact Fin.ext (by have : (y 0).val < 1 := (y 0).isLt; show (y 0).val = 0; omega)
    | ⟨1, _⟩ => rfl
    | ⟨2, _⟩ => rfl
  unfold outArr
  rw [i0, i1, i2]
  exact (congrArg (outsAt0 m c t) hy).trans hb

/-- The call's run: its result as a function of its arguments, which it leaves as they were. -/
theorem value (g : Dev nD → PrngReg) : θ_run defs (onTc (τ := τ) (main (F := Ideal))) ⟨m, fun _ => 0, g⟩ (fun r => ∀ c : Dev nD,
      r.2.mem ((c : Thread nD τ).loc main_v0)
        = outArr (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  (θ_run _ _ _).mono (fun _ h c => ⟨(h c).1.trans (arr8 m c), (h c).2⟩) (Cert.Kernel3Ideal.Value.run_blocks (F := Ideal) m g)

end Cert.Kernel3Ideal.Out
-- ==== Proof.Out.Reference.lean ====
module

public import proofs.«01_k».proof.Proof.Mlp.Body
public import proofs.«01_k».proof.Proof.Out.Body
public import proofs.«01_k».proof.Reference3Ideal
public import Idealize.ShloMosaic.Lib.Pointwise
public import Idealize.ShloMosaic.Lib.Claim

/-! The reference of the output projection, array by array: each attention's heads side by side and normalized, both side by side, their product
    with the weight, the gated sum. -/

@[expose] public section

set_option maxRecDepth 16384

noncomputable section

namespace Cert.Reference3Ideal
open Cert.Reference3Ideal Cert.Reference3Ideal.Facts₀ Cert.Kernel2Ideal.Mlp Cert.Kernel3Ideal.Out Idealize.ShloMosaic

variable [Facts]

/-- An attention's head groups side by side. -/
def merged (A : FVec Ideal S4x2x2048x512 .bf16) : FVec Ideal S4x2048x1024 .f32 :=
  shapeCast S4x2048x1024 (transpose S4x2048x2x512 [0, 2, 1, 3] (extf .f32 A bitsLt_bf16_f32) transposes_S4x2x2048x512_S4x2048x2x512_0_2_1_3)
    shapeCasts_S4x2048x2x512_S4x2048x1024

/-- The inverse square root of each of its rows' mean square. -/
def scales1 (X : FVec Ideal S4x2048x1024 .f32) : FVec Ideal S4x2048x1 .f32 :=
  Host.rsqrt (addf (Host.divf (broadcastInDim S4x2048x1 ![0, 1] bcast_S4x2048_S4x2048x1_0_1
      (Host.reduceAdd (mulf X X) (constant S_ .f32 0x00000000#32) reducesTo_S4x2048x1024_S4x2048_d2 h_S_))
    (broadcastInDim S4x2048x1 ![] bcast_S_S4x2048x1 (constant S_ .f32 0x44800000#32)))
    (broadcastInDim S4x2048x1 ![] bcast_S_S4x2048x1 (constant S_ .f32 0x358637BD#32)))

/-- Its normalized rows times its gain. -/
def normed1 (X : FVec Ideal S4x2048x1024 .f32) (R : FVec Ideal S4x2048x1 .f32) (g : FVec Ideal S1x1024 .f32) : FVec Ideal S4x2048x1024 .f32 :=
  mulf (mulf X (broadcastInDim S4x2048x1024 ![0, 1, 2] bcast_S4x2048x1_S4x2048x1024_0_1_2 R))
    (broadcastInDim S4x2048x1024 ![0, 1, 2] bcast_S1x1x1024_S4x2048x1024_0_1_2
      (broadcastInDim S1x1x1024 ![2] bcast_S1024_S1x1x1024_2 (shapeCast S1024 g shapeCasts_S1x1024_S1024)))

/-- Both attentions side by side. -/
def both (X Y : FVec Ideal S4x2048x1024 .f32) : FVec Ideal S4x2048x2048 .f32 :=
  concatenate S4x2048x2048 2 [⟨S4x2048x1024, X⟩, ⟨S4x2048x1024, Y⟩] concatenates_S4x2048x1024_S4x2048x1024_S4x2048x2048_d2

/-- Their product with the weight. -/
def mixture (N : FVec Ideal S4x2048x2048 .f32) (W : FVec Ideal S2048x2048 .bf16) : FVec Ideal S4x2048x2048 .f32 :=
  Host.dotGeneral dot_S4x2048x2048_S2048x2048_S4x2048x2048_2_0_01_1_n_n none N (extf .f32 W bitsLt_bf16_f32)

/-- The inverse square root of each row's mean square. -/
def scales (X : FVec Ideal S4x2048x2048 .f32) : FVec Ideal S4x2048x1 .f32 :=
  Host.rsqrt (addf (Host.divf (broadcastInDim S4x2048x1 ![0, 1] bcast_S4x2048_S4x2048x1_0_1
      (Host.reduceAdd (mulf X X) (constant S_ .f32 0x00000000#32) reducesTo_S4x2048x2048_S4x2048_d2 h_S_))
    (broadcastInDim S4x2048x1 ![] bcast_S_S4x2048x1 (constant S_ .f32 0x45000000#32)))
    (broadcastInDim S4x2048x1 ![] bcast_S_S4x2048x1 (constant S_ .f32 0x358637BD#32)))

/-- The normalized rows times a gain. -/
def normed2 (X : FVec Ideal S4x2048x2048 .f32) (R : FVec Ideal S4x2048x1 .f32) (g : FVec Ideal S1x2048 .f32) : FVec Ideal S4x2048x2048 .f32 :=
  mulf (mulf X (broadcastInDim S4x2048x2048 ![0, 1, 2] bcast_S4x2048x1_S4x2048x2048_0_1_2 R))
    (broadcastInDim S4x2048x2048 ![0, 1, 2] bcast_S1x1x2048_S4x2048x2048_0_1_2
      (broadcastInDim S1x1x2048 ![2] bcast_S2048_S1x1x2048_2 (shapeCast S2048 g shapeCasts_S1x2048_S2048)))

/-- The rows plus the gated branch. -/
def added (X N : FVec Ideal S4x2048x2048 .f32) (M : FVec Ideal S4x8192 .f32) : FVec Ideal S4x2048x2048 .f32 :=
  addf X (mulf (broadcastInDim S4x2048x2048 ![0, 1, 2] bcast_S4x1x2048_S4x2048x2048_0_1_2
    (broadcastInDim S4x1x2048 ![0, 2] bcast_S4x2048_S4x1x2048_0_2 (extractStridedSlice S4x2048 ![0, 0] M slices_S4x8192_S4x2048_0_0))) N)

theorem merged_at (A : FVec Ideal S4x2x2048x512 .bf16) (b : Fin 4) (r : Fin 2048) (j : Fin 1024) :
    merged A (ix3 b r j) = A (ix4 b ⟨j.val / 512, by omega⟩ r ⟨j.val % 512, by omega⟩) := by
  unfold merged
  pointwise

theorem scales1_at (X : FVec Ideal S4x2048x1024 .f32) (b : Fin 4) (r : Fin 2048) (z : Fin 1) :
    scales1 X (ix3 b r z) = scale1 (fun j => X (ix3 b r j)) := by
  unfold scales1 scale1
  pointwise

theorem normed1_at (X : FVec Ideal S4x2048x1024 .f32) (R : FVec Ideal S4x2048x1 .f32) (g : FVec Ideal S1x1024 .f32) (b : Fin 4) (r : Fin 2048) (d : Fin 1024) :
    normed1 X R g (ix3 b r d) = X (ix3 b r d) * R (ix3 b r 0) * g (ix2 0 d) := by
  unfold normed1
  pointwise

theorem both_at (X Y : FVec Ideal S4x2048x1024 .f32) (b : Fin 4) (r d : Fin 2048) :
    both X Y (ix3 b r d) = if h : d.val < 1024 then X (ix3 b r ⟨d.val, h⟩) else Y (ix3 b r ⟨d.val - 1024, by omega⟩) := by
  unfold both
  pointwise

theorem mixture_at (N : FVec Ideal S4x2048x2048 .f32) (W : FVec Ideal S2048x2048 .bf16) (b : Fin 4) (r d : Fin 2048) :
    mixture N W (ix3 b r d) = ∑ j, N (ix3 b r j) * W (ix2 j d) := by
  unfold mixture
  pointwise

theorem scales_at (X : FVec Ideal S4x2048x2048 .f32) (b : Fin 4) (r : Fin 2048) (z : Fin 1) :
    scales X (ix3 b r z) = scale (fun j => X (ix3 b r j)) := by
  unfold scales scale
  pointwise

theorem normed2_at (X : FVec Ideal S4x2048x2048 .f32) (R : FVec Ideal S4x2048x1 .f32) (g : FVec Ideal S1x2048 .f32) (b : Fin 4) (r d : Fin 2048) :
    normed2 X R g (ix3 b r d) = X (ix3 b r d) * R (ix3 b r 0) * g (ix2 0 d) := by
  unfold normed2
  pointwise

theorem added_at (X N : FVec Ideal S4x2048x2048 .f32) (M : FVec Ideal S4x8192 .f32) (b : Fin 4) (r d : Fin 2048) :
    added X N M (ix3 b r d) = X (ix3 b r d) + M (ix2 b ⟨d.val, by omega⟩) * N (ix3 b r d) := by
  unfold added
  pointwise

end Cert.Reference3Ideal
-- ==== Proof.Out.Claim.lean ====
module

public import proofs.«01_k».proof.Proof.Out.Value
public import proofs.«01_k».proof.Proof.Out.Reference
public import proofs.«01_k».proof.Proof.Gen.Reference3Ideal.Run
public import proofs.«01_k».proof.Defs

/-! The output projection and its reference end with equal results, whatever their arguments. -/

@[expose] public section

set_option maxRecDepth 16384

noncomputable section

namespace Cert.Out
open Cert.Kernel2Ideal.Mlp (scale)
open Cert.Reference3Ideal Cert.Kernel3Ideal.Out Idealize.ShloMosaic Idealize.ShloMosaic.TcCoe Idealize.SL.Sem

/-- The reference's normalized rows of both attentions are the call's. -/
theorem mix_eq (A B : FVec Ideal S4x2x2048x512 .bf16) (ga gb : FVec Ideal S1x1024 .f32) (b : Fin 4) (r d : Fin 2048) :
    both (normed1 (merged A) (scales1 (merged A)) ga) (normed1 (merged B) (scales1 (merged B)) gb) (ix3 b r d) = mix A B ga gb b r d := by
  have hA : (fun j => merged A (ix3 b r j)) = heads A b r := funext fun j => merged_at A b r j
  have hB : (fun j => merged B (ix3 b r j)) = heads B b r := funext fun j => merged_at B b r j
  rw [both_at]
  unfold mix
  by_cases h : d.val < 1024
  · rw [dif_pos h, dif_pos h, normed1_at, scales1_at, hA]
    exact congrArg (· * _ * _) (congrFun hA _)
  · rw [dif_neg h, dif_neg h, normed1_at, scales1_at, hB]
    exact congrArg (· * _ * _) (congrFun hB _)

/-- The reference's result is the call's. -/
theorem reference_eq (A B : FVec Ideal S4x2x2048x512 .bf16) (X : FVec Ideal S4x2048x2048 .f32) (M : FVec Ideal S4x8192 .f32) (ga gb : FVec Ideal S1x1024 .f32)
    (W : FVec Ideal S2048x2048 .bf16) (g : FVec Ideal S1x2048 .f32) (Y : FVec Ideal S4x2048x2048 .f32)
    (hY : Y = mixture (both (normed1 (merged A) (scales1 (merged A)) ga) (normed1 (merged B) (scales1 (merged B)) gb)) W) :
    added X (normed2 Y (scales Y) g) M = outArr A B X M ga gb W g := by
  have hs : ∀ b r d, Y (ix3 b r d) = proj A B ga gb W b r d := fun b r d => (congrFun hY _).trans ((mixture_at _ W b r d).trans
    (Finset.sum_congr rfl fun j _ => congrArg (· * _) (mix_eq A B ga gb b r j)))
  have h : ∀ b r d, added X (normed2 Y (scales Y) g) M (ix3 b r d) = out A B X M ga gb W g b r d := fun b r d => by
    unfold out
    rw [added_at, normed2_at, scales_at, mul_comm (M _), mul_assoc (_ * _) (g _), mul_comm (g _)]
    simp only [hs]
  funext i
  have hi : i = ix3 (i 0) (i 1) (i 2) := by
    funext a
    match a with
    | ⟨0, _⟩ => rfl
    | ⟨1, _⟩ => rfl
    | ⟨2, _⟩ => rfl
  exact (congrArg (added X (normed2 Y (scales Y) g) M) hi).trans (h (i 0) (i 1) (i 2))

theorem algebraic : Cert.algebraic_Kernel3Ideal_Reference3Ideal := by
  intro m g m' g' _ hagree
  refine ⟨_, Cert.Kernel3Ideal.Out.value m g, ?_⟩
  refine (θ_run _ _ _).mono (fun r h c => ?_) (Cert.Reference3Ideal.Value.run (F := Ideal) m' g')
  obtain ⟨h0, ha⟩ := h c
  obtain ⟨a0, a1, a2, a3, a4, a5, a6, a7⟩ := hagree c
  refine ⟨h0.trans ?_, ha⟩
  rw [← a0, ← a1, ← a2, ← a3, ← a4, ← a5, ← a6, ← a7]
  refine Eq.trans ?_ (reference_eq (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)) (m' ((c.tc : Thread nD τ).loc main_arg5))
    (m' ((c.tc : Thread nD τ).loc main_arg6)) (m' ((c.tc : Thread nD τ).loc main_arg7)) _ rfl)
  rfl

end Cert.Out
-- ==== Proof.Mla.Printed.lean ====
module

public import proofs.«01_k».proof.Proof.Gen.Kernel4.Frame.RunB
public import Idealize.ShloMosaic.Lib.Claim

/-! The frame of the latent attention as printed, at any floats. No closed form is needed: what a point leaves is
    what its stores read back as, from the scratch of the point before. -/

@[expose] public section

set_option maxRecDepth 16384

noncomputable section

namespace Cert.Kernel4.Mla
open Cert.Kernel4 Cert.Kernel4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: its three output blocks, the scratch of scores and the scratch of row maxima. -/
structure Left (F : FTy → Type) where
  attn : Vec F S1x1x1024x512 .bf16
  first : Vec F S128x2048 .bf16
  second : Vec F S4x512 .f32
  scr : Vec F S2x4x256x2048 .f32
  top : Vec F S2x4x256x1 .f32

/-- The body's run at the first point of the grid, on the point's own blocks. -/
abbrev runA (c : Dev nD) (t : Fin cfg0.N) (h : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h (iblk m c 0 t) (iblk m c 1 t) (iblk m c 2 t) (iblk m c 3 t) (iblk m c 4 t) (iblk m c 5 t) (iblk m c 6 t) (iblk m c 7 t) (iblk m c 8 t)

/-- The body's run at a later point, from the scratch of the point before. -/
abbrev runB (c : Dev nD) (t : Fin cfg0.N) (s : Vec F S2x4x256x2048 .f32) (x : Vec F S2x4x256x1 .f32) (h : ¬ cond0_0 (grid0.coords t)) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h (iblk m c 0 t) (iblk m c 1 t) (iblk m c 2 t) (iblk m c 3 t) (iblk m c 4 t) (iblk m c 5 t) (iblk m c 6 t) (iblk m c 7 t) (iblk m c 8 t) s x

theorem coverA_9 (c : Dev nD) (t : Fin cfg0.N) (h) (y) : ∃ p ∈ (runA m c t h).1, y ∈ p.1.set :=
  View.cover_of_tiledL (runA m c t h).1 S1x1x256x128.size (by sl_kernel_rfl) y
theorem coverA_10 (c : Dev nD) (t : Fin cfg0.N) (h) (y) : ∃ p ∈ (runA m c t h).2.1, y ∈ p.1.set :=
  View.cover_of_tiledL (runA m c t h).2.1 S32x2048.size (by sl_kernel_rfl) y
theorem coverA_11 (c : Dev nD) (t : Fin cfg0.N) (h) (y) : ∃ p ∈ (runA m c t h).2.2.1, y ∈ p.1.set :=
  View.cover_of_tiledL (runA m c t h).2.2.1 S4x512.size (by sl_kernel_rfl) y
theorem coverA_S0 (c : Dev nD) (t : Fin cfg0.N) (h) (y) : ∃ p ∈ (runA m c t h).2.2.2.1, y ∈ p.1.set :=
  View.cover_of_tiledL (runA m c t h).2.2.2.1 S1x1x256x2048.size (by sl_kernel_rfl) y
theorem coverA_S1 (c : Dev nD) (t : Fin cfg0.N) (h) (y) : ∃ p ∈ (runA m c t h).2.2.2.2.1, y ∈ p.1.set :=
  View.cover_of_tiledL (runA m c t h).2.2.2.2.1 S1x1x256x1.size (by sl_kernel_rfl) y

/-- What the first point leaves. -/
def leftA (c : Dev nD) (t : Fin cfg0.N) (h : cond0_0 (grid0.coords t)) : Left F where
  attn := View.canon (runA m c t h).1
  first := View.canon (runA m c t h).2.1
  second := View.canon (runA m c t h).2.2.1
  scr := View.canon (runA m c t h).2.2.2.1
  top := View.canon (runA m c t h).2.2.2.2.1

theorem coverB_9 (c : Dev nD) (t : Fin cfg0.N) (s) (x) (h) (y) : ∃ p ∈ (runB m c t s x h).1, y ∈ p.1.set :=
  View.cover_of_tiledL (runB m c t s x h).1 S1x1x256x128.size (by sl_kernel_rfl) y
theorem coverB_10 (c : Dev nD) (t : Fin cfg0.N) (s) (x) (h) (y) : ∃ p ∈ (runB m c t s x h).2.1, y ∈ p.1.set :=
  View.cover_of_tiledL (runB m c t s x h).2.1 S32x2048.size (by sl_kernel_rfl) y
theorem coverB_11 (c : Dev nD) (t : Fin cfg0.N) (s) (x) (h) (y) : ∃ p ∈ (runB m c t s x h).2.2.1, y ∈ p.1.set :=
  View.cover_of_tiledL (runB m c t s x h).2.2.1 S4x512.size (by sl_kernel_rfl) y
theorem coverB_S0 (c : Dev nD) (t : Fin cfg0.N) (s) (x) (h) (y) : ∃ p ∈ (runB m c t s x h).2.2.2.1, y ∈ p.1.set :=
  View.cover_of_tiledL (runB m c t s x h).2.2.2.1 S1x1x256x2048.size (by sl_kernel_rfl) y
theorem coverB_S1 (c : Dev nD) (t : Fin cfg0.N) (s) (x) (h) (y) : ∃ p ∈ (runB m c t s x h).2.2.2.2.1, y ∈ p.1.set :=
  View.cover_of_tiledL (runB m c t s x h).2.2.2.2.1 S1x1x256x1.size (by sl_kernel_rfl) y

/-- What a later point leaves. -/
def leftB (c : Dev nD) (t : Fin cfg0.N) (s : Vec F S2x4x256x2048 .f32) (x : Vec F S2x4x256x1 .f32) (h : ¬ cond0_0 (grid0.coords t)) : Left F where
  attn := View.canon (runB m c t s x h).1
  first := View.canon (runB m c t s x h).2.1
  second := View.canon (runB m c t s x h).2.2.1
  scr := View.canon (runB m c t s x h).2.2.2.1
  top := View.canon (runB m c t s x h).2.2.2.2.1

theorem first_point (t : Fin cfg0.N) (h : t.val = 0) : cond0_0 (grid0.coords t) := (hcond0_0 t).mpr (by omega)

theorem later_point (t : Fin cfg0.N) (h : t.val ≠ 0) : ¬ cond0_0 (grid0.coords t) := fun h' => by
  have := (hcond0_0 t).mp h'
  have : t.val < 16 := lt_of_lt_of_eq t.isLt (show cfg0.N = 16 from N_0)
  omega

/-- What point `n` leaves, each point starting from the scratch of the one before. -/
def left (c : Dev nD) : (n : ℕ) → n < cfg0.N → Left F
  | 0, hn => leftA m c ⟨0, hn⟩ (first_point _ rfl)
  | n + 1, hn => leftB m c ⟨n + 1, hn⟩ (left c n (by omega)).scr (left c n (by omega)).top (later_point _ (Nat.succ_ne_zero n))

theorem left_first (c : Dev nD) (t : Fin cfg0.N) (h : t.val = 0) : left m c t.val t.isLt = leftA m c t (first_point t h) := by
  obtain ⟨n, hn⟩ := t
  cases n with
  | zero => rw [left]
  | succ n => exact absurd h (Nat.succ_ne_zero n)

theorem left_later (c : Dev nD) (t : Fin cfg0.N) (h : t.val ≠ 0) :
    left m c t.val t.isLt = leftB m c t (left m c (t.val - 1) (by omega)).scr (left m c (t.val - 1) (by omega)).top (later_point t h) := by
  obtain ⟨n, hn⟩ := t
  cases n with
  | zero => exact absurd rfl h
  | succ n => rw [left]; rfl

theorem leftA_attn (c : Dev nD) (t : Fin cfg0.N) (h) : (leftA m c t h).attn = View.canon (runA m c t h).1 := by
  rw [leftA]
theorem leftA_first (c : Dev nD) (t : Fin cfg0.N) (h) : (leftA m c t h).first = View.canon (runA m c t h).2.1 := by
  rw [leftA]
theorem leftA_second (c : Dev nD) (t : Fin cfg0.N) (h) : (leftA m c t h).second = View.canon (runA m c t h).2.2.1 := by
  rw [leftA]
theorem leftA_scr (c : Dev nD) (t : Fin cfg0.N) (h) : (leftA m c t h).scr = View.canon (runA m c t h).2.2.2.1 := by
  rw [leftA]
theorem leftA_top (c : Dev nD) (t : Fin cfg0.N) (h) : (leftA m c t h).top = View.canon (runA m c t h).2.2.2.2.1 := by
  rw [leftA]
theorem leftB_attn (c : Dev nD) (t : Fin cfg0.N) (s) (x) (h) : (leftB m c t s x h).attn = View.canon (runB m c t s x h).1 := by
  rw [leftB]
theorem leftB_first (c : Dev nD) (t : Fin cfg0.N) (s) (x) (h) : (leftB m c t s x h).first = View.canon (runB m c t s x h).2.1 := by
  rw [leftB]
theorem leftB_second (c : Dev nD) (t : Fin cfg0.N) (s) (x) (h) : (leftB m c t s x h).second = View.canon (runB m c t s x h).2.2.1 := by
  rw [leftB]
theorem leftB_scr (c : Dev nD) (t : Fin cfg0.N) (s) (x) (h) : (leftB m c t s x h).scr = View.canon (runB m c t s x h).2.2.2.1 := by
  rw [leftB]
theorem leftB_top (c : Dev nD) (t : Fin cfg0.N) (s) (x) (h) : (leftB m c t s x h).top = View.canon (runB m c t s x h).2.2.2.2.1 := by
  rw [leftB]

attribute [local irreducible] left leftA leftB

/-- The invariant before position `n`: the scratch at anything before the first point, afterwards at what the point before left. -/
def PhiS (c : Dev nD) : (n : ℕ) → n ≤ cfg0.N → sProp 𝕄
  | 0, _ => Pipeline.ΦA spec0 c
  | n + 1, hn => iprop(iprop(owns (c : Thread nD τ) scM0_0 fullShare (left m c n hn).scr ∗ owns (c : Thread nD τ) scM0_1 fullShare (left m c n hn).top) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (left m c n hn).scr ∗ owns (c : Thread nD τ) scM0_1 fullShare (left m c n hn).top) ∗ (∃ r, prngReg c r)) := rfl

theorem PhiS_pos (c : Dev nD) (n : ℕ) (h : n ≤ cfg0.N) (hz : n ≠ 0) :
    PhiS m c n h = iprop(iprop(owns (c : Thread nD τ) scM0_0 fullShare (left m c (n - 1) (by omega)).scr ∗ owns (c : Thread nD τ) scM0_1 fullShare (left m c (n - 1) (by omega)).top) ∗ (∃ r, prngReg c r)) := by
  cases n with
  | zero => exact absurd rfl hz
  | succ n => rfl

/-- The pipeline's proof data: an input's buffer at its block, an output's at what its stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (left m c t.val t.isLt).attn
    | ⟨10, _⟩ => (left m c t.val t.isLt).first
    | ⟨11, _⟩ => (left m c t.val t.isLt).second
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (left m c t.val t.isLt).attn := by dsimp only [dats]
theorem after0_10 (c : Dev nD) (t : Fin cfg0.N) : (dats m 0 c).after 10 t = (left m c t.val t.isLt).first := by dsimp only [dats]
theorem after0_11 (c : Dev nD) (t : Fin cfg0.N) : (dats m 0 c).after 11 t = (left m c t.val t.isLt).second := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: at the first the run of case A; at a later one case B's, the scratch holding what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  by_cases hz : t.val = 0
  · have hA : cond0_0 (grid0.coords t) := first_point t hz
    rw [left_first m c t hz]
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA m c t hA).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverA_S0 m c t hA)).trans (leftA_scr m c t hA).symm
        unfold owns; iexists _; isplitr
        swap; · iexact HS1
        ipureintro; exact (View.read_writes_eq_canon _ _ _ (coverA_S1 m c t hA)).trans (leftA_top m c t hA).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_eq_canon _ _ _ (coverA_9 m c t hA)).trans (leftA_attn m c t hA).symm
    isplitl [H10]
    · unfold owns; iexists _; isplitr
      swap; · iexact H10
      ipureintro; exact (View.read_writes_eq_canon _ _ _ (coverA_10 m c t hA)).trans (leftA_first m c t hA).symm
    unfold owns; iexists _; isplitr
    swap; · iexact H11
    ipureintro; exact (View.read_writes_eq_canon _ _ _ (coverA_11 m c t hA)).trans (leftA_second m c t hA).symm
  · have hB : ¬ cond0_0 (grid0.coords t) := later_point t hz
    rw [left_later m c t hz]
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB m c t (left m c (t.val - 1) (by omega)).scr (left m c (t.val - 1) (by omega)).top hB).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverB_S0 m c t (left m c (t.val - 1) (by omega)).scr (left m c (t.val - 1) (by omega)).top hB)).trans (leftB_scr m c t (left m c (t.val - 1) (by omega)).scr (left m c (t.val - 1) (by omega)).top hB).symm
        unfold owns; iexists _; isplitr
        swap; · iexact HS1
        ipureintro; exact (View.read_writes_eq_canon _ _ _ (coverB_S1 m c t (left m c (t.val - 1) (by omega)).scr (left m c (t.val - 1) (by omega)).top hB)).trans (leftB_top m c t (left m c (t.val - 1) (by omega)).scr (left m c (t.val - 1) (by omega)).top hB).symm
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_eq_canon _ _ _ (coverB_9 m c t (left m c (t.val - 1) (by omega)).scr (left m c (t.val - 1) (by omega)).top hB)).trans (leftB_attn m c t (left m c (t.val - 1) (by omega)).scr (left m c (t.val - 1) (by omega)).top hB).symm
    isplitl [H10]
    · unfold owns; iexists _; isplitr
      swap; · iexact H10
      ipureintro; exact (View.read_writes_eq_canon _ _ _ (coverB_10 m c t (left m c (t.val - 1) (by omega)).scr (left m c (t.val - 1) (by omega)).top hB)).trans (leftB_first m c t (left m c (t.val - 1) (by omega)).scr (left m c (t.val - 1) (by omega)).top hB).symm
    unfold owns; iexists _; isplitr
    swap; · iexact H11
    ipureintro; exact (View.read_writes_eq_canon _ _ _ (coverB_11 m c t (left m c (t.val - 1) (by omega)).scr (left m c (t.val - 1) (by omega)).top hB)).trans (leftB_second m c t (left m c (t.val - 1) (by omega)).scr (left m c (t.val - 1) (by omega)).top hB).symm

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch: every array of the pipeline ends at what the proof data computes, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)
/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel4.Mla
-- ==== Proof.Mla.Reference.lean ====
module

public import proofs.«01_k».proof.Proof.Row
public import proofs.«01_k».proof.Reference4Ideal
public import Idealize.ShloMosaic.Lib.Pointwise
public import Idealize.ShloMosaic.Lib.Claim

/-! The reference of the latent attention, array by array: the scores, their softmax, the values' means, and the late modulation vectors. -/

@[expose] public section

set_option maxRecDepth 16384

noncomputable section

namespace Cert.Reference4Ideal
open Cert.Reference4Ideal Cert.Reference4Ideal.Facts₀ Cert.Attention Idealize.ShloMosaic

variable [Facts]

/-- The scores, times the logarithm of two. -/
def scores (Q : FVec Ideal S4x2x2048x1024 .bf16) (K : FVec Ideal S4x2x2048x1024 .bf16) : FVec Ideal S4x2x4x2048x2048 .f32 :=
  mulf (Host.dotGeneral dot_S4x2x4x2048x256_S4x2x4x2048x256_S4x2x4x2048x2048_4_4_3_3_012_012 none
      (transpose S4x2x4x2048x256 [0, 1, 3, 2, 4] (shapeCast _ (extf .f32 Q bitsLt_bf16_f32) shapeCasts_S4x2x2048x1024_S4x2x2048x4x256)
        transposes_S4x2x2048x4x256_S4x2x4x2048x256_0_1_3_2_4)
      (transpose S4x2x4x2048x256 [0, 1, 3, 2, 4] (shapeCast _ (extf .f32 K bitsLt_bf16_f32) shapeCasts_S4x2x2048x1024_S4x2x2048x4x256)
        transposes_S4x2x2048x4x256_S4x2x4x2048x256_0_1_3_2_4))
    (broadcastInDim S4x2x4x2048x2048 ![] bcast_S_S4x2x4x2048x2048 (Host.log (constant S_ .f32 0x40000000#32)))

/-- The exponentials of the scores less their row's maximum. -/
def exps (S : FVec Ideal S4x2x4x2048x2048 .f32) : FVec Ideal S4x2x4x2048x2048 .f32 :=
  Host.exp (subf S (broadcastInDim S4x2x4x2048x2048 ![0, 1, 2, 3, 4] bcast_S4x2x4x2048x1_S4x2x4x2048x2048_0_1_2_3_4
    (broadcastInDim S4x2x4x2048x1 ![0, 1, 2, 3] bcast_S4x2x4x2048_S4x2x4x2048x1_0_1_2_3
      (maximumf (broadcastInDim S4x2x4x2048 ![] bcast_S_S4x2x4x2048 (constant S_ .f32 0xFF800000#32))
        (Host.reduce FloatOps.maximumf S (constant S_ .f32 0xFF800000#32) reducesTo_S4x2x4x2048x2048_S4x2x4x2048_d4 h_S_)))))

/-- The exponentials over their row's sum. -/
def shares (E : FVec Ideal S4x2x4x2048x2048 .f32) : FVec Ideal S4x2x4x2048x2048 .f32 :=
  Host.divf E (broadcastInDim S4x2x4x2048x2048 ![0, 1, 2, 3, 4] bcast_S4x2x4x2048x1_S4x2x4x2048x2048_0_1_2_3_4
    (broadcastInDim S4x2x4x2048x1 ![0, 1, 2, 3] bcast_S4x2x4x2048_S4x2x4x2048x1_0_1_2_3
      (Host.reduceAdd E (constant S_ .f32 0x00000000#32) reducesTo_S4x2x4x2048x2048_S4x2x4x2048_d4 h_S_)))

/-- The values' means, the heads laid side by side. -/
def means (P : FVec Ideal S4x2x4x2048x2048 .f32) (W : FVec Ideal S4x2x2048x512 .bf16) : FVec Ideal S4x2x2048x512 .bf16 :=
  truncf .bf16 (shapeCast _ (transpose S4x2x2048x4x128 [0, 1, 3, 2, 4]
    (Host.dotGeneral dot_S4x2x4x2048x2048_S4x2x4x2048x128_S4x2x4x2048x128_4_3_3_4_012_012 none P
      (transpose S4x2x4x2048x128 [0, 1, 3, 2, 4] (shapeCast _ (extf .f32 W bitsLt_bf16_f32) shapeCasts_S4x2x2048x512_S4x2x2048x4x128)
        transposes_S4x2x2048x4x128_S4x2x4x2048x128_0_1_3_2_4))
      transposes_S4x2x4x2048x128_S4x2x2048x4x128_0_1_3_2_4) shapeCasts_S4x2x2048x4x128_S4x2x2048x512) bitsLt_bf16_f32

theorem scores_at (Q : FVec Ideal S4x2x2048x1024 .bf16) (K : FVec Ideal S4x2x2048x1024 .bf16) (b : Fin 4) (k : Fin 2) (h : Fin 4) (q j : Fin 2048) :
    scores Q K (ix5 b k h q j)
      = (∑ d : Fin 256, Q (ix4 b k q ⟨h.val * 256 + d.val, by omega⟩) * K (ix4 b k j ⟨h.val * 256 + d.val, by omega⟩)) * Ideal.log (Ideal.ofBits FTy.f32 0x40000000#32) := by
  unfold scores
  pointwise

theorem maxes_at (S : FVec Ideal S4x2x4x2048x2048 .f32) (C : FVec Ideal S_ .f32) (x : S4x2x4x2048.Idx) :
    Host.reduce FloatOps.maximumf S C reducesTo_S4x2x4x2048x2048_S4x2x4x2048_d4 h_S_ x
      = Finset.fold max (C (Shape.Idx.first h_S_)) (fun j => S (ix5 (x 0) (x 1) (x 2) (x 3) j)) Finset.univ := by
  simp only [pointwise]

/-- The exponentials, the row's maximum any array. -/
def expsOf (S : FVec Ideal S4x2x4x2048x2048 .f32) (M : FVec Ideal S4x2x4x2048 .f32) : FVec Ideal S4x2x4x2048x2048 .f32 :=
  Host.exp (subf S (broadcastInDim S4x2x4x2048x2048 ![0, 1, 2, 3, 4] bcast_S4x2x4x2048x1_S4x2x4x2048x2048_0_1_2_3_4
    (broadcastInDim S4x2x4x2048x1 ![0, 1, 2, 3] bcast_S4x2x4x2048_S4x2x4x2048x1_0_1_2_3
      (maximumf (broadcastInDim S4x2x4x2048 ![] bcast_S_S4x2x4x2048 (constant S_ .f32 0xFF800000#32)) M))))

theorem expsOf_at (S : FVec Ideal S4x2x4x2048x2048 .f32) (M : FVec Ideal S4x2x4x2048 .f32) (b : Fin 4) (k : Fin 2) (h : Fin 4) (q j : Fin 2048) :
    expsOf S M (ix5 b k h q j)
      = Ideal.exp (S (ix5 b k h q j) - max (Ideal.ofBits FTy.f32 4286578688#32) (M (ix4 b k h q))) := by
  unfold expsOf
  pointwise

theorem exps_at (S : FVec Ideal S4x2x4x2048x2048 .f32) (b : Fin 4) (k : Fin 2) (h : Fin 4) (q j : Fin 2048) :
    exps S (ix5 b k h q j)
      = Ideal.exp (S (ix5 b k h q j) - max (Ideal.ofBits FTy.f32 4286578688#32) (rowMax fun x => S (ix5 b k h q x))) :=
  (expsOf_at S _ b k h q j).trans
    (congrArg (fun x => Ideal.exp (S (ix5 b k h q j) - max (Ideal.ofBits FTy.f32 4286578688#32) x)) (maxes_at S _ (ix4 b k h q)))

theorem shares_at (E : FVec Ideal S4x2x4x2048x2048 .f32) (b : Fin 4) (k : Fin 2) (h : Fin 4) (q j : Fin 2048) :
    shares E (ix5 b k h q j) = Ideal.div (E (ix5 b k h q j)) (∑ x, E (ix5 b k h q x)) := by
  unfold shares
  pointwise

theorem means_at (P : FVec Ideal S4x2x4x2048x2048 .f32) (W : FVec Ideal S4x2x2048x512 .bf16) (i : S4x2x2048x512.Idx) :
    means P W i = ∑ j : Fin 2048, P (ix5 (i 0) (i 1) ⟨(i 3).val / 128, by have := (i 3).isLt; simp at this; omega⟩ (i 2) j)
      * W (ix4 (i 0) (i 1) j (i 3)) := by
  unfold means
  pointwise

/-- The late modulation vectors, from the condition's gated rows. -/
def lates (C : FVec Ideal S4x2048 .f32) (W : FVec Ideal S2048x12288 .f32) (B : FVec Ideal S1x12288 .f32) : FVec Ideal S4x8192 .f32 :=
  extractStridedSlice S4x8192 ![0, 4096] (addf (Host.dotGeneral dot_S4x2048_S2048x12288_S4x12288_1_0_0_1_n_n none C W)
    (broadcastInDim S4x12288 ![0, 1] bcast_S1x12288_S4x12288_0_1 B)) slices_S4x12288_S4x8192_0_4096

/-- The condition times its logistic function. -/
def gates (C : FVec Ideal S4x2048 .f32) : FVec Ideal S4x2048 .f32 :=
  mulf C (Host.divf (broadcastInDim S4x2048 ![] bcast_S_S4x2048 (constant S_ .f32 0x3F800000#32))
    (addf (broadcastInDim S4x2048 ![] bcast_S_S4x2048 (constant S_ .f32 0x3F800000#32)) (Host.exp (Host.negf C))))

theorem lates_at (C : FVec Ideal S4x2048 .f32) (W : FVec Ideal S2048x12288 .f32) (B : FVec Ideal S1x12288 .f32) (i : S4x8192.Idx) :
    lates C W B i = (∑ d : Fin 2048, C (ix2 (i 0) d) * W (ix2 d ⟨4096 + (i 1).val, by
      have h1 : (i 1).val < 8192 := (i 1).isLt
      omega⟩)) + B (ix2 0 ⟨4096 + (i 1).val, by
      have h1 : (i 1).val < 8192 := (i 1).isLt
      omega⟩) := by
  unfold lates
  pointwise

theorem gates_at (C : FVec Ideal S4x2048 .f32) (i : S4x2048.Idx) : gates C i = C i * Ideal.logistic (C i) := by
  unfold gates Ideal.logistic
  pointwise

end Cert.Reference4Ideal
-- ==== Proof.Mla.Body.lean ====
module

public import proofs.«01_k».proof.Proof.Gen.Kernel4Ideal.Frame.RunA
public import proofs.«01_k».proof.Proof.Gen.Kernel4Ideal.Frame.RunB
public import proofs.«01_k».proof.Proof.Row
public import Idealize.ShloMosaic.Lib.Pipeline.ReadBack

/-! What one grid point of the latent attention stores, as functions of the blocks it reads: four blocks of 256 queries by four heads, each
    block's scores computed one block ahead into a scratch of two slots. -/

@[expose] public section

set_option maxRecDepth 16384

noncomputable section

namespace Cert.Kernel4Ideal.Mla
open Cert.Kernel4Ideal Cert.Kernel4Ideal.Gen Cert.Attention Idealize.ShloMosaic Idealize.ShloMosaic.TcCoe Idealize.SL.Sem

/-- The score of query `r` of head `h` against key `j`, the heads of 256 lanes lying side by side in the queries and in the keys. -/
def headScore {n : ℕ} (q : (⟨4, ![1, 1, n, 1024]⟩ : Shape).Idx → EReal) (k : (⟨4, ![1, 1, 2048, 1024]⟩ : Shape).Idx → EReal)
    (r : Fin n) (h : Fin 4) (j : Fin 2048) : EReal :=
  ∑ d : Fin 256, q (ix4 0 0 r ⟨h.val * 256 + d.val, by omega⟩) * k (ix4 0 0 j ⟨h.val * 256 + d.val, by omega⟩)

/-- The attention of a point's 1024 queries, four heads side by side. -/
def attn (q : Vec Ideal S1x1x1024x1024 .bf16) (k : Vec Ideal S1x1x2048x1024 .bf16) (v : Vec Ideal S1x1x2048x512 .bf16) : Vec Ideal S1x1x1024x512 .bf16 := fun y =>
  row (headScore q k (y 2) ⟨(y 3).val / 128, by have := (y 3).isLt; simp at this; omega⟩)
    (fun j => v (ix4 0 0 j (y 3)))

/-- The scores that a point leaves in the scratch: in slot 1 its own last block's, in slot 0 the next point's first block's. -/
def scr (q : Vec Ideal S1x1x1024x1024 .bf16) (qn : Vec Ideal S1x1x256x1024 .bf16) (k kn : Vec Ideal S1x1x2048x1024 .bf16) :
    Vec Ideal S2x4x256x2048 .f32 := fun y =>
  if (y 0).val = 0 then headScore qn kn (y 2) (y 1) (y 3)
  else headScore q k ⟨768 + (y 2).val, by have := (y 2).isLt; simp at this; omega⟩ (y 1) (y 3)

/-- The row maxima of those scores. -/
def scrMax (q : Vec Ideal S1x1x1024x1024 .bf16) (qn : Vec Ideal S1x1x256x1024 .bf16) (k kn : Vec Ideal S1x1x2048x1024 .bf16) :
    Vec Ideal S2x4x256x1 .f32 := fun y =>
  rowMax (fun j => scr q qn k kn (ix4 (y 0) (y 1) (y 2) j))

/-- One stored tile of the result, from scores and row maxima of its rows. -/
theorem tile (q : Vec Ideal S1x1x1024x1024 .bf16) (k : Vec Ideal S1x1x2048x1024 .bf16) (v : Vec Ideal S1x1x2048x512 .bf16) (S : Vec Ideal S1x1x256x2048 .f32) (M : Vec Ideal S1x1x256x1 .f32)
    (r0 v0 : ℕ) (inb) (inbv) (h : Fin 4) (hv : v0 = h.val * 128) (hr : r0 + 256 ≤ 1024)
    (hS : ∀ (r : Fin 256) (j : Fin 2048), S (ix4 0 0 r j) = headScore q k ⟨r0 + r.val, by omega⟩ h j)
    (hM : ∀ r : Fin 256, M (ix4 0 0 r 0) = rowMax (headScore q k ⟨r0 + r.val, by omega⟩ h)) (x) :
    k0_pay34 (View.ld (Val := Elt Ideal) v (Rect.unit (s := S1x1x2048x512) ![0, 0, 0, v0] ![1, 1, 2048, 128] inbv)) S M x
      = attn q k v ((Rect.unit (s := S1x1x1024x512) ![0, 0, r0, v0] ![1, 1, 256, 128] inb).emb x) := by
  have e2 : (((Rect.unit (s := S1x1x1024x512) ![0, 0, r0, v0] ![1, 1, 256, 128] inb).emb x) 2 : ℕ) = r0 + (x 2).val := Rect.idx_unit_val _ _ inb x 2
  have e3 : (((Rect.unit (s := S1x1x1024x512) ![0, 0, r0, v0] ![1, 1, 256, 128] inb).emb x) 3 : ℕ) = v0 + (x 3).val := Rect.idx_unit_val _ _ inb x 3
  have hx : (x 3).val < 128 := (x 3).isLt
  unfold attn
  generalize (Rect.unit (s := S1x1x1024x512) ![0, 0, r0, v0] ![1, 1, 256, 128] inb).emb x = y at e2 e3
  unfold_payloads
  pointwise
  have hq : (⟨(y 3).val / 128, by have := (y 3).isLt; simp at this; omega⟩ : Fin 4) = h := Fin.ext (by show (y 3).val / 128 = h.val; omega)
  have hy : y 2 = (⟨r0 + (x 2).val, by have : (x 2).val < 256 := (x 2).isLt; omega⟩ : Fin 1024) := Fin.ext e2
  rw [hq, hy]
  have hE : ∀ j : Fin 2048, FloatOps.exp2 (F := Ideal) (φ := .f32) (S (ix4 0 0 (x 2) j) - M (ix4 0 0 (x 2) 0))
      = Ideal.exp2 (headScore q k ⟨r0 + (x 2).val, by have : (x 2).val < 256 := (x 2).isLt; omega⟩ h j
        - rowMax (headScore q k ⟨r0 + (x 2).val, by have : (x 2).val < 256 := (x 2).isLt; omega⟩ h)) := fun j =>
    congrArg Ideal.exp2 (congrArg₂ (· - ·) (hS (x 2) j) (hM (x 2)))
  have h3 : (⟨v0 + (x 3).val, by omega⟩ : Fin 512) = y 3 := Fin.ext e3.symm
  refine congrArg₂ Ideal.div (Finset.sum_congr rfl fun j _ => congrArg₂ (· * ·) (hE j) ?_) (Finset.sum_congr rfl fun j _ => hE j)
  exact congrArg v (congrArg (ix4 0 0 j) h3)

/-- A tile whose scores the point computes itself. -/
theorem tile_own (q : Vec Ideal S1x1x1024x1024 .bf16) (k : Vec Ideal S1x1x2048x1024 .bf16) (v : Vec Ideal S1x1x2048x512 .bf16)
    (r0 c0 v0 : ℕ) (inb) (inb') (inbk) (inbv) (h : Fin 4) (hc : c0 = h.val * 256) (hv : v0 = h.val * 128) (hr : r0 + 256 ≤ 1024) (x) :
    k0_pay34 (View.ld (Val := Elt Ideal) v (Rect.unit (s := S1x1x2048x512) ![0, 0, 0, v0] ![1, 1, 2048, 128] inbv))
      (k0_pay3 (View.ld (Val := Elt Ideal) k (Rect.unit (s := S1x1x2048x1024) ![0, 0, 0, c0] ![1, 1, 2048, 256] inbk))
        (View.ld (Val := Elt Ideal) q (Rect.unit (s := S1x1x1024x1024) ![0, 0, r0, c0] ![1, 1, 256, 256] inb')))
      (k0_pay4 (View.ld (Val := Elt Ideal) k (Rect.unit (s := S1x1x2048x1024) ![0, 0, 0, c0] ![1, 1, 2048, 256] inbk))
        (View.ld (Val := Elt Ideal) q (Rect.unit (s := S1x1x1024x1024) ![0, 0, r0, c0] ![1, 1, 256, 256] inb'))) x
      = attn q k v ((Rect.unit (s := S1x1x1024x512) ![0, 0, r0, v0] ![1, 1, 256, 128] inb).emb x) := by
  refine tile q k v _ _ r0 v0 inb inbv h hv hr (fun r j => ?_) (fun r => ?_) x
  · unfold_payloads
    pointwise
    subst hc; rfl
  · unfold_payloads
    pointwise
    unfold rowMax
    congr 1
    subst hc; rfl

/-- A carried scratch: its slot 0 holds the scores of a point's first block, and their row maxima. -/
def Carried (q : Vec Ideal S1x1x1024x1024 .bf16) (k : Vec Ideal S1x1x2048x1024 .bf16) (X : Vec Ideal S2x4x256x2048 .f32) (Y : Vec Ideal S2x4x256x1 .f32) : Prop :=
  (∀ (h : Fin 4) (r : Fin 256) (j : Fin 2048), X (ix4 0 h r j) = headScore q k ⟨r.val, by omega⟩ h j)
    ∧ ∀ (h : Fin 4) (r : Fin 256), Y (ix4 0 h r 0) = rowMax (headScore q k ⟨r.val, by omega⟩ h)

/-- A tile whose scores the point before computed. -/
theorem tile_carried (q : Vec Ideal S1x1x1024x1024 .bf16) (k : Vec Ideal S1x1x2048x1024 .bf16) (v : Vec Ideal S1x1x2048x512 .bf16) (X : Vec Ideal S2x4x256x2048 .f32) (Y : Vec Ideal S2x4x256x1 .f32)
    (hXY : Carried q k X Y) (v0 n : ℕ) (inb) (inb') (inb'') (inbv) (hn : n < 4) (hv : v0 = n * 128) (x) :
    k0_pay34 (View.ld (Val := Elt Ideal) v (Rect.unit (s := S1x1x2048x512) ![0, 0, 0, v0] ![1, 1, 2048, 128] inbv))
      (View.ld (Val := Elt Ideal) X (Rect.unit (s := S2x4x256x2048) ![0, n, 0, 0] ![1, 1, 256, 2048] inb'))
      (View.ld (Val := Elt Ideal) Y (Rect.unit (s := S2x4x256x1) ![0, n, 0, 0] ![1, 1, 256, 1] inb'')) x
      = attn q k v ((Rect.unit (s := S1x1x1024x512) ![0, 0, 0, v0] ![1, 1, 256, 128] inb).emb x) := by
  refine tile q k v _ _ 0 v0 inb inbv ⟨n, hn⟩ hv (by omega) (fun r j => ?_) (fun r => ?_) x
  · rw [View.ld_unit_apply_of X _ _ inb' (ix4 0 0 r j) (ix4 0 ⟨n, hn⟩ r j) fun a => ?_, hXY.1]
    · simp only [Nat.zero_add]
    · match a with
      | ⟨0, _⟩ => rfl
      | ⟨1, _⟩ => rfl
      | ⟨2, _⟩ => exact (Nat.zero_add _).symm
      | ⟨3, _⟩ => exact (Nat.zero_add _).symm
  · rw [View.ld_unit_apply_of Y _ _ inb'' (ix4 0 0 r 0) (ix4 0 ⟨n, hn⟩ r 0) fun a => ?_, hXY.2]
    · simp only [Nat.zero_add]
    · match a with
      | ⟨0, _⟩ => rfl
      | ⟨1, _⟩ => rfl
      | ⟨2, _⟩ => exact (Nat.zero_add _).symm
      | ⟨3, _⟩ => rfl

/-- The scores of the point's own last block, as stored. -/
theorem scr_own (q : Vec Ideal S1x1x1024x1024 .bf16) (qn : Vec Ideal S1x1x256x1024 .bf16) (k kn : Vec Ideal S1x1x2048x1024 .bf16)
    (c0 n : ℕ) (inb) (inb') (inbk) (hn : n < 4) (hc : c0 = n * 256) (x) :
    k0_pay3 (View.ld (Val := Elt Ideal) k (Rect.unit (s := S1x1x2048x1024) ![0, 0, 0, c0] ![1, 1, 2048, 256] inbk))
        (View.ld (Val := Elt Ideal) q (Rect.unit (s := S1x1x1024x1024) ![0, 0, 768, c0] ![1, 1, 256, 256] inb')) x
      = scr q qn k kn ((Rect.unit (s := S2x4x256x2048) ![1, n, 0, 0] ![1, 1, 256, 2048] inb).emb x) := by
  have e : (Rect.unit (s := S2x4x256x2048) ![1, n, 0, 0] ![1, 1, 256, 2048] inb).emb x = ix4 1 ⟨n, hn⟩ (x 2) (x 3) := by
    refine funext fun a => Fin.ext ((Rect.idx_unit_val _ _ inb x a).trans ?_)
    match a with
    | ⟨0, _⟩ => have : (x 0).val < 1 := (x 0).isLt; show 1 + (x 0).val = 1; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- The scores of the next point's first block, as stored. -/
theorem scr_next (q : Vec Ideal S1x1x1024x1024 .bf16) (qn : Vec Ideal S1x1x256x1024 .bf16) (k kn : Vec Ideal S1x1x2048x1024 .bf16)
    (c0 n : ℕ) (inb) (inb') (inbk) (hn : n < 4) (hc : c0 = n * 256) (x) :
    k0_pay3 (View.ld (Val := Elt Ideal) kn (Rect.unit (s := S1x1x2048x1024) ![0, 0, 0, c0] ![1, 1, 2048, 256] inbk))
        (View.ld (Val := Elt Ideal) qn (Rect.unit (s := S1x1x256x1024) ![0, 0, 0, c0] ![1, 1, 256, 256] inb')) x
      = scr q qn k kn ((Rect.unit (s := S2x4x256x2048) ![0, n, 0, 0] ![1, 1, 256, 2048] inb).emb x) := by
  have e : (Rect.unit (s := S2x4x256x2048) ![0, n, 0, 0] ![1, 1, 256, 2048] inb).emb x = ix4 0 ⟨n, hn⟩ (x 2) (x 3) := by
    refine funext fun a => Fin.ext ((Rect.idx_unit_val _ _ inb x a).trans ?_)
    match a with
    | ⟨0, _⟩ => have : (x 0).val < 1 := (x 0).isLt; show 0 + (x 0).val = 0; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- The row maxima of the point's own last block, as stored. -/
theorem scrMax_own (q : Vec Ideal S1x1x1024x1024 .bf16) (qn : Vec Ideal S1x1x256x1024 .bf16) (k kn : Vec Ideal S1x1x2048x1024 .bf16)
    (c0 n : ℕ) (inb) (inb') (inbk) (hn : n < 4) (hc : c0 = n * 256) (x) :
    k0_pay4 (View.ld (Val := Elt Ideal) k (Rect.unit (s := S1x1x2048x1024) ![0, 0, 0, c0] ![1, 1, 2048, 256] inbk))
        (View.ld (Val := Elt Ideal) q (Rect.unit (s := S1x1x1024x1024) ![0, 0, 768, c0] ![1, 1, 256, 256] inb')) x
      = scrMax q qn k kn ((Rect.unit (s := S2x4x256x1) ![1, n, 0, 0] ![1, 1, 256, 1] inb).emb x) := by
  have e : (Rect.unit (s := S2x4x256x1) ![1, n, 0, 0] ![1, 1, 256, 1] inb).emb x = ix4 1 ⟨n, hn⟩ (x 2) (x 3) := by
    refine funext fun a => Fin.ext ((Rect.idx_unit_val _ _ inb x a).trans ?_)
    match a with
    | ⟨0, _⟩ => have : (x 0).val < 1 := (x 0).isLt; show 1 + (x 0).val = 1; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- The row maxima of the next point's first block, as stored. -/
theorem scrMax_next (q : Vec Ideal S1x1x1024x1024 .bf16) (qn : Vec Ideal S1x1x256x1024 .bf16) (k kn : Vec Ideal S1x1x2048x1024 .bf16)
    (c0 n : ℕ) (inb) (inb') (inbk) (hn : n < 4) (hc : c0 = n * 256) (x) :
    k0_pay4 (View.ld (Val := Elt Ideal) kn (Rect.unit (s := S1x1x2048x1024) ![0, 0, 0, c0] ![1, 1, 2048, 256] inbk))
        (View.ld (Val := Elt Ideal) qn (Rect.unit (s := S1x1x256x1024) ![0, 0, 0, c0] ![1, 1, 256, 256] inb')) x
      = scrMax q qn k kn ((Rect.unit (s := S2x4x256x1) ![0, n, 0, 0] ![1, 1, 256, 1] inb).emb x) := by
  have e : (Rect.unit (s := S2x4x256x1) ![0, n, 0, 0] ![1, 1, 256, 1] inb).emb x = ix4 0 ⟨n, hn⟩ (x 2) (x 3) := by
    refine funext fun a => Fin.ext ((Rect.idx_unit_val _ _ inb x a).trans ?_)
    match a with
    | ⟨0, _⟩ => have : (x 0).val < 1 := (x 0).isLt; show 0 + (x 0).val = 0; omega
    | ⟨1, _⟩ => have : (x 1).val < 1 := (x 1).isLt; show n + (x 1).val = n; omega
    | ⟨2, _⟩ => exact Nat.zero_add _
    | ⟨3, _⟩ => exact Nat.zero_add _
  rw [e]
  unfold_payloads
  pointwise
  subst hc; rfl

/-- A cast tile of the weight: at the ideal instance a cast changes nothing. -/
theorem copy_tile (w : Vec Ideal S128x2048 .f32) (r : ℕ) (inb) (inb') (x) :
    k0_pay27 (View.ld (Val := Elt Ideal) w (Rect.unit (s := S128x2048) ![r, 0] ![32, 2048] inb)) x
      = w ((Rect.unit (s := S128x2048) ![r, 0] ![32, 2048] inb').emb x) := rfl

/-- A number times its logistic function. -/
def gated (x : EReal) : EReal := x * Ideal.logistic x

/-- A block of columns of the modulation: the condition through its gate, times the weight's columns, plus the bias. -/
def late (a : Vec Ideal S4x2048 .f32) (w : Vec Ideal S2048x512 .f32) (b : Vec Ideal S1x512 .f32) : Vec Ideal S4x512 .f32 := fun y =>
  (∑ d : Fin 2048, gated (a (ix2 (y 0) d)) * w (ix2 d (y 1))) + b (ix2 0 (y 1))

/-- The modulation's block, as stored. -/
theorem late_tile (a : Vec Ideal S4x2048 .f32) (w : Vec Ideal S2048x512 .f32) (b : Vec Ideal S1x512 .f32) (inb) (inbw) (inbb) (inb') (x) :
    k0_pay28 (View.ld (Val := Elt Ideal) a (Rect.unit (s := S4x2048) ![0, 0] ![4, 2048] inb))
        (View.ld (Val := Elt Ideal) w (Rect.unit (s := S2048x512) ![0, 0] ![2048, 512] inbw))
        (View.ld (Val := Elt Ideal) b (Rect.unit (s := S1x512) ![0, 0] ![1, 512] inbb)) x
      = late a w b ((Rect.unit (s := S4x512) ![0, 0] ![4, 512] inb').emb x) := by
  have e : (Rect.unit (s := S4x512) ![0, 0] ![4, 512] inb').emb x = x := by
    refine funext fun a => Fin.ext ((Rect.idx_unit_val _ _ inb' x a).trans ?_)
    match a with
    | ⟨0, _⟩ => exact Nat.zero_add _
    | ⟨1, _⟩ => exact Nat.zero_add _
  rw [e]
  unfold late gated
  unfold_payloads
  pointwise

end Cert.Kernel4Ideal.Mla
-- ==== Proof.Mla.Points.lean ====
module

public import proofs.«01_k».proof.Proof.Mla.Body

/-! What the stores of one grid point leave in each buffer. -/

@[expose] public section

set_option maxRecDepth 16384

noncomputable section

namespace Cert.Kernel4Ideal.Mla
open Cert.Kernel4Ideal Cert.Kernel4Ideal.Gen Cert.Attention Idealize.ShloMosaic Idealize.ShloMosaic.TcCoe Idealize.SL.Sem

variable (c : Dev nD) (t : Fin cfg0.N)
  (x0 : Vec Ideal S1x1x1024x1024 .bf16) (x1 : Vec Ideal S1x1x256x1024 .bf16) (x2 x3 : Vec Ideal S1x1x2048x1024 .bf16) (x4 : Vec Ideal S1x1x2048x512 .bf16)
  (x5 : Vec Ideal S128x2048 .f32) (x6 : Vec Ideal S4x2048 .f32) (x7 : Vec Ideal S2048x512 .f32) (x8 : Vec Ideal S1x512 .f32)
  (xs0 : Vec Ideal S2x4x256x2048 .f32) (xs1 : Vec Ideal S2x4x256x1 .f32)

/-- The body's run at the first point of the grid, on the point's own buffers. -/
abbrev runA (h : cond0_0 (grid0.coords t)) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h x0 x1 x2 x3 x4 x5 x6 x7 x8

/-- The body's run at a later point. -/
abbrev runB (h : ¬ cond0_0 (grid0.coords t)) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) h x0 x1 x2 x3 x4 x5 x6 x7 x8 xs0 xs1

theorem coverA_9 (h) (y) : ∃ p ∈ (runA c t x0 x1 x2 x3 x4 x5 x6 x7 x8 h).1, y ∈ p.1.set :=
  View.cover_of_tiledL (runA c t x0 x1 x2 x3 x4 x5 x6 x7 x8 h).1 S1x1x256x128.size (by sl_kernel_rfl) y

set_option maxHeartbeats 1000000 in
/-- Read back, the attention at a point of case A. -/
theorem canonA_9 (h) : View.canon (runA c t x0 x1 x2 x3 x4 x5 x6 x7 x8 h).1 = attn x0 x2 x4 := by
  funext y
  have hcov := coverA_9 c t x0 x1 x2 x3 x4 x5 x6 x7 x8 h y
  revert hcov
  unfold runA kernelRun0_A
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  intro hcov
  refine View.canon_append_of_piecesOf (attn x0 x2 x4) [] _ ?_ y hcov
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tile_own x0 x2 x4 768 768 384 (by decide) (by decide) (by decide) (by decide) 3 rfl rfl (by omega) x
  · exact tile_own x0 x2 x4 768 512 256 (by decide) (by decide) (by decide) (by decide) 2 rfl rfl (by omega) x
  · exact tile_own x0 x2 x4 768 256 128 (by decide) (by decide) (by decide) (by decide) 1 rfl rfl (by omega) x
  · exact tile_own x0 x2 x4 768 0 0 (by decide) (by decide) (by decide) (by decide) 0 rfl rfl (by omega) x
  · exact tile_own x0 x2 x4 512 768 384 (by decide) (by decide) (by decide) (by decide) 3 rfl rfl (by omega) x
  · exact tile_own x0 x2 x4 512 512 256 (by decide) (by decide) (by decide) (by decide) 2 rfl rfl (by omega) x
  · exact tile_own x0 x2 x4 512 256 128 (by decide) (by decide) (by decide) (by decide) 1 rfl rfl (by omega) x
  · exact tile_own x0 x2 x4 512 0 0 (by decide) (by decide) (by decide) (by decide) 0 rfl rfl (by omega) x
  · exact tile_own x0 x2 x4 256 768 384 (by decide) (by decide) (by decide) (by decide) 3 rfl rfl (by omega) x
  · exact tile_own x0 x2 x4 256 512 256 (by decide) (by decide) (by decide) (by decide) 2 rfl rfl (by omega) x
  · exact tile_own x0 x2 x4 256 256 128 (by decide) (by decide) (by decide) (by decide) 1 rfl rfl (by omega) x
  · exact tile_own x0 x2 x4 256 0 0 (by decide) (by decide) (by decide) (by decide) 0 rfl rfl (by omega) x
  · exact tile_own x0 x2 x4 0 768 384 (by decide) (by decide) (by decide) (by decide) 3 rfl rfl (by omega) x
  · exact tile_own x0 x2 x4 0 512 256 (by decide) (by decide) (by decide) (by decide) 2 rfl rfl (by omega) x
  · exact tile_own x0 x2 x4 0 256 128 (by decide) (by decide) (by decide) (by decide) 1 rfl rfl (by omega) x
  · exact tile_own x0 x2 x4 0 0 0 (by decide) (by decide) (by decide) (by decide) 0 rfl rfl (by omega) x

theorem coverA_10 (h) (y) : ∃ p ∈ (runA c t x0 x1 x2 x3 x4 x5 x6 x7 x8 h).2.1, y ∈ p.1.set :=
  View.cover_of_tiledL (runA c t x0 x1 x2 x3 x4 x5 x6 x7 x8 h).2.1 S32x2048.size (by sl_kernel_rfl) y

set_option maxHeartbeats 1000000 in
/-- Read back, the cast weight at a point of case A. -/
theorem canonA_10 (h) : View.canon (runA c t x0 x1 x2 x3 x4 x5 x6 x7 x8 h).2.1 = x5 := by
  funext y
  have hcov := coverA_10 c t x0 x1 x2 x3 x4 x5 x6 x7 x8 h y
  revert hcov
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  intro hcov
  refine View.canon_append_of_piecesOf (x5) [] _ ?_ y hcov
  refine ⟨fun x => ?_, fun x => ?_, fun x => ?_, fun x => ?_, trivial⟩
  · exact copy_tile x5 96 (by decide) (by decide) x
  · exact copy_tile x5 64 (by decide) (by decide) x
  · exact copy_tile x5 32 (by decide) (by decide) x
  · exact copy_tile x5 0 (by decide) (by decide) x

theorem coverA_11 (h) (y) : ∃ p ∈ (runA c t x0 x1 x2 x3 x4 x5 x6 x7 x8 h).2.2.1, y ∈ p.1.set :=
  View.cover_of_tiledL (runA c t x0 x1 x2 x3 x4 x5 x6 x7 x8 h).2.2.1 S4x512.size (by sl_kernel_rfl) y

set_option maxHeartbeats 4000000 in
/-- Read back, the modulation at a point of case A. -/
theorem canonA_11 (h) : View.canon (runA c t x0 x1 x2 x3 x4 x5 x6 x7 x8 h).2.2.1 = late x6 x7 x8 := by
  funext y
  have hcov := coverA_11 c t x0 x1 x2 x3 x4 x5 x6 x7 x8 h y
  revert hcov
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  intro hcov
  refine View.canon_append_of_piecesOf (late x6 x7 x8) [] _ ?_ y hcov
  exact ⟨fun x => late_tile x6 x7 x8 (by decide) (by decide) (by decide) (by decide) x, trivial⟩

theorem coverB_9 (h) (y) : ∃ p ∈ (runB c t x0 x1 x2 x3 x4 x5 x6 x7 x8 xs0 xs1 h).1, y ∈ p.1.set :=
  View.cover_of_tiledL (runB c t x0 x1 x2 x3 x4 x5 x6 x7 x8 xs0 xs1 h).1 S1x1x256x128.size (by sl_kernel_rfl) y

set_option maxHeartbeats 1000000 in
/-- Read back, the attention at a point of case B. -/
theorem canonB_9 (h) (hc : Carried x0 x2 xs0 xs1) : View.canon (runB c t x0 x1 x2 x3 x4 x5 x6 x7 x8 xs0 xs1 h).1 = attn x0 x2 x4 := by
  funext y
  have hcov := coverB_9 c t x0 x1 x2 x3 x4 x5 x6 x7 x8 xs0 xs1 h y
  revert hcov
  unfold runB kernelRun0_B
  dsimp only
  sl_unfold_words
  simp (disch := decide) only [↓ View.readCov_skip, ↓ View.readCov_cons_toLoadRect, ↓ View.readCov_fill]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  intro hcov
  refine View.canon_append_of_piecesOf (attn x0 x2 x4) [] _ ?_ y hcov
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact tile_own x0 x2 x4 768 768 384 (by decide) (by decide) (by decide) (by decide) 3 rfl rfl (by omega) x
  · exact tile_own x0 x2 x4 768 512 256 (by decide) (by decide) (by decide) (by decide) 2 rfl rfl (by omega) x
  · exact tile_own x0 x2 x4 768 256 128 (by decide) (by decide) (by decide) (by decide) 1 rfl rfl (by omega) x
  · exact tile_own x0 x2 x4 768 0 0 (by decide) (by decide) (by decide) (by decide) 0 rfl rfl (by omega) x
  · exact tile_own x0 x2 x4 512 768 384 (by decide) (by decide) (by decide) (by decide) 3 rfl rfl (by omega) x
  · exact tile_own x0 x2 x4 512 512 256 (by decide) (by decide) (by decide) (by decide) 2 rfl rfl (by omega) x
  · exact tile_own x0 x2 x4 512 256 128 (by decide) (by decide) (by decide) (by decide) 1 rfl rfl (by omega) x
  · exact tile_own x0 x2 x4 512 0 0 (by decide) (by decide) (by decide) (by decide) 0 rfl rfl (by omega) x
  · exact tile_own x0 x2 x4 256 768 384 (by decide) (by decide) (by decide) (by decide) 3 rfl rfl (by omega) x
  · exact tile_own x0 x2 x4 256 512 256 (by decide) (by decide) (by decide) (by decide) 2 rfl rfl (by omega) x
  · exact tile_own x0 x2 x4 256 256 128 (by decide) (by decide) (by decide) (by decide) 1 rfl rfl (by omega) x
  · exact tile_own x0 x2 x4 256 0 0 (by decide) (by decide) (by decide) (by decide) 0 rfl rfl (by omega) x
  · exact tile_carried x0 x2 x4 xs0 xs1 hc 384 3 (by decide) (by decide) (by decide) (by decide) (by omega) rfl x
  · exact tile_carried x0 x2 x4 xs0 xs1 hc 256 2 (by decide) (by decide) (by decide) (by decide) (by omega) rfl x
  · exact tile_carried x0 x2 x4 xs0 xs1 hc 128 1 (by decide) (by decide) (by decide) (by decide) (by omega) rfl x
  · exact tile_carried x0 x2 x4 xs0 xs1 hc 0 0 (by decide) (by decide) (by decide) (by decide) (by omega) rfl x

theorem coverB_10 (h) (y) : ∃ p ∈ (runB c t x0 x1 x2 x3 x4 x5 x6 x7 x8 xs0 xs1 h).2.1, y ∈ p.1.set :=
  View.cover_of_tiledL (runB c t x0 x1 x2 x3 x4 x5 x6 x7 x8 xs0 xs1 h).2.1 S32x2048.size (by sl_kernel_rfl) y

set_option maxHeartbeats 1000000 in
/-- Read back, the cast weight at a point of case B. -/
theorem canonB_10 (h) : View.canon (runB c t x0 x1 x2 x3 x4 x5 x6 x7 x8 xs0 xs1 h).2.1 = x5 := by
  funext y
  have hcov := coverB_10 c t x0 x1 x2 x3 x4 x5 x6 x7 x8 xs0 xs1 h y
  revert hcov
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  intro hcov
  refine View.canon_append_of_piecesOf (x5) [] _ ?_ y hcov
  refine ⟨fun x => ?_, fun x => ?_, fun x => ?_, fun x => ?_, trivial⟩
  · exact copy_tile x5 96 (by decide) (by decide) x
  · exact copy_tile x5 64 (by decide) (by decide) x
  · exact copy_tile x5 32 (by decide) (by decide) x
  · exact copy_tile x5 0 (by decide) (by decide) x

theorem coverB_11 (h) (y) : ∃ p ∈ (runB c t x0 x1 x2 x3 x4 x5 x6 x7 x8 xs0 xs1 h).2.2.1, y ∈ p.1.set :=
  View.cover_of_tiledL (runB c t x0 x1 x2 x3 x4 x5 x6 x7 x8 xs0 xs1 h).2.2.1 S4x512.size (by sl_kernel_rfl) y

set_option maxHeartbeats 4000000 in
/-- Read back, the modulation at a point of case B. -/
theorem canonB_11 (h) : View.canon (runB c t x0 x1 x2 x3 x4 x5 x6 x7 x8 xs0 xs1 h).2.2.1 = late x6 x7 x8 := by
  funext y
  have hcov := coverB_11 c t x0 x1 x2 x3 x4 x5 x6 x7 x8 xs0 xs1 h y
  revert hcov
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  intro hcov
  refine View.canon_append_of_piecesOf (late x6 x7 x8) [] _ ?_ y hcov
  exact ⟨fun x => late_tile x6 x7 x8 (by decide) (by decide) (by decide) (by decide) x, trivial⟩

end Cert.Kernel4Ideal.Mla
-- ==== Proof.Mla.Scratch.lean ====
module

public import proofs.«01_k».proof.Proof.Mla.Points

/-! What the stores of one grid point leave in the scratch it carries to the next. -/

@[expose] public section

set_option maxRecDepth 16384

noncomputable section

namespace Cert.Kernel4Ideal.Mla
open Cert.Kernel4Ideal Cert.Kernel4Ideal.Gen Cert.Attention Idealize.ShloMosaic Idealize.ShloMosaic.TcCoe Idealize.SL.Sem

variable (c : Dev nD) (t : Fin cfg0.N)
  (x0 : Vec Ideal S1x1x1024x1024 .bf16) (x1 : Vec Ideal S1x1x256x1024 .bf16) (x2 x3 : Vec Ideal S1x1x2048x1024 .bf16) (x4 : Vec Ideal S1x1x2048x512 .bf16)
  (x5 : Vec Ideal S128x2048 .f32) (x6 : Vec Ideal S4x2048 .f32) (x7 : Vec Ideal S2048x512 .f32) (x8 : Vec Ideal S1x512 .f32)
  (xs0 : Vec Ideal S2x4x256x2048 .f32) (xs1 : Vec Ideal S2x4x256x1 .f32)

/-- A value at an index, from an equal function's. -/
theorem at_of_eq {α β : Type _} {p p' : α → β} {x : α} {b : β} (h : p' x = b) (hp : p = p') : p x = b := hp ▸ h

theorem coverA_S0 (h) (y) : ∃ p ∈ (runA c t x0 x1 x2 x3 x4 x5 x6 x7 x8 h).2.2.2.1, y ∈ p.1.set :=
  View.cover_of_tiledL (runA c t x0 x1 x2 x3 x4 x5 x6 x7 x8 h).2.2.2.1 S1x1x256x2048.size (by sl_kernel_rfl) y

set_option maxHeartbeats 1000000 in
/-- Read back, the scratch of scores at a point of case A. -/
theorem canonA_S0 (h) : View.canon (runA c t x0 x1 x2 x3 x4 x5 x6 x7 x8 h).2.2.2.1 = scr x0 x1 x2 x3 := by
  funext y
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  refine View.canon_append_of_piecesOf (scr x0 x1 x2 x3) [_, _, _, _, _, _, _, _, _, _, _, _] [_, _, _, _, _, _, _, _] ?_ y ?_
  rotate_left
  · exact View.cover_of_tiledL (s := S2x4x256x2048) _ S1x1x256x2048.size (by sl_kernel_rfl) y
  refine ⟨fun x => ?_, fun x => ?_, fun x => ?_, fun x => ?_, fun x => ?_, fun x => ?_, fun x => ?_, fun x => ?_, trivial⟩
  · exact at_of_eq (scr_next x0 x1 x2 x3 768 3 (by decide) (by decide) (by decide) (by omega) rfl x) rfl
  · exact at_of_eq (scr_next x0 x1 x2 x3 512 2 (by decide) (by decide) (by decide) (by omega) rfl x) rfl
  · exact at_of_eq (scr_next x0 x1 x2 x3 256 1 (by decide) (by decide) (by decide) (by omega) rfl x) rfl
  · exact at_of_eq (scr_next x0 x1 x2 x3 0 0 (by decide) (by decide) (by decide) (by omega) rfl x) rfl
  · exact at_of_eq (scr_own x0 x1 x2 x3 768 3 (by decide) (by decide) (by decide) (by omega) rfl x) rfl
  · exact at_of_eq (scr_own x0 x1 x2 x3 512 2 (by decide) (by decide) (by decide) (by omega) rfl x) rfl
  · exact at_of_eq (scr_own x0 x1 x2 x3 256 1 (by decide) (by decide) (by decide) (by omega) rfl x) rfl
  · exact at_of_eq (scr_own x0 x1 x2 x3 0 0 (by decide) (by decide) (by decide) (by omega) rfl x) rfl

theorem coverA_S1 (h) (y) : ∃ p ∈ (runA c t x0 x1 x2 x3 x4 x5 x6 x7 x8 h).2.2.2.2.1, y ∈ p.1.set :=
  View.cover_of_tiledL (runA c t x0 x1 x2 x3 x4 x5 x6 x7 x8 h).2.2.2.2.1 S1x1x256x1.size (by sl_kernel_rfl) y

set_option maxHeartbeats 1000000 in
/-- Read back, the scratch of row maxima at a point of case A. -/
theorem canonA_S1 (h) : View.canon (runA c t x0 x1 x2 x3 x4 x5 x6 x7 x8 h).2.2.2.2.1 = scrMax x0 x1 x2 x3 := by
  funext y
  unfold runA kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  refine View.canon_append_of_piecesOf (scrMax x0 x1 x2 x3) [_, _, _, _, _, _, _, _, _, _, _, _] [_, _, _, _, _, _, _, _] ?_ y ?_
  rotate_left
  · exact View.cover_of_tiledL (s := S2x4x256x1) _ S1x1x256x1.size (by sl_kernel_rfl) y
  refine ⟨fun x => ?_, fun x => ?_, fun x => ?_, fun x => ?_, fun x => ?_, fun x => ?_, fun x => ?_, fun x => ?_, trivial⟩
  · exact at_of_eq (scrMax_next x0 x1 x2 x3 768 3 (by decide) (by decide) (by decide) (by omega) rfl x) (by unfold_payloads; dsimp only)
  · exact at_of_eq (scrMax_next x0 x1 x2 x3 512 2 (by decide) (by decide) (by decide) (by omega) rfl x) (by unfold_payloads; dsimp only)
  · exact at_of_eq (scrMax_next x0 x1 x2 x3 256 1 (by decide) (by decide) (by decide) (by omega) rfl x) (by unfold_payloads; dsimp only)
  · exact at_of_eq (scrMax_next x0 x1 x2 x3 0 0 (by decide) (by decide) (by decide) (by omega) rfl x) (by unfold_payloads; dsimp only)
  · exact at_of_eq (scrMax_own x0 x1 x2 x3 768 3 (by decide) (by decide) (by decide) (by omega) rfl x) (by unfold_payloads; dsimp only)
  · exact at_of_eq (scrMax_own x0 x1 x2 x3 512 2 (by decide) (by decide) (by decide) (by omega) rfl x) (by unfold_payloads; dsimp only)
  · exact at_of_eq (scrMax_own x0 x1 x2 x3 256 1 (by decide) (by decide) (by decide) (by omega) rfl x) (by unfold_payloads; dsimp only)
  · exact at_of_eq (scrMax_own x0 x1 x2 x3 0 0 (by decide) (by decide) (by decide) (by omega) rfl x) (by unfold_payloads; dsimp only)

theorem coverB_S0 (h) (y) : ∃ p ∈ (runB c t x0 x1 x2 x3 x4 x5 x6 x7 x8 xs0 xs1 h).2.2.2.1, y ∈ p.1.set :=
  View.cover_of_tiledL (runB c t x0 x1 x2 x3 x4 x5 x6 x7 x8 xs0 xs1 h).2.2.2.1 S1x1x256x2048.size (by sl_kernel_rfl) y

set_option maxHeartbeats 1000000 in
/-- Read back, the scratch of scores at a point of case B. -/
theorem canonB_S0 (h) : View.canon (runB c t x0 x1 x2 x3 x4 x5 x6 x7 x8 xs0 xs1 h).2.2.2.1 = scr x0 x1 x2 x3 := by
  funext y
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  refine View.canon_append_of_piecesOf (scr x0 x1 x2 x3) [_, _, _, _, _, _, _, _] [_, _, _, _, _, _, _, _] ?_ y ?_
  rotate_left
  · exact View.cover_of_tiledL (s := S2x4x256x2048) _ S1x1x256x2048.size (by sl_kernel_rfl) y
  refine ⟨fun x => ?_, fun x => ?_, fun x => ?_, fun x => ?_, fun x => ?_, fun x => ?_, fun x => ?_, fun x => ?_, trivial⟩
  · exact at_of_eq (scr_next x0 x1 x2 x3 768 3 (by decide) (by decide) (by decide) (by omega) rfl x) rfl
  · exact at_of_eq (scr_next x0 x1 x2 x3 512 2 (by decide) (by decide) (by decide) (by omega) rfl x) rfl
  · exact at_of_eq (scr_next x0 x1 x2 x3 256 1 (by decide) (by decide) (by decide) (by omega) rfl x) rfl
  · exact at_of_eq (scr_next x0 x1 x2 x3 0 0 (by decide) (by decide) (by decide) (by omega) rfl x) rfl
  · exact at_of_eq (scr_own x0 x1 x2 x3 768 3 (by decide) (by decide) (by decide) (by omega) rfl x) rfl
  · exact at_of_eq (scr_own x0 x1 x2 x3 512 2 (by decide) (by decide) (by decide) (by omega) rfl x) rfl
  · exact at_of_eq (scr_own x0 x1 x2 x3 256 1 (by decide) (by decide) (by decide) (by omega) rfl x) rfl
  · exact at_of_eq (scr_own x0 x1 x2 x3 0 0 (by decide) (by decide) (by decide) (by omega) rfl x) rfl

theorem coverB_S1 (h) (y) : ∃ p ∈ (runB c t x0 x1 x2 x3 x4 x5 x6 x7 x8 xs0 xs1 h).2.2.2.2.1, y ∈ p.1.set :=
  View.cover_of_tiledL (runB c t x0 x1 x2 x3 x4 x5 x6 x7 x8 xs0 xs1 h).2.2.2.2.1 S1x1x256x1.size (by sl_kernel_rfl) y

set_option maxHeartbeats 1000000 in
/-- Read back, the scratch of row maxima at a point of case B. -/
theorem canonB_S1 (h) : View.canon (runB c t x0 x1 x2 x3 x4 x5 x6 x7 x8 xs0 xs1 h).2.2.2.2.1 = scrMax x0 x1 x2 x3 := by
  funext y
  unfold runB kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, read_unread_whole]
  refine View.canon_append_of_piecesOf (scrMax x0 x1 x2 x3) [_, _, _, _, _, _, _, _] [_, _, _, _, _, _, _, _] ?_ y ?_
  rotate_left
  · exact View.cover_of_tiledL (s := S2x4x256x1) _ S1x1x256x1.size (by sl_kernel_rfl) y
  refine ⟨fun x => ?_, fun x => ?_, fun x => ?_, fun x => ?_, fun x => ?_, fun x => ?_, fun x => ?_, fun x => ?_, trivial⟩
  · exact at_of_eq (scrMax_next x0 x1 x2 x3 768 3 (by decide) (by decide) (by decide) (by omega) rfl x) (by unfold_payloads; dsimp only)
  · exact at_of_eq (scrMax_next x0 x1 x2 x3 512 2 (by decide) (by decide) (by decide) (by omega) rfl x) (by unfold_payloads; dsimp only)
  · exact at_of_eq (scrMax_next x0 x1 x2 x3 256 1 (by decide) (by decide) (by decide) (by omega) rfl x) (by unfold_payloads; dsimp only)
  · exact at_of_eq (scrMax_next x0 x1 x2 x3 0 0 (by decide) (by decide) (by decide) (by omega) rfl x) (by unfold_payloads; dsimp only)
  · exact at_of_eq (scrMax_own x0 x1 x2 x3 768 3 (by decide) (by decide) (by decide) (by omega) rfl x) (by unfold_payloads; dsimp only)
  · exact at_of_eq (scrMax_own x0 x1 x2 x3 512 2 (by decide) (by decide) (by decide) (by omega) rfl x) (by unfold_payloads; dsimp only)
  · exact at_of_eq (scrMax_own x0 x1 x2 x3 256 1 (by decide) (by decide) (by decide) (by omega) rfl x) (by unfold_payloads; dsimp only)
  · exact at_of_eq (scrMax_own x0 x1 x2 x3 0 0 (by decide) (by decide) (by decide) (by omega) rfl x) (by unfold_payloads; dsimp only)

end Cert.Kernel4Ideal.Mla
-- ==== Proof.Mla.Blocks.lean ====
module

public import proofs.«01_k».proof.Proof.Mla.Scratch
public import Idealize.ShloMosaic.Lib.Pipeline.ValueKit

/-! Which elements of the arrays a grid point's blocks hold: point `t` is batch `t / 4`, head group `t / 2 % 2`, half `t % 2` of the queries. -/

@[expose] public section

set_option maxRecDepth 16384

noncomputable section

namespace Cert.Kernel4Ideal.Mla
open Cert.Kernel4Ideal Cert.Kernel4Ideal.Gen Cert.Attention Idealize.ShloMosaic Idealize.ShloMosaic.TcCoe Idealize.SL.Sem

variable (m : (ℓ : Loc nD τ sig) → Buf (Elt Ideal) ℓ) (c : Dev nD)

theorem idx0 : ∀ t : Fin grid0.N, (cfg0.win 0).index t = ![t.val / 4, t.val / 2 % 2, t.val % 2, 0] := by decide +kernel
theorem idx1 : ∀ t : Fin grid0.N, t.val < 15 → (cfg0.win 1).index t = ![(t.val + 1) / 4, (t.val + 1) / 2 % 2, (t.val + 1) % 2 * 4, 0] := by decide +kernel
theorem idx2 : ∀ t : Fin grid0.N, (cfg0.win 2).index t = ![t.val / 4, t.val / 2 % 2, 0, 0] := by decide +kernel
theorem idx3 : ∀ t : Fin grid0.N, t.val < 15 → (cfg0.win 3).index t = ![(t.val + 1) / 4, (t.val + 1) / 2 % 2, 0, 0] := by decide +kernel
theorem idx4 : ∀ t : Fin grid0.N, (cfg0.win 4).index t = ![t.val / 4, t.val / 2 % 2, 0, 0] := by decide +kernel
theorem idx5 : ∀ t : Fin grid0.N, (cfg0.win 5).index t = ![t.val, 0] := by decide +kernel
theorem idx6 : ∀ t : Fin grid0.N, (cfg0.win 6).index t = ![0, 0] := by decide +kernel
theorem idx7 : ∀ t : Fin grid0.N, (cfg0.win 7).index t = ![0, 8 + t.val] := by decide +kernel
theorem idx8 : ∀ t : Fin grid0.N, (cfg0.win 8).index t = ![0, 8 + t.val] := by decide +kernel
theorem idx9 : ∀ t : Fin grid0.N, (cfg0.win 9).index t = ![t.val / 4, t.val / 2 % 2, t.val % 2, 0] := by decide +kernel
theorem idx10 : ∀ t : Fin grid0.N, (cfg0.win 10).index t = ![t.val, 0] := by decide +kernel
theorem idx11 : ∀ t : Fin grid0.N, (cfg0.win 11).index t = ![0, t.val] := by decide +kernel

theorem lt16 (t : Fin cfg0.N) : t.val < 16 := lt_of_lt_of_eq t.isLt (show cfg0.N = 16 from N_0)

/-- A point's queries. -/
theorem blk0 (t : Fin cfg0.N) (r : Fin 1024) (d : Fin 1024) : iblk m c 0 t (ix4 0 0 r d)
    = m ((c : Thread nD τ).loc main_arg0) (ix4 ⟨t.val / 4, by have := lt16 t; omega⟩ ⟨t.val / 2 % 2, by omega⟩ ⟨t.val % 2 * 1024 + r.val, by omega⟩ d) := by
  blk_ext [iblk, V, idx0 t]

/-- The next point's first 256 queries. -/
theorem blk1 (t : Fin cfg0.N) (ht : t.val < 15) (r : Fin 256) (d : Fin 1024) : iblk m c 1 t (ix4 0 0 r d)
    = m ((c : Thread nD τ).loc main_arg0) (ix4 ⟨(t.val + 1) / 4, by omega⟩ ⟨(t.val + 1) / 2 % 2, by omega⟩ ⟨(t.val + 1) % 2 * 1024 + r.val, by omega⟩ d) := by
  blk_ext [iblk, V, idx1 t ht]

/-- A point's keys. -/
theorem blk2 (t : Fin cfg0.N) (j : Fin 2048) (d : Fin 1024) : iblk m c 2 t (ix4 0 0 j d)
    = m ((c : Thread nD τ).loc main_arg1) (ix4 ⟨t.val / 4, by have := lt16 t; omega⟩ ⟨t.val / 2 % 2, by omega⟩ j d) := by
  blk_ext [iblk, V, idx2 t]

/-- The next point's keys. -/
theorem blk3 (t : Fin cfg0.N) (ht : t.val < 15) (j : Fin 2048) (d : Fin 1024) : iblk m c 3 t (ix4 0 0 j d)
    = m ((c : Thread nD τ).loc main_arg1) (ix4 ⟨(t.val + 1) / 4, by omega⟩ ⟨(t.val + 1) / 2 % 2, by omega⟩ j d) := by
  blk_ext [iblk, V, idx3 t ht]

/-- A point's values. -/
theorem blk4 (t : Fin cfg0.N) (j : Fin 2048) (d : Fin 512) : iblk m c 4 t (ix4 0 0 j d)
    = m ((c : Thread nD τ).loc main_arg2) (ix4 ⟨t.val / 4, by have := lt16 t; omega⟩ ⟨t.val / 2 % 2, by omega⟩ j d) := by
  blk_ext [iblk, V, idx4 t]

/-- The condition, whole at every point. -/
theorem blk6 (t : Fin cfg0.N) (r : Fin 4) (d : Fin 2048) : iblk m c 6 t (ix2 r d) = m ((c : Thread nD τ).loc main_arg4) (ix2 r d) := by
  blk_ext [iblk, V, idx6 t]

/-- A point's columns of the modulation's weight. -/
theorem blk7 (t : Fin cfg0.N) (d : Fin 2048) (j : Fin 512) : iblk m c 7 t (ix2 d j)
    = m ((c : Thread nD τ).loc main_arg5) (ix2 d ⟨(8 + t.val) * 512 + j.val, by have := lt16 t; omega⟩) := by
  blk_ext [iblk, V, idx7 t]

/-- A point's columns of the modulation's bias. -/
theorem blk8 (t : Fin cfg0.N) (j : Fin 512) : iblk m c 8 t (ix2 0 j)
    = m ((c : Thread nD τ).loc main_arg6) (ix2 0 ⟨(8 + t.val) * 512 + j.val, by have := lt16 t; omega⟩) := by
  blk_ext [iblk, V, idx8 t]

/-- What a point leaves in the scratch is what the next one finds there as its first block's scores. -/
theorem carried (n : ℕ) (hn : n + 1 < cfg0.N) :
    Carried (iblk m c 0 ⟨n + 1, hn⟩) (iblk m c 2 ⟨n + 1, hn⟩)
      (scr (iblk m c 0 ⟨n, by omega⟩) (iblk m c 1 ⟨n, by omega⟩) (iblk m c 2 ⟨n, by omega⟩) (iblk m c 3 ⟨n, by omega⟩))
      (scrMax (iblk m c 0 ⟨n, by omega⟩) (iblk m c 1 ⟨n, by omega⟩) (iblk m c 2 ⟨n, by omega⟩) (iblk m c 3 ⟨n, by omega⟩)) := by
  have hN : n + 1 < 16 := lt16 ⟨n + 1, hn⟩
  have hs : ∀ (h : Fin 4) (r : Fin 256) (j : Fin 2048),
      headScore (iblk m c 1 ⟨n, by omega⟩) (iblk m c 3 ⟨n, by omega⟩) r h j
        = headScore (iblk m c 0 ⟨n + 1, hn⟩) (iblk m c 2 ⟨n + 1, hn⟩) ⟨r.val, by omega⟩ h j := by
    intro h r j
    refine Finset.sum_congr rfl fun d _ => ?_
    exact congrArg₂ (· * ·)
      ((blk1 m c ⟨n, by omega⟩ (by show n < 15; omega) _ _).trans (blk0 m c ⟨n + 1, hn⟩ ⟨r.val, by omega⟩ ⟨h.val * 256 + d.val, by omega⟩).symm)
      ((blk3 m c ⟨n, by omega⟩ (by show n < 15; omega) _ _).trans (blk2 m c ⟨n + 1, hn⟩ j ⟨h.val * 256 + d.val, by omega⟩).symm)
  refine ⟨fun h r j => ?_, fun h r => ?_⟩
  · exact (if_pos rfl).trans (hs h r j)
  · exact congrArg rowMax (funext fun j => (if_pos rfl).trans (hs h r j))

end Cert.Kernel4Ideal.Mla
-- ==== Proof.Mla.Frame.lean ====
module

public import proofs.«01_k».proof.Proof.Mla.Blocks

/-! The run of the latent attention over its grid: every point's output blocks and the scratch it hands on are
    closed forms of the blocks it reads, so the invariant between points needs no recursion. -/

@[expose] public section

set_option maxRecDepth 16384

noncomputable section

namespace Cert.Kernel4Ideal.Mla
open Cert.Kernel4Ideal Cert.Kernel4Ideal.Gen Cert.Attention
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The scratch of scores after point `n`. -/
abbrev scrAt (c : Dev nD) (n : ℕ) (hn : n < cfg0.N) : Vec Ideal S2x4x256x2048 .f32 :=
  scr (iblk m c 0 ⟨n, hn⟩) (iblk m c 1 ⟨n, hn⟩) (iblk m c 2 ⟨n, hn⟩) (iblk m c 3 ⟨n, hn⟩)

/-- The scratch of row maxima after point `n`. -/
abbrev maxAt (c : Dev nD) (n : ℕ) (hn : n < cfg0.N) : Vec Ideal S2x4x256x1 .f32 :=
  scrMax (iblk m c 0 ⟨n, hn⟩) (iblk m c 1 ⟨n, hn⟩) (iblk m c 2 ⟨n, hn⟩) (iblk m c 3 ⟨n, hn⟩)

/-- The invariant before position `n`: the scratch at anything before the first point, afterwards at the closed forms. -/
def PhiS (c : Dev nD) : (n : ℕ) → n ≤ cfg0.N → sProp 𝕄
  | 0, _ => Pipeline.ΦA spec0 c
  | n + 1, hn => iprop(iprop(owns (c : Thread nD τ) scM0_0 fullShare (scrAt m c n hn) ∗ owns (c : Thread nD τ) scM0_1 fullShare (maxAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (scrAt m c n hn) ∗ owns (c : Thread nD τ) scM0_1 fullShare (maxAt m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (scrAt m c (n - 1) (by omega)) ∗ owns (c : Thread nD τ) scM0_1 fullShare (maxAt m c (n - 1) (by omega))) ∗ (∃ r, prngReg c r)) := by
  cases n with
  | zero => exact absurd rfl hz
  | succ n => rfl

/-- The pipeline's proof data: an input's buffer at its block, an output's at its closed form. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => attn (iblk m c 0 t) (iblk m c 2 t) (iblk m c 4 t)
    | ⟨10, _⟩ => iblk m c 5 t
    | ⟨11, _⟩ => late (iblk m c 6 t) (iblk m c 7 t) (iblk m c 8 t)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = attn (iblk m c 0 t) (iblk m c 2 t) (iblk m c 4 t) := by dsimp only [dats]
theorem after0_10 (c : Dev nD) (t : Fin cfg0.N) : (dats m 0 c).after 10 t = (iblk m c 5 t : Vec Ideal S128x2048 .f32) := by dsimp only [dats]
theorem after0_11 (c : Dev nD) (t : Fin cfg0.N) : (dats m 0 c).after 11 t = late (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: at the first the run of case A; at a later one case B's, the scratch holding what the point before left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 16 := lt16 t
  by_cases hz : t.val = 0
  · have hA : cond0_0 (grid0.coords t) := (hcond0_0 t).mpr (by omega)
    rw [PhiS_castSucc m c t, PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c t (iblk m c 0 t) (iblk m c 1 t) (iblk m c 2 t) (iblk m c 3 t) (iblk m c 4 t) (iblk m c 5 t) (iblk m c 6 t) (iblk m c 7 t) (iblk m c 8 t) hA).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverA_S0 c t (iblk m c 0 t) (iblk m c 1 t) (iblk m c 2 t) (iblk m c 3 t) (iblk m c 4 t) (iblk m c 5 t) (iblk m c 6 t) (iblk m c 7 t) (iblk m c 8 t) hA)).trans (canonA_S0 c t (iblk m c 0 t) (iblk m c 1 t) (iblk m c 2 t) (iblk m c 3 t) (iblk m c 4 t) (iblk m c 5 t) (iblk m c 6 t) (iblk m c 7 t) (iblk m c 8 t) hA)
        unfold owns; iexists _; isplitr
        swap; · iexact HS1
        ipureintro; exact (View.read_writes_eq_canon _ _ _ (coverA_S1 c t (iblk m c 0 t) (iblk m c 1 t) (iblk m c 2 t) (iblk m c 3 t) (iblk m c 4 t) (iblk m c 5 t) (iblk m c 6 t) (iblk m c 7 t) (iblk m c 8 t) hA)).trans (canonA_S1 c t (iblk m c 0 t) (iblk m c 1 t) (iblk m c 2 t) (iblk m c 3 t) (iblk m c 4 t) (iblk m c 5 t) (iblk m c 6 t) (iblk m c 7 t) (iblk m c 8 t) hA)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_eq_canon _ _ _ (coverA_9 c t (iblk m c 0 t) (iblk m c 1 t) (iblk m c 2 t) (iblk m c 3 t) (iblk m c 4 t) (iblk m c 5 t) (iblk m c 6 t) (iblk m c 7 t) (iblk m c 8 t) hA)).trans (canonA_9 c t (iblk m c 0 t) (iblk m c 1 t) (iblk m c 2 t) (iblk m c 3 t) (iblk m c 4 t) (iblk m c 5 t) (iblk m c 6 t) (iblk m c 7 t) (iblk m c 8 t) hA)
    isplitl [H10]
    · unfold owns; iexists _; isplitr
      swap; · iexact H10
      ipureintro; exact (View.read_writes_eq_canon _ _ _ (coverA_10 c t (iblk m c 0 t) (iblk m c 1 t) (iblk m c 2 t) (iblk m c 3 t) (iblk m c 4 t) (iblk m c 5 t) (iblk m c 6 t) (iblk m c 7 t) (iblk m c 8 t) hA)).trans (canonA_10 c t (iblk m c 0 t) (iblk m c 1 t) (iblk m c 2 t) (iblk m c 3 t) (iblk m c 4 t) (iblk m c 5 t) (iblk m c 6 t) (iblk m c 7 t) (iblk m c 8 t) hA)
    unfold owns; iexists _; isplitr
    swap; · iexact H11
    ipureintro; exact (View.read_writes_eq_canon _ _ _ (coverA_11 c t (iblk m c 0 t) (iblk m c 1 t) (iblk m c 2 t) (iblk m c 3 t) (iblk m c 4 t) (iblk m c 5 t) (iblk m c 6 t) (iblk m c 7 t) (iblk m c 8 t) hA)).trans (canonA_11 c t (iblk m c 0 t) (iblk m c 1 t) (iblk m c 2 t) (iblk m c 3 t) (iblk m c 4 t) (iblk m c 5 t) (iblk m c 6 t) (iblk m c 7 t) (iblk m c 8 t) hA)
  · have hB : ¬ cond0_0 (grid0.coords t) := fun h => hz (by have := (hcond0_0 t).mp h; omega)
    have hC : Carried (iblk m c 0 t) (iblk m c 2 t) (scrAt m c (t.val - 1) (by omega)) (maxAt m c (t.val - 1) (by omega)) := by
      obtain ⟨n, hn⟩ := t
      cases n with
      | zero => exact absurd rfl hz
      | succ n => exact carried m c n hn
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [HS0]; · iexact HS0
    isplitl [HS1]; · iexact HS1
    iintro ⟨H0, H1, H2, H3, H4, H5, H6, H7, H8, ⟨%e9, H9⟩, ⟨%e10, H10⟩, ⟨%e11, H11⟩, ⟨%es0, HS0⟩, ⟨%es1, HS1⟩⟩
    isplitl [HS0 HS1 Hg]
    · isplitl [HS0 HS1]
      · isplitl [HS0]
        · unfold owns; iexists _; isplitr
          swap; · iexact HS0
          ipureintro; exact (View.read_writes_eq_canon _ _ _ (coverB_S0 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)).trans (canonB_S0 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)
        unfold owns; iexists _; isplitr
        swap; · iexact HS1
        ipureintro; exact (View.read_writes_eq_canon _ _ _ (coverB_S1 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)).trans (canonB_S1 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact (View.read_writes_eq_canon _ _ _ (coverB_9 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)).trans (canonB_9 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB hC)
    isplitl [H10]
    · unfold owns; iexists _; isplitr
      swap; · iexact H10
      ipureintro; exact (View.read_writes_eq_canon _ _ _ (coverB_10 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)).trans (canonB_10 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)
    unfold owns; iexists _; isplitr
    swap; · iexact H11
    ipureintro; exact (View.read_writes_eq_canon _ _ _ (coverB_11 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)).trans (canonB_11 c t (iblk m c 0 t) (iblk m c 1 t) (iblk m c 2 t) (iblk m c 3 t) (iblk m c 4 t) (iblk m c 5 t) (iblk m c 6 t) (iblk m c 7 t) (iblk m c 8 t) (scrAt m c (t.val - 1) (by omega)) (maxAt m c (t.val - 1) (by omega)) hB)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- The launch: every array of the pipeline ends at what the proof data computes, every semaphore counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The same without the counters. -/
theorem run_main : θ_run defs (onTc (τ := τ) (main (F := Ideal))) (s₀ m ρ) (Pipeline.FramePost cfgs (dats m) 0 (V m)) :=
  (θ_run defs _ _).mono (fun _ h => h.1) (run_main_quiescent m ρ)
/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the argument arrays end unchanged and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel4Ideal.Mla
-- ==== Proof.Mla.Value.lean ====
module

public import proofs.«01_k».proof.Proof.Mla.Frame
public import Idealize.ShloMosaic.Lib.Claim

/-! The three result arrays of the latent attention's call after its run. -/

@[expose] public section

set_option maxRecDepth 16384

noncomputable section

namespace Cert.Kernel4Ideal.Mla
open Cert.Kernel4Ideal Cert.Kernel4Ideal.Gen Cert.Attention Idealize.ShloMosaic Idealize.ShloMosaic.TcCoe Idealize.SL.Sem

/-- The attention of whole arrays: for a query row and a head of four, its scores over all keys of the same head, then the row of attention. -/
def attention (Q K : S4x2x2048x1024.Idx → EReal) (W : S4x2x2048x512.Idx → EReal) : S4x2x2048x512.Idx → EReal := fun i =>
  row (fun j => ∑ d : Fin 256, Q (ix4 (i 0) (i 1) (i 2) ⟨(i 3).val / 128 * 256 + d.val, by
      have h3 : (i 3).val < 512 := (i 3).isLt
      omega⟩) * K (ix4 (i 0) (i 1) j ⟨(i 3).val / 128 * 256 + d.val, by
      have h3 : (i 3).val < 512 := (i 3).isLt
      omega⟩))
    (fun j => W (ix4 (i 0) (i 1) j (i 3)))

/-- The late modulation vectors: the condition through its gate, times the weight's columns from 4096 on, plus the bias. -/
def lateArr (a : S4x2048.Idx → EReal) (w : S2048x12288.Idx → EReal) (b : S1x12288.Idx → EReal) : S4x8192.Idx → EReal := fun i =>
  (∑ d : Fin 2048, gated (a (ix2 (i 0) d)) * w (ix2 d ⟨4096 + (i 1).val, by
      have h1 : (i 1).val < 8192 := (i 1).isLt
      omega⟩)) + b (ix2 0 ⟨4096 + (i 1).val, by
      have h1 : (i 1).val < 8192 := (i 1).isLt
      omega⟩)

variable (m : (ℓ : Loc nD τ sig) → Buf (Elt Ideal) ℓ) (c : Dev nD)

set_option maxHeartbeats 1000000 in
/-- The attention's array after the run. -/
theorem arr9 : (dats m 0 c).arrAt 9 (cfgs 0).N
    = attention (m ((c : Thread nD τ).loc main_arg0)) (m ((c : Thread nD τ).loc main_arg1)) (m ((c : Thread nD τ).loc main_arg2)) := by
  refine (dats m 0 c).arrAt_eq_of_covers 9 _ (by decide +kernel) fun t hf y => ?_
  have hN := lt16 t
  have e0 : (((((cfg0.win 9).blk t).view.emb y) 0 : Fin 4) : ℕ) = t.val / 4 := by blk_simp [idx9 t]
  have e1 : (((((cfg0.win 9).blk t).view.emb y) 1 : Fin 2) : ℕ) = t.val / 2 % 2 := by blk_simp [idx9 t]
  have e2 : (((((cfg0.win 9).blk t).view.emb y) 2 : Fin 2048) : ℕ) = t.val % 2 * 1024 + (y 2).val := by blk_simp [idx9 t]
  have e3 : (((((cfg0.win 9).blk t).view.emb y) 3 : Fin 512) : ℕ) = (y 3).val := by blk_simp [idx9 t]
  show (cfg0.win 9).cut (grid0.coords t) ((dats m 0 c).after 9 t) y = _
  rw [after0_9]
  show attn (iblk m c 0 t) (iblk m c 2 t) (iblk m c 4 t) y = attention _ _ _ (((cfg0.win 9).blk t).view.emb y)
  generalize (((cfg0.win 9).blk t).view.emb y : S4x2x2048x512.Idx) = i at e0 e1 e2 e3 ⊢
  have h2 : (y 2).val < 1024 := (y 2).isLt
  have h3 : (y 3).val < 512 := (y 3).isLt
  have i0 : i 0 = (⟨t.val / 4, by omega⟩ : Fin 4) := Fin.ext e0
  have i1 : i 1 = (⟨t.val / 2 % 2, by omega⟩ : Fin 2) := Fin.ext e1
  have i3 : i 3 = y 3 := Fin.ext e3
  have i2 : i 2 = (⟨t.val % 2 * 1024 + (y 2).val, by omega⟩ : Fin 2048) := Fin.ext e2
  unfold attn attention headScore
  simp only [i0, i1, i2, i3]
  refine congrArg₂ row (funext fun j => Finset.sum_congr rfl fun d _ => congrArg₂ (· * ·) ?_ ?_) (funext fun j => ?_)
  · exact blk0 m c t (y 2) _
  · exact blk2 m c t j _
  · exact blk4 m c t j (y 3)

/-- The first cast weight's array after the run. -/
theorem arr10 : (dats m 0 c).arrAt 10 (cfgs 0).N = (m ((c : Thread nD τ).loc main_arg3) : S2048x2048.Idx → EReal) := by
  refine (dats m 0 c).arrAt_eq_of_covers 10 _ (by decide +kernel) fun t hf y => ?_
  have hN := lt16 t
  show (cfg0.win 10).cut (grid0.coords t) ((dats m 0 c).after 10 t) y = _
  rw [after0_10]
  show iblk m c 5 t y = (m ((c : Thread nD τ).loc main_arg3) : S2048x2048.Idx → EReal) (((cfg0.win 10).blk t).view.emb y)
  blk_ext [iblk, V, idx5 t, idx10 t]

/-- The late modulation's array after the run. -/
theorem arr11 : (dats m 0 c).arrAt 11 (cfgs 0).N
    = lateArr (m ((c : Thread nD τ).loc main_arg4)) (m ((c : Thread nD τ).loc main_arg5)) (m ((c : Thread nD τ).loc main_arg6)) := by
  refine (dats m 0 c).arrAt_eq_of_covers 11 _ (by decide +kernel) fun t hf y => ?_
  have hN := lt16 t
  have e0 : (((((cfg0.win 11).blk t).view.emb y) 0 : Fin 4) : ℕ) = (y 0).val := by blk_simp [idx11 t]
  have e1 : (((((cfg0.win 11).blk t).view.emb y) 1 : Fin 8192) : ℕ) = t.val * 512 + (y 1).val := by blk_simp [idx11 t]
  show (cfg0.win 11).cut (grid0.coords t) ((dats m 0 c).after 11 t) y = _
  rw [after0_11]
  show late (iblk m c 6 t) (iblk m c 7 t) (iblk m c 8 t) y = lateArr _ _ _ (((cfg0.win 11).blk t).view.emb y)
  generalize (((cfg0.win 11).blk t).view.emb y : S4x8192.Idx) = i at e0 e1 ⊢
  have h1 : (y 1).val < 512 := (y 1).isLt
  have i0 : i 0 = y 0 := Fin.ext e0
  have i1 : i 1 = (⟨t.val * 512 + (y 1).val, by omega⟩ : Fin 8192) := Fin.ext e1
  unfold late lateArr
  simp only [i0, i1]
  refine congrArg₂ (· + ·) (Finset.sum_congr rfl fun d _ => congrArg₂ (· * ·) ?_ ?_) ?_
  · exact congrArg gated (blk6 m c t (y 0) d)
  · exact (blk7 m c t d (y 1)).trans (congrArg _ (congrArg (ix2 d) (Fin.ext (by show (8 + t.val) * 512 + (y 1).val = 4096 + (t.val * 512 + (y 1).val); omega))))
  · exact (blk8 m c t (y 1)).trans (congrArg _ (congrArg (ix2 0) (Fin.ext (by show (8 + t.val) * 512 + (y 1).val = 4096 + (t.val * 512 + (y 1).val); omega))))

/-- The call's run: its three results as functions of its arguments, which it leaves as they were. -/
theorem value (g : Dev nD → PrngReg) : θ_run defs (onTc (τ := τ) (main (F := Ideal))) ⟨m, fun _ => 0, g⟩ (fun r => ∀ c : Dev nD,
      r.2.mem ((c : Thread nD τ).loc main_v0_0) = attention (m ((c : Thread nD τ).loc main_arg0)) (m ((c : Thread nD τ).loc main_arg1)) (m ((c : Thread nD τ).loc main_arg2))
      ∧ r.2.mem ((c : Thread nD τ).loc main_v0_1) = (m ((c : Thread nD τ).loc main_arg3) : S2048x2048.Idx → EReal)
      ∧ r.2.mem ((c : Thread nD τ).loc main_v0_2) = lateArr (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  run_from run_main m g
  · exact arr9 m c
  · exact arr10 m c
  · exact arr11 m c

end Cert.Kernel4Ideal.Mla
-- ==== Proof.Mla.Claim.lean ====
module

public import proofs.«01_k».proof.Proof.Softmax
public import proofs.«01_k».proof.Proof.Gqa.Claim
public import proofs.«01_k».proof.Proof.Mla.Reference
public import proofs.«01_k».proof.Proof.Mla.Value
public import proofs.«01_k».proof.Proof.Gen.Reference4Ideal.Run
public import proofs.«01_k».proof.Proof.Gen.Pre_finite4
public import proofs.«01_k».proof.Defs

/-! The latent attention and its reference end with equal results, where the queries and keys are finite. -/

@[expose] public section

set_option maxRecDepth 16384

noncomputable section

namespace Cert.Mla
open Cert.Attention Cert.Reference4Ideal Idealize.ShloMosaic Idealize.ShloMosaic.TcCoe Idealize.SL.Sem

/-- The reference's weight of a key: the softmax of the row's scores times the logarithm of two. -/
theorem shares_eq (Q K : FVec Ideal S4x2x2048x1024 .bf16) (b : Fin 4) (k : Fin 2) (h : Fin 4) (q j : Fin 2048)
    (s : Fin 2048 → EReal) (hs : s = fun x => ∑ d : Fin 256, Q (ix4 b k q ⟨h.val * 256 + d.val, by omega⟩) * K (ix4 b k x ⟨h.val * 256 + d.val, by omega⟩)) :
    shares (exps (scores Q K)) (ix5 b k h q j)
      = Ideal.div (softmaxTerm (fun x => s x * Ideal.log (Ideal.ofBits FTy.f32 0x40000000#32)) j)
          (∑ x, softmaxTerm (fun x => s x * Ideal.log (Ideal.ofBits FTy.f32 0x40000000#32)) x) := by
  subst hs
  simp only [shares_at, exps_at, scores_at, softmaxTerm]

/-- Where queries and keys are real, the reference's attention is the call's. -/
theorem reference_eq (Q K : FVec Ideal S4x2x2048x1024 .bf16) (W : FVec Ideal S4x2x2048x512 .bf16)
    (hQ : ∀ i, ∃ r : ℝ, Q i = r) (hK : ∀ i, ∃ r : ℝ, K i = r) :
    means (shares (exps (scores Q K))) W = Cert.Kernel4Ideal.Mla.attention Q K W := by
  funext i
  choose r hr using fun j : Fin 2048 => Cert.Gqa.dot_real (n := 256) _ _
    (fun d => hQ (ix4 (i 0) (i 1) (i 2) ⟨(i 3).val / 128 * 256 + d.val, by
      have h3 : (i 3).val < 512 := (i 3).isLt
      omega⟩)) (fun d => hK (ix4 (i 0) (i 1) j ⟨(i 3).val / 128 * 256 + d.val, by
      have h3 : (i 3).val < 512 := (i 3).isLt
      omega⟩))
  rw [means_at]
  have h3 : (i 3).val < 512 := (i 3).isLt
  exact (Finset.sum_congr rfl fun j _ => congrArg (· * W (ix4 (i 0) (i 1) j (i 3)))
      (shares_eq Q K (i 0) (i 1) ⟨(i 3).val / 128, by omega⟩ (i 2) j _ rfl)).trans
    (softmax_row (by norm_num) _ _ r hr _ log_two)

theorem finite_queries (Q K : FVec Ideal S4x2x2048x1024 .bf16) (W : FVec Ideal S4x2x2048x512 .bf16) (u a w b)
    (h : (Cert.Pre_finite4.fn (F := Ideal) Q K W u a w b).1 = fun _ => 1#1) (i) : ∃ r : ℝ, Q i = r := by
  refine Cert.Gqa.real_of_lt (Q i) ((Eq.symm ?_).trans (congrFun h i))
  unfold Cert.Pre_finite4.fn
  pointwise
  rfl

theorem finite_keys (Q K : FVec Ideal S4x2x2048x1024 .bf16) (W : FVec Ideal S4x2x2048x512 .bf16) (u a w b)
    (h : (Cert.Pre_finite4.fn (F := Ideal) Q K W u a w b).2 = fun _ => 1#1) (i) : ∃ r : ℝ, K i = r := by
  refine Cert.Gqa.real_of_lt (K i) ((Eq.symm ?_).trans (congrFun h i))
  unfold Cert.Pre_finite4.fn
  pointwise
  rfl

/-- The reference's late modulation vectors are the call's. -/
theorem lates_eq (C : FVec Ideal S4x2048 .f32) (W : FVec Ideal S2048x12288 .f32) (B : FVec Ideal S1x12288 .f32) :
    lates (gates C) W B = Cert.Kernel4Ideal.Mla.lateArr C W B := by
  funext i
  rw [lates_at]
  unfold Cert.Kernel4Ideal.Mla.lateArr Cert.Kernel4Ideal.Mla.gated
  simp only [gates_at]

theorem algebraic : Cert.algebraic_Kernel4Ideal_Reference4Ideal_pre_finite4 := by
  intro m g m' g' hpre hagree
  refine ⟨_, _, _, Cert.Kernel4Ideal.Mla.value m g, ?_⟩
  refine (θ_run _ _ _).mono (fun r h c => ?_) (Cert.Reference4Ideal.Value.run (F := Ideal) m' g')
  obtain ⟨h0, h1, h2, ha⟩ := h c
  obtain ⟨a0, a1, a2, a3, a4, a5, a6⟩ := hagree c
  refine ⟨h0.trans ?_, h1.trans ?_, h2.trans ?_, ha⟩
  · refine Eq.trans (b := means (shares (exps (scores (m' ((c.tc : Thread nD τ).loc main_arg0)) (m' ((c.tc : Thread nD τ).loc main_arg1))))) (m' ((c.tc : Thread nD τ).loc main_arg2))) rfl ?_
    rw [a0, a1, a2]
    exact reference_eq _ _ _ (finite_queries _ _ _ _ _ _ _ (hpre c).1) (finite_keys _ _ _ _ _ _ _ (hpre c).2)
  · exact a3
  · rw [a4, a5, a6]
    exact lates_eq _ _ _

end Cert.Mla
-- ==== Proof.lean ====
module

public import proofs.«01_k».proof.Defs
public import proofs.«01_k».proof.Proof.Gqa.Printed
public import proofs.«01_k».proof.Proof.Gen.Kernel2.Frame
public import proofs.«01_k».proof.Proof.Gen.Kernel2Ideal.Frame
public import proofs.«01_k».proof.Proof.Gen.Kernel3.Frame
public import proofs.«01_k».proof.Proof.Gen.Kernel3Ideal.Frame
public import proofs.«01_k».proof.Proof.Gen.ReferenceIdeal.Run
public import proofs.«01_k».proof.Proof.Gen.Pre_finite
public import proofs.«01_k».proof.Proof.Gqa.Claim
public import proofs.«01_k».proof.Proof.Mlp.Claim
public import proofs.«01_k».proof.Proof.Out.Claim
public import proofs.«01_k».proof.Proof.Mla.Printed
public import proofs.«01_k».proof.Proof.Mla.Claim
public import proofs.«01_k».proof.Proof.Gen.Reference4Ideal.Run
public import proofs.«01_k».proof.Proof.Gen.Pre_finite4

@[expose] public section

noncomputable section

namespace Cert.Proof

open Idealize.ShloMosaic Idealize.SL.Sem

/-- The reference of the grouped attention keeps its arguments. -/
theorem reference_keeps : Cert.quiescent_ReferenceIdeal :=
  fun m ρ _ => (θ_run Cert.ReferenceIdeal.defs _ _).mono
    (fun r h => ⟨fun c => (h c).2.2.2, sem_eq_zero_of_no_sems (by decide) r.2⟩)
    (Cert.ReferenceIdeal.Value.run (F := Ideal) m ρ)

/-- The reference of the feed-forward block keeps its arguments. -/
theorem reference2_keeps : Cert.quiescent_Reference2Ideal :=
  fun m ρ _ => (θ_run Cert.Reference2Ideal.defs _ _).mono
    (fun r h => ⟨fun c => (h c).2, sem_eq_zero_of_no_sems (by decide) r.2⟩)
    (Cert.Reference2Ideal.Value.run (F := Ideal) m ρ)

/-- The reference of the output projection keeps its arguments. -/
theorem reference3_keeps : Cert.quiescent_Reference3Ideal :=
  fun m ρ _ => (θ_run Cert.Reference3Ideal.defs _ _).mono
    (fun r h => ⟨fun c => (h c).2, sem_eq_zero_of_no_sems (by decide) r.2⟩)
    (Cert.Reference3Ideal.Value.run (F := Ideal) m ρ)

/-- The reference of the latent attention keeps its arguments. -/
theorem reference4_keeps : Cert.quiescent_Reference4Ideal :=
  fun m ρ _ => (θ_run Cert.Reference4Ideal.defs _ _).mono
    (fun r h => ⟨fun c => (h c).2.2.2, sem_eq_zero_of_no_sems (by decide) r.2⟩)
    (Cert.Reference4Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts, Cert.Pre_finite4.Gen.facts,
    fun m ρ _ => Cert.Kernel.Gqa.frame m ρ,
    fun m ρ _ => Cert.KernelIdeal.Gqa.frame m ρ,
    fun m ρ _ => Cert.KernelIdeal.Gqa.frame m ρ,
    reference_keeps,
    fun m ρ _ => reference_keeps m ρ trivial,
    fun m ρ _ => Cert.Kernel2.Gen.frame m ρ,
    fun m ρ _ => Cert.Kernel2Ideal.Gen.frame m ρ,
    reference2_keeps,
    fun m ρ _ => Cert.Kernel3.Gen.frame m ρ,
    fun m ρ _ => Cert.Kernel3Ideal.Gen.frame m ρ,
    reference3_keeps,
    fun m ρ _ => Cert.Kernel4.Mla.frame m ρ,
    fun m ρ _ => Cert.Kernel4Ideal.Mla.frame m ρ,
    fun m ρ _ => Cert.Kernel4Ideal.Mla.frame m ρ,
    reference4_keeps,
    fun m ρ _ => reference4_keeps m ρ trivial,
    trivial,
    Cert.Gqa.algebraic,
    trivial,
    Cert.Mlp.algebraic,
    trivial,
    Cert.Out.algebraic,
    trivial,
    Cert.Mla.algebraic⟩

end Cert.Proof

end
